-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v2)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v579) = v0 c
          ∧ r.2.mem ((c.tc : Thread Cert.ReferenceIdeal.nD Cert.ReferenceIdeal.τ).loc Cert.ReferenceIdeal.main_v844) = v1 c
          ∧ r.2.mem ((c.tc : Thread Cert.ReferenceIdeal.nD Cert.ReferenceIdeal.τ).loc Cert.ReferenceIdeal.main_v1109) = v2 c
          ∧ r.2.mem ((c.tc : Thread Cert.ReferenceIdeal.nD Cert.ReferenceIdeal.τ).loc Cert.ReferenceIdeal.main_v1317) = v3 c
          ∧ r.2.mem ((c.tc : Thread Cert.ReferenceIdeal.nD Cert.ReferenceIdeal.τ).loc Cert.ReferenceIdeal.main_v1525) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x84x20000 : Shape := ⟨3, ![16, 84, 20000]⟩
abbrev S16 : Shape := ⟨1, ![16]⟩
abbrev S64x100 : Shape := ⟨2, ![64, 100]⟩
abbrev S16x100 : Shape := ⟨2, ![16, 100]⟩
abbrev S1x16 : Shape := ⟨2, ![1, 16]⟩
abbrev S16x4x100 : Shape := ⟨3, ![16, 4, 100]⟩
abbrev S16x100x4 : Shape := ⟨3, ![16, 100, 4]⟩
abbrev S16x1 : Shape := ⟨2, ![16, 1]⟩

abbrev nBuf : Space → Nat
  | .hbm => 9
  | .vmem => 5
  | .smem => 0
  | _ => 0

abbrev bufTy : (tb : Table) → Fin (tcTables nBuf tb) → BufTy
  | .hbm, ⟨0, _⟩ => ⟨S16x84x20000, .f32⟩
  | .hbm, ⟨1, _⟩ => ⟨S16, .i32⟩
  | .hbm, ⟨2, _⟩ => ⟨S64x100, .f32⟩
  | .hbm, ⟨3, _⟩ => ⟨S16x100, .f32⟩
  | .hbm, ⟨4, _⟩ => ⟨S16x100, .i32⟩
  | .hbm, ⟨5, _⟩ => ⟨S16x100, .i32⟩
  | .hbm, ⟨6, _⟩ => ⟨S16x4x100, .f32⟩
  | .hbm, ⟨7, _⟩ => ⟨S16x100x4, .f32⟩
  | .hbm, ⟨8, _⟩ => ⟨S16x1, .i32⟩
  | .local _ .vmem, ⟨0, _⟩ => ⟨S16, .i32⟩
  | .local _ .vmem, ⟨1, _⟩ => ⟨S64x100, .f32⟩
  | .local _ .vmem, ⟨2, _⟩ => ⟨S16x100, .f32⟩
  | .local _ .vmem, ⟨3, _⟩ => ⟨S16x100, .i32⟩
  | .local _ .vmem, ⟨4, _⟩ => ⟨S16x100, .i32⟩
  | _, _ => ⟨S16x84x20000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v0_3 : Ref sig .tc := ⟨.hbm, 4, rfl⟩
abbrev main_v0_4 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S16 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x100 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x100 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x100 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x100 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S16x84x20000 : Shape := ⟨3, ![16, 84, 20000]⟩
abbrev S_ : Shape := ⟨0, ![]⟩
abbrev S1 : Shape := ⟨1, ![1]⟩
abbrev S5 : Shape := ⟨1, ![5]⟩
abbrev S1x1 : Shape := ⟨2, ![1, 1]⟩
abbrev S1x5 : Shape := ⟨2, ![1, 5]⟩
abbrev S2 : Shape := ⟨1, ![2]⟩
abbrev S5x1 : Shape := ⟨2, ![5, 1]⟩
abbrev S1x2 : Shape := ⟨2, ![1, 2]⟩
abbrev S5x2 : Shape := ⟨2, ![5, 2]⟩
abbrev S16 : Shape := ⟨1, ![16]⟩
abbrev S2x1 : Shape := ⟨2, ![2, 1]⟩
abbrev S1x16 : Shape := ⟨2, ![1, 16]⟩
abbrev S2x16 : Shape := ⟨2, ![2, 16]⟩
abbrev S16x1 : Shape := ⟨2, ![16, 1]⟩
abbrev S6400 : Shape := ⟨1, ![6400]⟩
abbrev S1x6400 : Shape := ⟨2, ![1, 6400]⟩
abbrev S16x100x4 : Shape := ⟨3, ![16, 100, 4]⟩
abbrev S1600 : Shape := ⟨1, ![1600]⟩
abbrev S1x1600 : Shape := ⟨2, ![1, 1600]⟩
abbrev S16x100 : Shape := ⟨2, ![16, 100]⟩
abbrev S2x1600 : Shape := ⟨2, ![2, 1600]⟩

abbrev nBuf : Space → Nat
  | .hbm => 1936
  | .vmem => 0
  | .smem => 0
  | _ => 0

abbrev hbmTy0_0 (i : Nat) : BufTy := match i % 128 with
  | 0 => ⟨S16x84x20000, .f32⟩
  | 1 => ⟨S_, .i32⟩
  | 2 => ⟨S1, .i32⟩
  | 3 => ⟨S_, .i32⟩
  | 4 => ⟨S1, .i32⟩
  | 5 => ⟨S5, .i32⟩
  | 6 => ⟨S1x1, .i32⟩
  | 7 => ⟨S1x1, .i32⟩
  | 8 => ⟨S_, .i32⟩
  | 9 => ⟨S5, .i32⟩
  | 10 => ⟨S1x5, .i32⟩
  | 11 => ⟨S1x5, .i32⟩
  | 12 => ⟨S1x1, .i32⟩
  | 13 => ⟨S_, .i32⟩
  | 14 => ⟨S1x1, .i32⟩
  | 15 => ⟨S1x1, .i32⟩
  | 16 => ⟨S1x5, .i32⟩
  | 17 => ⟨S1x5, .i32⟩
  | 18 => ⟨S1x5, .i32⟩
  | 19 => ⟨S1x5, .i32⟩
  | 20 => ⟨S1x5, .i32⟩
  | 21 => ⟨S_, .i32⟩
  | 22 => ⟨S1x5, .i32⟩
  | 23 => ⟨S1x5, .i32⟩
  | 24 => ⟨S_, .i32⟩
  | 25 => ⟨S1x5, .i32⟩
  | 26 => ⟨S1x5, .i32⟩
  | 27 => ⟨S1x5, .i32⟩
  | 28 => ⟨S1x5, .i32⟩
  | 29 => ⟨S1x5, .i32⟩
  | 30 => ⟨S_, .i32⟩
  | 31 => ⟨S1x5, .i32⟩
  | 32 => ⟨S1x5, .i32⟩
  | 33 => ⟨S_, .i32⟩
  | 34 => ⟨S1x5, .i32⟩
  | 35 => ⟨S1x5, .i32⟩
  | 36 => ⟨S1x5, .i32⟩
  | 37 => ⟨S1x5, .i32⟩
  | 38 => ⟨S1x5, .i32⟩
  | 39 => ⟨S_, .i32⟩
  | 40 => ⟨S1x5, .i32⟩
  | 41 => ⟨S1x5, .i32⟩
  | 42 => ⟨S_, .i32⟩
  | 43 => ⟨S1x5, .i32⟩
  | 44 => ⟨S1x5, .i32⟩
  | 45 => ⟨S1x5, .i32⟩
  | 46 => ⟨S1x5, .i32⟩
  | 47 => ⟨S1x5, .i32⟩
  | 48 => ⟨S_, .i32⟩
  | 49 => ⟨S1x5, .i32⟩
  | 50 => ⟨S1x5, .i32⟩
  | 51 => ⟨S_, .i32⟩
  | 52 => ⟨S1x5, .i32⟩
  | 53 => ⟨S1x5, .i32⟩
  | 54 => ⟨S1x5, .i32⟩
  | 55 => ⟨S1x5, .i32⟩
  | 56 => ⟨S1x5, .i32⟩
  | 57 => ⟨S1x5, .i32⟩
  | 58 => ⟨S1x5, .i32⟩
  | 59 => ⟨S1x5, .i32⟩
  | 60 => ⟨S_, .i32⟩
  | 61 => ⟨S1x5, .i32⟩
  | 62 => ⟨S1x5, .i32⟩
  | 63 => ⟨S1x5, .i32⟩
  | 64 => ⟨S_, .i32⟩
  | 65 => ⟨S1x5, .i32⟩
  | 66 => ⟨S1x5, .i32⟩
  | 67 => ⟨S_, .i32⟩
  | 68 => ⟨S1x5, .i32⟩
  | 69 => ⟨S1x5, .i32⟩
  | 70 => ⟨S1x5, .i32⟩
  | 71 => ⟨S1x5, .i32⟩
  | 72 => ⟨S1x5, .i32⟩
  | 73 => ⟨S_, .i32⟩
  | 74 => ⟨S1x5, .i32⟩
  | 75 => ⟨S1x5, .i32⟩
  | 76 => ⟨S_, .i32⟩
  | 77 => ⟨S1x5, .i32⟩
  | 78 => ⟨S1x5, .i32⟩
  | 79 => ⟨S1x5, .i32⟩
  | 80 => ⟨S1x5, .i32⟩
  | 81 => ⟨S1x5, .i32⟩
  | 82 => ⟨S_, .i32⟩
  | 83 => ⟨S1x5, .i32⟩
  | 84 => ⟨S1x5, .i32⟩
  | 85 => ⟨S_, .i32⟩
  | 86 => ⟨S1x5, .i32⟩
  | 87 => ⟨S1x5, .i32⟩
  | 88 => ⟨S1x5, .i32⟩
  | 89 => ⟨S1x5, .i32⟩
  | 90 => ⟨S1x5, .i32⟩
  | 91 => ⟨S_, .i32⟩
  | 92 => ⟨S1x5, .i32⟩
  | 93 => ⟨S1x5, .i32⟩
  | 94 => ⟨S_, .i32⟩
  | 95 => ⟨S1x5, .i32⟩
  | 96 => ⟨S1x5, .i32⟩
  | 97 => ⟨S1x5, .i32⟩
  | 98 => ⟨S1x5, .i32⟩
  | 99 => ⟨S1x5, .i32⟩
  | 100 => ⟨S1x5, .i32⟩
  | 101 => ⟨S1x5, .i32⟩
  | 102 => ⟨S1x5, .i32⟩
  | 103 => ⟨S_, .i32⟩
  | 104 => ⟨S1x5, .i32⟩
  | 105 => ⟨S1x5, .i32⟩
  | 106 => ⟨S1x5, .i32⟩
  | 107 => ⟨S_, .i32⟩
  | 108 => ⟨S1x5, .i32⟩
  | 109 => ⟨S1x5, .i32⟩
  | 110 => ⟨S_, .i32⟩
  | 111 => ⟨S1x5, .i32⟩
  | 112 => ⟨S1x5, .i32⟩
  | 113 => ⟨S1x5, .i32⟩
  | 114 => ⟨S1x5, .i32⟩
  | 115 => ⟨S1x5, .i32⟩
  | 116 => ⟨S_, .i32⟩
  | 117 => ⟨S1x5, .i32⟩
  | 118 => ⟨S1x5, .i32⟩
  | 119 => ⟨S_, .i32⟩
  | 120 => ⟨S1x5, .i32⟩
  | 121 => ⟨S1x5, .i32⟩
  | 122 => ⟨S1x5, .i32⟩
  | 123 => ⟨S1x5, .i32⟩
  | 124 => ⟨S1x5, .i32⟩
  | 125 => ⟨S_, .i32⟩
  | 126 => ⟨S1x5, .i32⟩
  | 127 => ⟨S1x5, .i32⟩
  | _ => ⟨S16x84x20000, .f32⟩

abbrev hbmTy0_1 (i : Nat) : BufTy := match i % 128 with
  | 0 => ⟨S_, .i32⟩
  | 1 => ⟨S1x5, .i32⟩
  | 2 => ⟨S1x5, .i32⟩
  | 3 => ⟨S1x5, .i32⟩
  | 4 => ⟨S1x5, .i32⟩
  | 5 => ⟨S1x5, .i32⟩
  | 6 => ⟨S_, .i32⟩
  | 7 => ⟨S1x5, .i32⟩
  | 8 => ⟨S1x5, .i32⟩
  | 9 => ⟨S_, .i32⟩
  | 10 => ⟨S1x5, .i32⟩
  | 11 => ⟨S1x5, .i32⟩
  | 12 => ⟨S1x5, .i32⟩
  | 13 => ⟨S1x5, .i32⟩
  | 14 => ⟨S1x5, .i32⟩
  | 15 => ⟨S1x5, .i32⟩
  | 16 => ⟨S1x5, .i32⟩
  | 17 => ⟨S1x5, .i32⟩
  | 18 => ⟨S_, .i32⟩
  | 19 => ⟨S1x5, .i32⟩
  | 20 => ⟨S1x5, .i32⟩
  | 21 => ⟨S1x5, .i32⟩
  | 22 => ⟨S_, .i32⟩
  | 23 => ⟨S1x5, .i32⟩
  | 24 => ⟨S1x5, .i32⟩
  | 25 => ⟨S_, .i32⟩
  | 26 => ⟨S1x5, .i32⟩
  | 27 => ⟨S1x5, .i32⟩
  | 28 => ⟨S1x5, .i32⟩
  | 29 => ⟨S1x5, .i32⟩
  | 30 => ⟨S1x5, .i32⟩
  | 31 => ⟨S_, .i32⟩
  | 32 => ⟨S1x5, .i32⟩
  | 33 => ⟨S1x5, .i32⟩
  | 34 => ⟨S_, .i32⟩
  | 35 => ⟨S1x5, .i32⟩
  | 36 => ⟨S1x5, .i32⟩
  | 37 => ⟨S1x5, .i32⟩
  | 38 => ⟨S1x5, .i32⟩
  | 39 => ⟨S1x5, .i32⟩
  | 40 => ⟨S_, .i32⟩
  | 41 => ⟨S1x5, .i32⟩
  | 42 => ⟨S1x5, .i32⟩
  | 43 => ⟨S_, .i32⟩
  | 44 => ⟨S1x5, .i32⟩
  | 45 => ⟨S1x5, .i32⟩
  | 46 => ⟨S1x5, .i32⟩
  | 47 => ⟨S1x5, .i32⟩
  | 48 => ⟨S1x5, .i32⟩
  | 49 => ⟨S_, .i32⟩
  | 50 => ⟨S1x5, .i32⟩
  | 51 => ⟨S1x5, .i32⟩
  | 52 => ⟨S_, .i32⟩
  | 53 => ⟨S1x5, .i32⟩
  | 54 => ⟨S1x5, .i32⟩
  | 55 => ⟨S1x5, .i32⟩
  | 56 => ⟨S1x5, .i32⟩
  | 57 => ⟨S1x5, .i32⟩
  | 58 => ⟨S1x5, .i32⟩
  | 59 => ⟨S1x5, .i32⟩
  | 60 => ⟨S1x5, .i32⟩
  | 61 => ⟨S_, .i32⟩
  | 62 => ⟨S1x5, .i32⟩
  | 63 => ⟨S1x5, .i32⟩
  | 64 => ⟨S1x5, .i32⟩
  | 65 => ⟨S_, .i32⟩
  | 66 => ⟨S1x5, .i32⟩
  | 67 => ⟨S1x5, .i32⟩
  | 68 => ⟨S_, .i32⟩
  | 69 => ⟨S1x5, .i32⟩
  | 70 => ⟨S1x5, .i32⟩
  | 71 => ⟨S1x5, .i32⟩
  | 72 => ⟨S1x5, .i32⟩
  | 73 => ⟨S1x5, .i32⟩
  | 74 => ⟨S_, .i32⟩
  | 75 => ⟨S1x5, .i32⟩
  | 76 => ⟨S1x5, .i32⟩
  | 77 => ⟨S_, .i32⟩
  | 78 => ⟨S1x5, .i32⟩
  | 79 => ⟨S1x5, .i32⟩
  | 80 => ⟨S1x5, .i32⟩
  | 81 => ⟨S1x5, .i32⟩
  | 82 => ⟨S1x5, .i32⟩
  | 83 => ⟨S_, .i32⟩
  | 84 => ⟨S1x5, .i32⟩
  | 85 => ⟨S1x5, .i32⟩
  | 86 => ⟨S_, .i32⟩
  | 87 => ⟨S1x5, .i32⟩
  | 88 => ⟨S1x5, .i32⟩
  | 89 => ⟨S1x5, .i32⟩
  | 90 => ⟨S1x5, .i32⟩
  | 91 => ⟨S1x5, .i32⟩
  | 92 => ⟨S_, .i32⟩
  | 93 => ⟨S1x5, .i32⟩
  | 94 => ⟨S1x5, .i32⟩
  | 95 => ⟨S_, .i32⟩
  | 96 => ⟨S1x5, .i32⟩
  | 97 => ⟨S1x5, .i32⟩
  | 98 => ⟨S1x5, .i32⟩
  | 99 => ⟨S1x5, .i32⟩
  | 100 => ⟨S1x5, .i32⟩
  | 101 => ⟨S1x5, .i32⟩
  | 102 => ⟨S1x5, .i32⟩
  | 103 => ⟨S1x5, .i32⟩
  | 104 => ⟨S_, .i32⟩
  | 105 => ⟨S1x5, .i32⟩
  | 106 => ⟨S1x5, .i32⟩
  | 107 => ⟨S5, .i32⟩
  | 108 => ⟨S5, .i32⟩
  | 109 => ⟨S2, .i32⟩
  | 110 => ⟨S5x1, .i32⟩
  | 111 => ⟨S5x1, .i32⟩
  | 112 => ⟨S_, .i32⟩
  | 113 => ⟨S2, .i32⟩
  | 114 => ⟨S1x2, .i32⟩
  | 115 => ⟨S1x2, .i32⟩
  | 116 => ⟨S5x1, .i32⟩
  | 117 => ⟨S_, .i32⟩
  | 118 => ⟨S5x1, .i32⟩
  | 119 => ⟨S5x1, .i32⟩
  | 120 => ⟨S5x2, .i32⟩
  | 121 => ⟨S5x2, .i32⟩
  | 122 => ⟨S5x2, .i32⟩
  | 123 => ⟨S5x2, .i32⟩
  | 124 => ⟨S5x2, .i32⟩
  | 125 => ⟨S5x2, .i32⟩
  | 126 => ⟨S5x2, .i32⟩
  | 127 => ⟨S_, .i32⟩
  | _ => ⟨S16x84x20000, .f32⟩

abbrev hbmTy0_2 (i : Nat) : BufTy := match i % 128 with
  | 0 => ⟨S5x2, .i32⟩
  | 1 => ⟨S5x2, .i32⟩
  | 2 => ⟨S_, .i32⟩
  | 3 => ⟨S5x2, .i32⟩
  | 4 => ⟨S5x2, .i32⟩
  | 5 => ⟨S5x2, .i32⟩
  | 6 => ⟨S5x2, .i32⟩
  | 7 => ⟨S5x2, .i32⟩
  | 8 => ⟨S_, .i32⟩
  | 9 => ⟨S5x2, .i32⟩
  | 10 => ⟨S5x2, .i32⟩
  | 11 => ⟨S_, .i32⟩
  | 12 => ⟨S5x2, .i32⟩
  | 13 => ⟨S5x2, .i32⟩
  | 14 => ⟨S5x2, .i32⟩
  | 15 => ⟨S5x2, .i32⟩
  | 16 => ⟨S5x2, .i32⟩
  | 17 => ⟨S_, .i32⟩
  | 18 => ⟨S5x2, .i32⟩
  | 19 => ⟨S5x2, .i32⟩
  | 20 => ⟨S_, .i32⟩
  | 21 => ⟨S5x2, .i32⟩
  | 22 => ⟨S5x2, .i32⟩
  | 23 => ⟨S5x2, .i32⟩
  | 24 => ⟨S5x2, .i32⟩
  | 25 => ⟨S5x2, .i32⟩
  | 26 => ⟨S_, .i32⟩
  | 27 => ⟨S5x2, .i32⟩
  | 28 => ⟨S5x2, .i32⟩
  | 29 => ⟨S_, .i32⟩
  | 30 => ⟨S5x2, .i32⟩
  | 31 => ⟨S5x2, .i32⟩
  | 32 => ⟨S5x2, .i32⟩
  | 33 => ⟨S5x2, .i32⟩
  | 34 => ⟨S5x2, .i32⟩
  | 35 => ⟨S5x2, .i32⟩
  | 36 => ⟨S5x2, .i32⟩
  | 37 => ⟨S5x2, .i32⟩
  | 38 => ⟨S_, .i32⟩
  | 39 => ⟨S5x2, .i32⟩
  | 40 => ⟨S5x2, .i32⟩
  | 41 => ⟨S5x2, .i32⟩
  | 42 => ⟨S_, .i32⟩
  | 43 => ⟨S5x2, .i32⟩
  | 44 => ⟨S5x2, .i32⟩
  | 45 => ⟨S_, .i32⟩
  | 46 => ⟨S5x2, .i32⟩
  | 47 => ⟨S5x2, .i32⟩
  | 48 => ⟨S5x2, .i32⟩
  | 49 => ⟨S5x2, .i32⟩
  | 50 => ⟨S5x2, .i32⟩
  | 51 => ⟨S_, .i32⟩
  | 52 => ⟨S5x2, .i32⟩
  | 53 => ⟨S5x2, .i32⟩
  | 54 => ⟨S_, .i32⟩
  | 55 => ⟨S5x2, .i32⟩
  | 56 => ⟨S5x2, .i32⟩
  | 57 => ⟨S5x2, .i32⟩
  | 58 => ⟨S5x2, .i32⟩
  | 59 => ⟨S5x2, .i32⟩
  | 60 => ⟨S_, .i32⟩
  | 61 => ⟨S5x2, .i32⟩
  | 62 => ⟨S5x2, .i32⟩
  | 63 => ⟨S_, .i32⟩
  | 64 => ⟨S5x2, .i32⟩
  | 65 => ⟨S5x2, .i32⟩
  | 66 => ⟨S5x2, .i32⟩
  | 67 => ⟨S5x2, .i32⟩
  | 68 => ⟨S5x2, .i32⟩
  | 69 => ⟨S_, .i32⟩
  | 70 => ⟨S5x2, .i32⟩
  | 71 => ⟨S5x2, .i32⟩
  | 72 => ⟨S_, .i32⟩
  | 73 => ⟨S5x2, .i32⟩
  | 74 => ⟨S5x2, .i32⟩
  | 75 => ⟨S5x2, .i32⟩
  | 76 => ⟨S5x2, .i32⟩
  | 77 => ⟨S5x2, .i32⟩
  | 78 => ⟨S5x2, .i32⟩
  | 79 => ⟨S5x2, .i32⟩
  | 80 => ⟨S5x2, .i32⟩
  | 81 => ⟨S_, .i32⟩
  | 82 => ⟨S5x2, .i32⟩
  | 83 => ⟨S5x2, .i32⟩
  | 84 => ⟨S5x2, .i32⟩
  | 85 => ⟨S_, .i32⟩
  | 86 => ⟨S5x2, .i32⟩
  | 87 => ⟨S5x2, .i32⟩
  | 88 => ⟨S_, .i32⟩
  | 89 => ⟨S5x2, .i32⟩
  | 90 => ⟨S5x2, .i32⟩
  | 91 => ⟨S5x2, .i32⟩
  | 92 => ⟨S5x2, .i32⟩
  | 93 => ⟨S5x2, .i32⟩
  | 94 => ⟨S_, .i32⟩
  | 95 => ⟨S5x2, .i32⟩
  | 96 => ⟨S5x2, .i32⟩
  | 97 => ⟨S_, .i32⟩
  | 98 => ⟨S5x2, .i32⟩
  | 99 => ⟨S5x2, .i32⟩
  | 100 => ⟨S5x2, .i32⟩
  | 101 => ⟨S5x2, .i32⟩
  | 102 => ⟨S5x2, .i32⟩
  | 103 => ⟨S_, .i32⟩
  | 104 => ⟨S5x2, .i32⟩
  | 105 => ⟨S5x2, .i32⟩
  | 106 => ⟨S_, .i32⟩
  | 107 => ⟨S5x2, .i32⟩
  | 108 => ⟨S5x2, .i32⟩
  | 109 => ⟨S5x2, .i32⟩
  | 110 => ⟨S5x2, .i32⟩
  | 111 => ⟨S5x2, .i32⟩
  | 112 => ⟨S_, .i32⟩
  | 113 => ⟨S5x2, .i32⟩
  | 114 => ⟨S5x2, .i32⟩
  | 115 => ⟨S_, .i32⟩
  | 116 => ⟨S5x2, .i32⟩
  | 117 => ⟨S5x2, .i32⟩
  | 118 => ⟨S5x2, .i32⟩
  | 119 => ⟨S5x2, .i32⟩
  | 120 => ⟨S5x2, .i32⟩
  | 121 => ⟨S5x2, .i32⟩
  | 122 => ⟨S5x2, .i32⟩
  | 123 => ⟨S5x2, .i32⟩
  | 124 => ⟨S_, .i32⟩
  | 125 => ⟨S5x2, .i32⟩
  | 126 => ⟨S5x2, .i32⟩
  | 127 => ⟨S5x2, .i32⟩
  | _ => ⟨S16x84x20000, .f32⟩

abbrev hbmTy0_3 (i : Nat) : BufTy := match i % 128 with
  | 0 => ⟨S_, .i32⟩
  | 1 => ⟨S5x2, .i32⟩
  | 2 => ⟨S5x2, .i32⟩
  | 3 => ⟨S_, .i32⟩
  | 4 => ⟨S5x2, .i32⟩
  | 5 => ⟨S5x2, .i32⟩
  | 6 => ⟨S5x2, .i32⟩
  | 7 => ⟨S5x2, .i32⟩
  | 8 => ⟨S5x2, .i32⟩
  | 9 => ⟨S_, .i32⟩
  | 10 => ⟨S5x2, .i32⟩
  | 11 => ⟨S5x2, .i32⟩
  | 12 => ⟨S_, .i32⟩
  | 13 => ⟨S5x2, .i32⟩
  | 14 => ⟨S5x2, .i32⟩
  | 15 => ⟨S5x2, .i32⟩
  | 16 => ⟨S5x2, .i32⟩
  | 17 => ⟨S5x2, .i32⟩
  | 18 => ⟨S_, .i32⟩
  | 19 => ⟨S5x2, .i32⟩
  | 20 => ⟨S5x2, .i32⟩
  | 21 => ⟨S_, .i32⟩
  | 22 => ⟨S5x2, .i32⟩
  | 23 => ⟨S5x2, .i32⟩
  | 24 => ⟨S5x2, .i32⟩
  | 25 => ⟨S5x2, .i32⟩
  | 26 => ⟨S5x2, .i32⟩
  | 27 => ⟨S_, .i32⟩
  | 28 => ⟨S5x2, .i32⟩
  | 29 => ⟨S5x2, .i32⟩
  | 30 => ⟨S_, .i32⟩
  | 31 => ⟨S5x2, .i32⟩
  | 32 => ⟨S5x2, .i32⟩
  | 33 => ⟨S5x2, .i32⟩
  | 34 => ⟨S5x2, .i32⟩
  | 35 => ⟨S5x2, .i32⟩
  | 36 => ⟨S5x2, .i32⟩
  | 37 => ⟨S5x2, .i32⟩
  | 38 => ⟨S5x2, .i32⟩
  | 39 => ⟨S_, .i32⟩
  | 40 => ⟨S5x2, .i32⟩
  | 41 => ⟨S5x2, .i32⟩
  | 42 => ⟨S5x2, .i32⟩
  | 43 => ⟨S_, .i32⟩
  | 44 => ⟨S5x2, .i32⟩
  | 45 => ⟨S5x2, .i32⟩
  | 46 => ⟨S_, .i32⟩
  | 47 => ⟨S5x2, .i32⟩
  | 48 => ⟨S5x2, .i32⟩
  | 49 => ⟨S5x2, .i32⟩
  | 50 => ⟨S5x2, .i32⟩
  | 51 => ⟨S5x2, .i32⟩
  | 52 => ⟨S_, .i32⟩
  | 53 => ⟨S5x2, .i32⟩
  | 54 => ⟨S5x2, .i32⟩
  | 55 => ⟨S_, .i32⟩
  | 56 => ⟨S5x2, .i32⟩
  | 57 => ⟨S5x2, .i32⟩
  | 58 => ⟨S5x2, .i32⟩
  | 59 => ⟨S5x2, .i32⟩
  | 60 => ⟨S5x2, .i32⟩
  | 61 => ⟨S_, .i32⟩
  | 62 => ⟨S5x2, .i32⟩
  | 63 => ⟨S5x2, .i32⟩
  | 64 => ⟨S_, .i32⟩
  | 65 => ⟨S5x2, .i32⟩
  | 66 => ⟨S5x2, .i32⟩
  | 67 => ⟨S5x2, .i32⟩
  | 68 => ⟨S5x2, .i32⟩
  | 69 => ⟨S5x2, .i32⟩
  | 70 => ⟨S_, .i32⟩
  | 71 => ⟨S5x2, .i32⟩
  | 72 => ⟨S5x2, .i32⟩
  | 73 => ⟨S_, .i32⟩
  | 74 => ⟨S5x2, .i32⟩
  | 75 => ⟨S5x2, .i32⟩
  | 76 => ⟨S5x2, .i32⟩
  | 77 => ⟨S5x2, .i32⟩
  | 78 => ⟨S5x2, .i32⟩
  | 79 => ⟨S5x2, .i32⟩
  | 80 => ⟨S5x2, .i32⟩
  | 81 => ⟨S5x2, .i32⟩
  | 82 => ⟨S_, .i32⟩
  | 83 => ⟨S5x2, .i32⟩
  | 84 => ⟨S5x2, .i32⟩
  | 85 => ⟨S1x2, .i32⟩
  | 86 => ⟨S2, .i32⟩
  | 87 => ⟨S1x2, .i32⟩
  | 88 => ⟨S2, .i32⟩
  | 89 => ⟨S16, .i32⟩
  | 90 => ⟨S2x1, .i32⟩
  | 91 => ⟨S2x1, .i32⟩
  | 92 => ⟨S_, .i32⟩
  | 93 => ⟨S16, .i32⟩
  | 94 => ⟨S1x16, .i32⟩
  | 95 => ⟨S1x16, .i32⟩
  | 96 => ⟨S2x1, .i32⟩
  | 97 => ⟨S_, .i32⟩
  | 98 => ⟨S2x1, .i32⟩
  | 99 => ⟨S2x1, .i32⟩
  | 100 => ⟨S2x16, .i32⟩
  | 101 => ⟨S2x16, .i32⟩
  | 102 => ⟨S2x16, .i32⟩
  | 103 => ⟨S2x16, .i32⟩
  | 104 => ⟨S2x16, .i32⟩
  | 105 => ⟨S2x16, .i32⟩
  | 106 => ⟨S2x16, .i32⟩
  | 107 => ⟨S_, .i32⟩
  | 108 => ⟨S2x16, .i32⟩
  | 109 => ⟨S2x16, .i32⟩
  | 110 => ⟨S_, .i32⟩
  | 111 => ⟨S2x16, .i32⟩
  | 112 => ⟨S2x16, .i32⟩
  | 113 => ⟨S2x16, .i32⟩
  | 114 => ⟨S2x16, .i32⟩
  | 115 => ⟨S2x16, .i32⟩
  | 116 => ⟨S_, .i32⟩
  | 117 => ⟨S2x16, .i32⟩
  | 118 => ⟨S2x16, .i32⟩
  | 119 => ⟨S_, .i32⟩
  | 120 => ⟨S2x16, .i32⟩
  | 121 => ⟨S2x16, .i32⟩
  | 122 => ⟨S2x16, .i32⟩
  | 123 => ⟨S2x16, .i32⟩
  | 124 => ⟨S2x16, .i32⟩
  | 125 => ⟨S_, .i32⟩
  | 126 => ⟨S2x16, .i32⟩
  | 127 => ⟨S2x16, .i32⟩
  | _ => ⟨S16x84x20000, .f32⟩

abbrev hbmTy0_4 (i : Nat) : BufTy := match i % 128 with
  | 0 => ⟨S_, .i32⟩
  | 1 => ⟨S2x16, .i32⟩
  | 2 => ⟨S2x16, .i32⟩
  | 3 => ⟨S2x16, .i32⟩
  | 4 => ⟨S2x16, .i32⟩
  | 5 => ⟨S2x16, .i32⟩
  | 6 => ⟨S_, .i32⟩
  | 7 => ⟨S2x16, .i32⟩
  | 8 => ⟨S2x16, .i32⟩
  | 9 => ⟨S_, .i32⟩
  | 10 => ⟨S2x16, .i32⟩
  | 11 => ⟨S2x16, .i32⟩
  | 12 => ⟨S2x16, .i32⟩
  | 13 => ⟨S2x16, .i32⟩
  | 14 => ⟨S2x16, .i32⟩
  | 15 => ⟨S2x16, .i32⟩
  | 16 => ⟨S2x16, .i32⟩
  | 17 => ⟨S2x16, .i32⟩
  | 18 => ⟨S_, .i32⟩
  | 19 => ⟨S2x16, .i32⟩
  | 20 => ⟨S2x16, .i32⟩
  | 21 => ⟨S2x16, .i32⟩
  | 22 => ⟨S_, .i32⟩
  | 23 => ⟨S2x16, .i32⟩
  | 24 => ⟨S2x16, .i32⟩
  | 25 => ⟨S_, .i32⟩
  | 26 => ⟨S2x16, .i32⟩
  | 27 => ⟨S2x16, .i32⟩
  | 28 => ⟨S2x16, .i32⟩
  | 29 => ⟨S2x16, .i32⟩
  | 30 => ⟨S2x16, .i32⟩
  | 31 => ⟨S_, .i32⟩
  | 32 => ⟨S2x16, .i32⟩
  | 33 => ⟨S2x16, .i32⟩
  | 34 => ⟨S_, .i32⟩
  | 35 => ⟨S2x16, .i32⟩
  | 36 => ⟨S2x16, .i32⟩
  | 37 => ⟨S2x16, .i32⟩
  | 38 => ⟨S2x16, .i32⟩
  | 39 => ⟨S2x16, .i32⟩
  | 40 => ⟨S_, .i32⟩
  | 41 => ⟨S2x16, .i32⟩
  | 42 => ⟨S2x16, .i32⟩
  | 43 => ⟨S_, .i32⟩
  | 44 => ⟨S2x16, .i32⟩
  | 45 => ⟨S2x16, .i32⟩
  | 46 => ⟨S2x16, .i32⟩
  | 47 => ⟨S2x16, .i32⟩
  | 48 => ⟨S2x16, .i32⟩
  | 49 => ⟨S_, .i32⟩
  | 50 => ⟨S2x16, .i32⟩
  | 51 => ⟨S2x16, .i32⟩
  | 52 => ⟨S_, .i32⟩
  | 53 => ⟨S2x16, .i32⟩
  | 54 => ⟨S2x16, .i32⟩
  | 55 => ⟨S2x16, .i32⟩
  | 56 => ⟨S2x16, .i32⟩
  | 57 => ⟨S2x16, .i32⟩
  | 58 => ⟨S2x16, .i32⟩
  | 59 => ⟨S2x16, .i32⟩
  | 60 => ⟨S2x16, .i32⟩
  | 61 => ⟨S_, .i32⟩
  | 62 => ⟨S2x16, .i32⟩
  | 63 => ⟨S2x16, .i32⟩
  | 64 => ⟨S2x16, .i32⟩
  | 65 => ⟨S_, .i32⟩
  | 66 => ⟨S2x16, .i32⟩
  | 67 => ⟨S2x16, .i32⟩
  | 68 => ⟨S_, .i32⟩
  | 69 => ⟨S2x16, .i32⟩
  | 70 => ⟨S2x16, .i32⟩
  | 71 => ⟨S2x16, .i32⟩
  | 72 => ⟨S2x16, .i32⟩
  | 73 => ⟨S2x16, .i32⟩
  | 74 => ⟨S_, .i32⟩
  | 75 => ⟨S2x16, .i32⟩
  | 76 => ⟨S2x16, .i32⟩
  | 77 => ⟨S_, .i32⟩
  | 78 => ⟨S2x16, .i32⟩
  | 79 => ⟨S2x16, .i32⟩
  | 80 => ⟨S2x16, .i32⟩
  | 81 => ⟨S2x16, .i32⟩
  | 82 => ⟨S2x16, .i32⟩
  | 83 => ⟨S_, .i32⟩
  | 84 => ⟨S2x16, .i32⟩
  | 85 => ⟨S2x16, .i32⟩
  | 86 => ⟨S_, .i32⟩
  | 87 => ⟨S2x16, .i32⟩
  | 88 => ⟨S2x16, .i32⟩
  | 89 => ⟨S2x16, .i32⟩
  | 90 => ⟨S2x16, .i32⟩
  | 91 => ⟨S2x16, .i32⟩
  | 92 => ⟨S_, .i32⟩
  | 93 => ⟨S2x16, .i32⟩
  | 94 => ⟨S2x16, .i32⟩
  | 95 => ⟨S_, .i32⟩
  | 96 => ⟨S2x16, .i32⟩
  | 97 => ⟨S2x16, .i32⟩
  | 98 => ⟨S2x16, .i32⟩
  | 99 => ⟨S2x16, .i32⟩
  | 100 => ⟨S2x16, .i32⟩
  | 101 => ⟨S2x16, .i32⟩
  | 102 => ⟨S2x16, .i32⟩
  | 103 => ⟨S2x16, .i32⟩
  | 104 => ⟨S_, .i32⟩
  | 105 => ⟨S2x16, .i32⟩
  | 106 => ⟨S2x16, .i32⟩
  | 107 => ⟨S2x16, .i32⟩
  | 108 => ⟨S_, .i32⟩
  | 109 => ⟨S2x16, .i32⟩
  | 110 => ⟨S2x16, .i32⟩
  | 111 => ⟨S_, .i32⟩
  | 112 => ⟨S2x16, .i32⟩
  | 113 => ⟨S2x16, .i32⟩
  | 114 => ⟨S2x16, .i32⟩
  | 115 => ⟨S2x16, .i32⟩
  | 116 => ⟨S2x16, .i32⟩
  | 117 => ⟨S_, .i32⟩
  | 118 => ⟨S2x16, .i32⟩
  | 119 => ⟨S2x16, .i32⟩
  | 120 => ⟨S_, .i32⟩
  | 121 => ⟨S2x16, .i32⟩
  | 122 => ⟨S2x16, .i32⟩
  | 123 => ⟨S2x16, .i32⟩
  | 124 => ⟨S2x16, .i32⟩
  | 125 => ⟨S2x16, .i32⟩
  | 126 => ⟨S_, .i32⟩
  | 127 => ⟨S2x16, .i32⟩
  | _ => ⟨S16x84x20000, .f32⟩

abbrev hbmTy0_5 (i : Nat) : BufTy := match i % 128 with
  | 0 => ⟨S2x16, .i32⟩
  | 1 => ⟨S_, .i32⟩
  | 2 => ⟨S2x16, .i32⟩
  | 3 => ⟨S2x16, .i32⟩
  | 4 => ⟨S2x16, .i32⟩
  | 5 => ⟨S2x16, .i32⟩
  | 6 => ⟨S2x16, .i32⟩
  | 7 => ⟨S_, .i32⟩
  | 8 => ⟨S2x16, .i32⟩
  | 9 => ⟨S2x16, .i32⟩
  | 10 => ⟨S_, .i32⟩
  | 11 => ⟨S2x16, .i32⟩
  | 12 => ⟨S2x16, .i32⟩
  | 13 => ⟨S2x16, .i32⟩
  | 14 => ⟨S2x16, .i32⟩
  | 15 => ⟨S2x16, .i32⟩
  | 16 => ⟨S2x16, .i32⟩
  | 17 => ⟨S2x16, .i32⟩
  | 18 => ⟨S2x16, .i32⟩
  | 19 => ⟨S_, .i32⟩
  | 20 => ⟨S2x16, .i32⟩
  | 21 => ⟨S2x16, .i32⟩
  | 22 => ⟨S2x16, .i32⟩
  | 23 => ⟨S_, .i32⟩
  | 24 => ⟨S2x16, .i32⟩
  | 25 => ⟨S2x16, .i32⟩
  | 26 => ⟨S_, .i32⟩
  | 27 => ⟨S2x16, .i32⟩
  | 28 => ⟨S2x16, .i32⟩
  | 29 => ⟨S2x16, .i32⟩
  | 30 => ⟨S2x16, .i32⟩
  | 31 => ⟨S2x16, .i32⟩
  | 32 => ⟨S_, .i32⟩
  | 33 => ⟨S2x16, .i32⟩
  | 34 => ⟨S2x16, .i32⟩
  | 35 => ⟨S_, .i32⟩
  | 36 => ⟨S2x16, .i32⟩
  | 37 => ⟨S2x16, .i32⟩
  | 38 => ⟨S2x16, .i32⟩
  | 39 => ⟨S2x16, .i32⟩
  | 40 => ⟨S2x16, .i32⟩
  | 41 => ⟨S_, .i32⟩
  | 42 => ⟨S2x16, .i32⟩
  | 43 => ⟨S2x16, .i32⟩
  | 44 => ⟨S_, .i32⟩
  | 45 => ⟨S2x16, .i32⟩
  | 46 => ⟨S2x16, .i32⟩
  | 47 => ⟨S2x16, .i32⟩
  | 48 => ⟨S2x16, .i32⟩
  | 49 => ⟨S2x16, .i32⟩
  | 50 => ⟨S_, .i32⟩
  | 51 => ⟨S2x16, .i32⟩
  | 52 => ⟨S2x16, .i32⟩
  | 53 => ⟨S_, .i32⟩
  | 54 => ⟨S2x16, .i32⟩
  | 55 => ⟨S2x16, .i32⟩
  | 56 => ⟨S2x16, .i32⟩
  | 57 => ⟨S2x16, .i32⟩
  | 58 => ⟨S2x16, .i32⟩
  | 59 => ⟨S2x16, .i32⟩
  | 60 => ⟨S2x16, .i32⟩
  | 61 => ⟨S2x16, .i32⟩
  | 62 => ⟨S_, .i32⟩
  | 63 => ⟨S2x16, .i32⟩
  | 64 => ⟨S2x16, .i32⟩
  | 65 => ⟨S2x16, .i32⟩
  | 66 => ⟨S1x16, .i32⟩
  | 67 => ⟨S16, .i32⟩
  | 68 => ⟨S1x16, .i32⟩
  | 69 => ⟨S16, .i32⟩
  | 70 => ⟨S_, .i32⟩
  | 71 => ⟨S_, .i32⟩
  | 72 => ⟨S_, .i32⟩
  | 73 => ⟨S_, .i32⟩
  | 74 => ⟨S_, .i32⟩
  | 75 => ⟨S_, .i32⟩
  | 76 => ⟨S_, .i32⟩
  | 77 => ⟨S16, .i32⟩
  | 78 => ⟨S16, .i32⟩
  | 79 => ⟨S16, .i32⟩
  | 80 => ⟨S16, .i32⟩
  | 81 => ⟨S_, .i32⟩
  | 82 => ⟨S16, .i32⟩
  | 83 => ⟨S16, .i32⟩
  | 84 => ⟨S16, .i32⟩
  | 85 => ⟨S_, .i32⟩
  | 86 => ⟨S16, .i32⟩
  | 87 => ⟨S16, .i32⟩
  | 88 => ⟨S16, .i32⟩
  | 89 => ⟨S16x1, .i32⟩
  | 90 => ⟨S1, .i32⟩
  | 91 => ⟨S1, .i32⟩
  | 92 => ⟨S6400, .i32⟩
  | 93 => ⟨S1x1, .i32⟩
  | 94 => ⟨S1x1, .i32⟩
  | 95 => ⟨S_, .i32⟩
  | 96 => ⟨S6400, .i32⟩
  | 97 => ⟨S1x6400, .i32⟩
  | 98 => ⟨S1x6400, .i32⟩
  | 99 => ⟨S1x1, .i32⟩
  | 100 => ⟨S_, .i32⟩
  | 101 => ⟨S1x1, .i32⟩
  | 102 => ⟨S1x1, .i32⟩
  | 103 => ⟨S1x6400, .i32⟩
  | 104 => ⟨S1x6400, .i32⟩
  | 105 => ⟨S1x6400, .i32⟩
  | 106 => ⟨S1x6400, .i32⟩
  | 107 => ⟨S1x6400, .i32⟩
  | 108 => ⟨S_, .i32⟩
  | 109 => ⟨S1x6400, .i32⟩
  | 110 => ⟨S1x6400, .i32⟩
  | 111 => ⟨S_, .i32⟩
  | 112 => ⟨S1x6400, .i32⟩
  | 113 => ⟨S1x6400, .i32⟩
  | 114 => ⟨S1x6400, .i32⟩
  | 115 => ⟨S1x6400, .i32⟩
  | 116 => ⟨S1x6400, .i32⟩
  | 117 => ⟨S_, .i32⟩
  | 118 => ⟨S1x6400, .i32⟩
  | 119 => ⟨S1x6400, .i32⟩
  | 120 => ⟨S_, .i32⟩
  | 121 => ⟨S1x6400, .i32⟩
  | 122 => ⟨S1x6400, .i32⟩
  | 123 => ⟨S1x6400, .i32⟩
  | 124 => ⟨S1x6400, .i32⟩
  | 125 => ⟨S1x6400, .i32⟩
  | 126 => ⟨S_, .i32⟩
  | 127 => ⟨S1x6400, .i32⟩
  | _ => ⟨S16x84x20000, .f32⟩

abbrev hbmTy0_6 (i : Nat) : BufTy := match i % 128 with
  | 0 => ⟨S1x6400, .i32⟩
  | 1 => ⟨S_, .i32⟩
  | 2 => ⟨S1x6400, .i32⟩
  | 3 => ⟨S1x6400, .i32⟩
  | 4 => ⟨S1x6400, .i32⟩
  | 5 => ⟨S1x6400, .i32⟩
  | 6 => ⟨S1x6400, .i32⟩
  | 7 => ⟨S_, .i32⟩
  | 8 => ⟨S1x6400, .i32⟩
  | 9 => ⟨S1x6400, .i32⟩
  | 10 => ⟨S_, .i32⟩
  | 11 => ⟨S1x6400, .i32⟩
  | 12 => ⟨S1x6400, .i32⟩
  | 13 => ⟨S1x6400, .i32⟩
  | 14 => ⟨S1x6400, .i32⟩
  | 15 => ⟨S1x6400, .i32⟩
  | 16 => ⟨S1x6400, .i32⟩
  | 17 => ⟨S1x6400, .i32⟩
  | 18 => ⟨S1x6400, .i32⟩
  | 19 => ⟨S_, .i32⟩
  | 20 => ⟨S1x6400, .i32⟩
  | 21 => ⟨S1x6400, .i32⟩
  | 22 => ⟨S1x6400, .i32⟩
  | 23 => ⟨S_, .i32⟩
  | 24 => ⟨S1x6400, .i32⟩
  | 25 => ⟨S1x6400, .i32⟩
  | 26 => ⟨S_, .i32⟩
  | 27 => ⟨S1x6400, .i32⟩
  | 28 => ⟨S1x6400, .i32⟩
  | 29 => ⟨S1x6400, .i32⟩
  | 30 => ⟨S1x6400, .i32⟩
  | 31 => ⟨S1x6400, .i32⟩
  | 32 => ⟨S_, .i32⟩
  | 33 => ⟨S1x6400, .i32⟩
  | 34 => ⟨S1x6400, .i32⟩
  | 35 => ⟨S_, .i32⟩
  | 36 => ⟨S1x6400, .i32⟩
  | 37 => ⟨S1x6400, .i32⟩
  | 38 => ⟨S1x6400, .i32⟩
  | 39 => ⟨S1x6400, .i32⟩
  | 40 => ⟨S1x6400, .i32⟩
  | 41 => ⟨S_, .i32⟩
  | 42 => ⟨S1x6400, .i32⟩
  | 43 => ⟨S1x6400, .i32⟩
  | 44 => ⟨S_, .i32⟩
  | 45 => ⟨S1x6400, .i32⟩
  | 46 => ⟨S1x6400, .i32⟩
  | 47 => ⟨S1x6400, .i32⟩
  | 48 => ⟨S1x6400, .i32⟩
  | 49 => ⟨S1x6400, .i32⟩
  | 50 => ⟨S_, .i32⟩
  | 51 => ⟨S1x6400, .i32⟩
  | 52 => ⟨S1x6400, .i32⟩
  | 53 => ⟨S_, .i32⟩
  | 54 => ⟨S1x6400, .i32⟩
  | 55 => ⟨S1x6400, .i32⟩
  | 56 => ⟨S1x6400, .i32⟩
  | 57 => ⟨S1x6400, .i32⟩
  | 58 => ⟨S1x6400, .i32⟩
  | 59 => ⟨S1x6400, .i32⟩
  | 60 => ⟨S1x6400, .i32⟩
  | 61 => ⟨S1x6400, .i32⟩
  | 62 => ⟨S_, .i32⟩
  | 63 => ⟨S1x6400, .i32⟩
  | 64 => ⟨S1x6400, .i32⟩
  | 65 => ⟨S1x6400, .i32⟩
  | 66 => ⟨S_, .i32⟩
  | 67 => ⟨S1x6400, .i32⟩
  | 68 => ⟨S1x6400, .i32⟩
  | 69 => ⟨S_, .i32⟩
  | 70 => ⟨S1x6400, .i32⟩
  | 71 => ⟨S1x6400, .i32⟩
  | 72 => ⟨S1x6400, .i32⟩
  | 73 => ⟨S1x6400, .i32⟩
  | 74 => ⟨S1x6400, .i32⟩
  | 75 => ⟨S_, .i32⟩
  | 76 => ⟨S1x6400, .i32⟩
  | 77 => ⟨S1x6400, .i32⟩
  | 78 => ⟨S_, .i32⟩
  | 79 => ⟨S1x6400, .i32⟩
  | 80 => ⟨S1x6400, .i32⟩
  | 81 => ⟨S1x6400, .i32⟩
  | 82 => ⟨S1x6400, .i32⟩
  | 83 => ⟨S1x6400, .i32⟩
  | 84 => ⟨S_, .i32⟩
  | 85 => ⟨S1x6400, .i32⟩
  | 86 => ⟨S1x6400, .i32⟩
  | 87 => ⟨S_, .i32⟩
  | 88 => ⟨S1x6400, .i32⟩
  | 89 => ⟨S1x6400, .i32⟩
  | 90 => ⟨S1x6400, .i32⟩
  | 91 => ⟨S1x6400, .i32⟩
  | 92 => ⟨S1x6400, .i32⟩
  | 93 => ⟨S_, .i32⟩
  | 94 => ⟨S1x6400, .i32⟩
  | 95 => ⟨S1x6400, .i32⟩
  | 96 => ⟨S_, .i32⟩
  | 97 => ⟨S1x6400, .i32⟩
  | 98 => ⟨S1x6400, .i32⟩
  | 99 => ⟨S1x6400, .i32⟩
  | 100 => ⟨S1x6400, .i32⟩
  | 101 => ⟨S1x6400, .i32⟩
  | 102 => ⟨S1x6400, .i32⟩
  | 103 => ⟨S1x6400, .i32⟩
  | 104 => ⟨S1x6400, .i32⟩
  | 105 => ⟨S_, .i32⟩
  | 106 => ⟨S1x6400, .i32⟩
  | 107 => ⟨S1x6400, .i32⟩
  | 108 => ⟨S1x6400, .i32⟩
  | 109 => ⟨S_, .i32⟩
  | 110 => ⟨S1x6400, .i32⟩
  | 111 => ⟨S1x6400, .i32⟩
  | 112 => ⟨S_, .i32⟩
  | 113 => ⟨S1x6400, .i32⟩
  | 114 => ⟨S1x6400, .i32⟩
  | 115 => ⟨S1x6400, .i32⟩
  | 116 => ⟨S1x6400, .i32⟩
  | 117 => ⟨S1x6400, .i32⟩
  | 118 => ⟨S_, .i32⟩
  | 119 => ⟨S1x6400, .i32⟩
  | 120 => ⟨S1x6400, .i32⟩
  | 121 => ⟨S_, .i32⟩
  | 122 => ⟨S1x6400, .i32⟩
  | 123 => ⟨S1x6400, .i32⟩
  | 124 => ⟨S1x6400, .i32⟩
  | 125 => ⟨S1x6400, .i32⟩
  | 126 => ⟨S1x6400, .i32⟩
  | 127 => ⟨S_, .i32⟩
  | _ => ⟨S16x84x20000, .f32⟩

abbrev hbmTy0_7 (i : Nat) : BufTy := match i % 128 with
  | 0 => ⟨S1x6400, .i32⟩
  | 1 => ⟨S1x6400, .i32⟩
  | 2 => ⟨S_, .i32⟩
  | 3 => ⟨S1x6400, .i32⟩
  | 4 => ⟨S1x6400, .i32⟩
  | 5 => ⟨S1x6400, .i32⟩
  | 6 => ⟨S1x6400, .i32⟩
  | 7 => ⟨S1x6400, .i32⟩
  | 8 => ⟨S_, .i32⟩
  | 9 => ⟨S1x6400, .i32⟩
  | 10 => ⟨S1x6400, .i32⟩
  | 11 => ⟨S_, .i32⟩
  | 12 => ⟨S1x6400, .i32⟩
  | 13 => ⟨S1x6400, .i32⟩
  | 14 => ⟨S1x6400, .i32⟩
  | 15 => ⟨S1x6400, .i32⟩
  | 16 => ⟨S1x6400, .i32⟩
  | 17 => ⟨S1x6400, .i32⟩
  | 18 => ⟨S1x6400, .i32⟩
  | 19 => ⟨S1x6400, .i32⟩
  | 20 => ⟨S_, .i32⟩
  | 21 => ⟨S1x6400, .i32⟩
  | 22 => ⟨S1x6400, .i32⟩
  | 23 => ⟨S1x6400, .i32⟩
  | 24 => ⟨S_, .i32⟩
  | 25 => ⟨S1x6400, .i32⟩
  | 26 => ⟨S1x6400, .i32⟩
  | 27 => ⟨S_, .i32⟩
  | 28 => ⟨S1x6400, .i32⟩
  | 29 => ⟨S1x6400, .i32⟩
  | 30 => ⟨S1x6400, .i32⟩
  | 31 => ⟨S1x6400, .i32⟩
  | 32 => ⟨S1x6400, .i32⟩
  | 33 => ⟨S_, .i32⟩
  | 34 => ⟨S1x6400, .i32⟩
  | 35 => ⟨S1x6400, .i32⟩
  | 36 => ⟨S_, .i32⟩
  | 37 => ⟨S1x6400, .i32⟩
  | 38 => ⟨S1x6400, .i32⟩
  | 39 => ⟨S1x6400, .i32⟩
  | 40 => ⟨S1x6400, .i32⟩
  | 41 => ⟨S1x6400, .i32⟩
  | 42 => ⟨S_, .i32⟩
  | 43 => ⟨S1x6400, .i32⟩
  | 44 => ⟨S1x6400, .i32⟩
  | 45 => ⟨S_, .i32⟩
  | 46 => ⟨S1x6400, .i32⟩
  | 47 => ⟨S1x6400, .i32⟩
  | 48 => ⟨S1x6400, .i32⟩
  | 49 => ⟨S1x6400, .i32⟩
  | 50 => ⟨S1x6400, .i32⟩
  | 51 => ⟨S_, .i32⟩
  | 52 => ⟨S1x6400, .i32⟩
  | 53 => ⟨S1x6400, .i32⟩
  | 54 => ⟨S_, .i32⟩
  | 55 => ⟨S1x6400, .i32⟩
  | 56 => ⟨S1x6400, .i32⟩
  | 57 => ⟨S1x6400, .i32⟩
  | 58 => ⟨S1x6400, .i32⟩
  | 59 => ⟨S1x6400, .i32⟩
  | 60 => ⟨S1x6400, .i32⟩
  | 61 => ⟨S1x6400, .i32⟩
  | 62 => ⟨S1x6400, .i32⟩
  | 63 => ⟨S_, .i32⟩
  | 64 => ⟨S1x6400, .i32⟩
  | 65 => ⟨S1x6400, .i32⟩
  | 66 => ⟨S1x6400, .i32⟩
  | 67 => ⟨S6400, .i32⟩
  | 68 => ⟨S_, .i32⟩
  | 69 => ⟨S6400, .i32⟩
  | 70 => ⟨S6400, .i32⟩
  | 71 => ⟨S_, .i32⟩
  | 72 => ⟨S6400, .i32⟩
  | 73 => ⟨S6400, .i32⟩
  | 74 => ⟨S6400, .f32⟩
  | 75 => ⟨S_, .f32⟩
  | 76 => ⟨S6400, .f32⟩
  | 77 => ⟨S6400, .f32⟩
  | 78 => ⟨S_, .f32⟩
  | 79 => ⟨S6400, .f32⟩
  | 80 => ⟨S6400, .f32⟩
  | 81 => ⟨S_, .f32⟩
  | 82 => ⟨S6400, .f32⟩
  | 83 => ⟨S6400, .f32⟩
  | 84 => ⟨S_, .f32⟩
  | 85 => ⟨S6400, .f32⟩
  | 86 => ⟨S6400, .f32⟩
  | 87 => ⟨S6400, .f32⟩
  | 88 => ⟨S6400, .f32⟩
  | 89 => ⟨S6400, .f32⟩
  | 90 => ⟨S6400, .f32⟩
  | 91 => ⟨S_, .f32⟩
  | 92 => ⟨S6400, .f32⟩
  | 93 => ⟨S6400, .i1⟩
  | 94 => ⟨S_, .f32⟩
  | 95 => ⟨S6400, .f32⟩
  | 96 => ⟨S6400, .f32⟩
  | 97 => ⟨S6400, .f32⟩
  | 98 => ⟨S_, .f32⟩
  | 99 => ⟨S6400, .f32⟩
  | 100 => ⟨S6400, .f32⟩
  | 101 => ⟨S6400, .f32⟩
  | 102 => ⟨S_, .f32⟩
  | 103 => ⟨S6400, .f32⟩
  | 104 => ⟨S_, .f32⟩
  | 105 => ⟨S6400, .f32⟩
  | 106 => ⟨S6400, .f32⟩
  | 107 => ⟨S_, .f32⟩
  | 108 => ⟨S6400, .f32⟩
  | 109 => ⟨S_, .f32⟩
  | 110 => ⟨S6400, .f32⟩
  | 111 => ⟨S6400, .f32⟩
  | 112 => ⟨S6400, .f32⟩
  | 113 => ⟨S6400, .f32⟩
  | 114 => ⟨S_, .f32⟩
  | 115 => ⟨S6400, .f32⟩
  | 116 => ⟨S_, .f32⟩
  | 117 => ⟨S6400, .f32⟩
  | 118 => ⟨S6400, .f32⟩
  | 119 => ⟨S6400, .f32⟩
  | 120 => ⟨S6400, .f32⟩
  | 121 => ⟨S_, .f32⟩
  | 122 => ⟨S6400, .f32⟩
  | 123 => ⟨S_, .f32⟩
  | 124 => ⟨S6400, .f32⟩
  | 125 => ⟨S6400, .f32⟩
  | 126 => ⟨S6400, .f32⟩
  | 127 => ⟨S6400, .f32⟩
  | _ => ⟨S16x84x20000, .f32⟩

abbrev hbmTy0_8 (i : Nat) : BufTy := match i % 128 with
  | 0 => ⟨S_, .f32⟩
  | 1 => ⟨S6400, .f32⟩
  | 2 => ⟨S_, .f32⟩
  | 3 => ⟨S6400, .f32⟩
  | 4 => ⟨S6400, .f32⟩
  | 5 => ⟨S6400, .f32⟩
  | 6 => ⟨S6400, .f32⟩
  | 7 => ⟨S_, .f32⟩
  | 8 => ⟨S6400, .f32⟩
  | 9 => ⟨S_, .f32⟩
  | 10 => ⟨S6400, .f32⟩
  | 11 => ⟨S6400, .f32⟩
  | 12 => ⟨S6400, .f32⟩
  | 13 => ⟨S6400, .f32⟩
  | 14 => ⟨S_, .f32⟩
  | 15 => ⟨S6400, .f32⟩
  | 16 => ⟨S_, .f32⟩
  | 17 => ⟨S6400, .f32⟩
  | 18 => ⟨S6400, .f32⟩
  | 19 => ⟨S6400, .f32⟩
  | 20 => ⟨S6400, .f32⟩
  | 21 => ⟨S_, .f32⟩
  | 22 => ⟨S6400, .f32⟩
  | 23 => ⟨S_, .f32⟩
  | 24 => ⟨S6400, .f32⟩
  | 25 => ⟨S6400, .f32⟩
  | 26 => ⟨S6400, .f32⟩
  | 27 => ⟨S6400, .f32⟩
  | 28 => ⟨S_, .f32⟩
  | 29 => ⟨S6400, .f32⟩
  | 30 => ⟨S_, .f32⟩
  | 31 => ⟨S6400, .f32⟩
  | 32 => ⟨S6400, .f32⟩
  | 33 => ⟨S6400, .f32⟩
  | 34 => ⟨S6400, .f32⟩
  | 35 => ⟨S6400, .f32⟩
  | 36 => ⟨S_, .f32⟩
  | 37 => ⟨S6400, .f32⟩
  | 38 => ⟨S6400, .i1⟩
  | 39 => ⟨S_, .f32⟩
  | 40 => ⟨S6400, .f32⟩
  | 41 => ⟨S6400, .f32⟩
  | 42 => ⟨S6400, .f32⟩
  | 43 => ⟨S6400, .f32⟩
  | 44 => ⟨S_, .f32⟩
  | 45 => ⟨S6400, .f32⟩
  | 46 => ⟨S6400, .f32⟩
  | 47 => ⟨S16x100x4, .f32⟩
  | 48 => ⟨S1, .i32⟩
  | 49 => ⟨S1, .i32⟩
  | 50 => ⟨S1600, .i32⟩
  | 51 => ⟨S1x1, .i32⟩
  | 52 => ⟨S1x1, .i32⟩
  | 53 => ⟨S_, .i32⟩
  | 54 => ⟨S1600, .i32⟩
  | 55 => ⟨S1x1600, .i32⟩
  | 56 => ⟨S1x1600, .i32⟩
  | 57 => ⟨S1x1, .i32⟩
  | 58 => ⟨S_, .i32⟩
  | 59 => ⟨S1x1, .i32⟩
  | 60 => ⟨S1x1, .i32⟩
  | 61 => ⟨S1x1600, .i32⟩
  | 62 => ⟨S1x1600, .i32⟩
  | 63 => ⟨S1x1600, .i32⟩
  | 64 => ⟨S1x1600, .i32⟩
  | 65 => ⟨S1x1600, .i32⟩
  | 66 => ⟨S_, .i32⟩
  | 67 => ⟨S1x1600, .i32⟩
  | 68 => ⟨S1x1600, .i32⟩
  | 69 => ⟨S_, .i32⟩
  | 70 => ⟨S1x1600, .i32⟩
  | 71 => ⟨S1x1600, .i32⟩
  | 72 => ⟨S1x1600, .i32⟩
  | 73 => ⟨S1x1600, .i32⟩
  | 74 => ⟨S1x1600, .i32⟩
  | 75 => ⟨S_, .i32⟩
  | 76 => ⟨S1x1600, .i32⟩
  | 77 => ⟨S1x1600, .i32⟩
  | 78 => ⟨S_, .i32⟩
  | 79 => ⟨S1x1600, .i32⟩
  | 80 => ⟨S1x1600, .i32⟩
  | 81 => ⟨S1x1600, .i32⟩
  | 82 => ⟨S1x1600, .i32⟩
  | 83 => ⟨S1x1600, .i32⟩
  | 84 => ⟨S_, .i32⟩
  | 85 => ⟨S1x1600, .i32⟩
  | 86 => ⟨S1x1600, .i32⟩
  | 87 => ⟨S_, .i32⟩
  | 88 => ⟨S1x1600, .i32⟩
  | 89 => ⟨S1x1600, .i32⟩
  | 90 => ⟨S1x1600, .i32⟩
  | 91 => ⟨S1x1600, .i32⟩
  | 92 => ⟨S1x1600, .i32⟩
  | 93 => ⟨S_, .i32⟩
  | 94 => ⟨S1x1600, .i32⟩
  | 95 => ⟨S1x1600, .i32⟩
  | 96 => ⟨S_, .i32⟩
  | 97 => ⟨S1x1600, .i32⟩
  | 98 => ⟨S1x1600, .i32⟩
  | 99 => ⟨S1x1600, .i32⟩
  | 100 => ⟨S1x1600, .i32⟩
  | 101 => ⟨S1x1600, .i32⟩
  | 102 => ⟨S1x1600, .i32⟩
  | 103 => ⟨S1x1600, .i32⟩
  | 104 => ⟨S1x1600, .i32⟩
  | 105 => ⟨S_, .i32⟩
  | 106 => ⟨S1x1600, .i32⟩
  | 107 => ⟨S1x1600, .i32⟩
  | 108 => ⟨S1x1600, .i32⟩
  | 109 => ⟨S_, .i32⟩
  | 110 => ⟨S1x1600, .i32⟩
  | 111 => ⟨S1x1600, .i32⟩
  | 112 => ⟨S_, .i32⟩
  | 113 => ⟨S1x1600, .i32⟩
  | 114 => ⟨S1x1600, .i32⟩
  | 115 => ⟨S1x1600, .i32⟩
  | 116 => ⟨S1x1600, .i32⟩
  | 117 => ⟨S1x1600, .i32⟩
  | 118 => ⟨S_, .i32⟩
  | 119 => ⟨S1x1600, .i32⟩
  | 120 => ⟨S1x1600, .i32⟩
  | 121 => ⟨S_, .i32⟩
  | 122 => ⟨S1x1600, .i32⟩
  | 123 => ⟨S1x1600, .i32⟩
  | 124 => ⟨S1x1600, .i32⟩
  | 125 => ⟨S1x1600, .i32⟩
  | 126 => ⟨S1x1600, .i32⟩
  | 127 => ⟨S_, .i32⟩
  | _ => ⟨S16x84x20000, .f32⟩

abbrev hbmTy0_9 (i : Nat) : BufTy := match i % 128 with
  | 0 => ⟨S1x1600, .i32⟩
  | 1 => ⟨S1x1600, .i32⟩
  | 2 => ⟨S_, .i32⟩
  | 3 => ⟨S1x1600, .i32⟩
  | 4 => ⟨S1x1600, .i32⟩
  | 5 => ⟨S1x1600, .i32⟩
  | 6 => ⟨S1x1600, .i32⟩
  | 7 => ⟨S1x1600, .i32⟩
  | 8 => ⟨S_, .i32⟩
  | 9 => ⟨S1x1600, .i32⟩
  | 10 => ⟨S1x1600, .i32⟩
  | 11 => ⟨S_, .i32⟩
  | 12 => ⟨S1x1600, .i32⟩
  | 13 => ⟨S1x1600, .i32⟩
  | 14 => ⟨S1x1600, .i32⟩
  | 15 => ⟨S1x1600, .i32⟩
  | 16 => ⟨S1x1600, .i32⟩
  | 17 => ⟨S1x1600, .i32⟩
  | 18 => ⟨S1x1600, .i32⟩
  | 19 => ⟨S1x1600, .i32⟩
  | 20 => ⟨S_, .i32⟩
  | 21 => ⟨S1x1600, .i32⟩
  | 22 => ⟨S1x1600, .i32⟩
  | 23 => ⟨S1x1600, .i32⟩
  | 24 => ⟨S_, .i32⟩
  | 25 => ⟨S1x1600, .i32⟩
  | 26 => ⟨S1x1600, .i32⟩
  | 27 => ⟨S_, .i32⟩
  | 28 => ⟨S1x1600, .i32⟩
  | 29 => ⟨S1x1600, .i32⟩
  | 30 => ⟨S1x1600, .i32⟩
  | 31 => ⟨S1x1600, .i32⟩
  | 32 => ⟨S1x1600, .i32⟩
  | 33 => ⟨S_, .i32⟩
  | 34 => ⟨S1x1600, .i32⟩
  | 35 => ⟨S1x1600, .i32⟩
  | 36 => ⟨S_, .i32⟩
  | 37 => ⟨S1x1600, .i32⟩
  | 38 => ⟨S1x1600, .i32⟩
  | 39 => ⟨S1x1600, .i32⟩
  | 40 => ⟨S1x1600, .i32⟩
  | 41 => ⟨S1x1600, .i32⟩
  | 42 => ⟨S_, .i32⟩
  | 43 => ⟨S1x1600, .i32⟩
  | 44 => ⟨S1x1600, .i32⟩
  | 45 => ⟨S_, .i32⟩
  | 46 => ⟨S1x1600, .i32⟩
  | 47 => ⟨S1x1600, .i32⟩
  | 48 => ⟨S1x1600, .i32⟩
  | 49 => ⟨S1x1600, .i32⟩
  | 50 => ⟨S1x1600, .i32⟩
  | 51 => ⟨S_, .i32⟩
  | 52 => ⟨S1x1600, .i32⟩
  | 53 => ⟨S1x1600, .i32⟩
  | 54 => ⟨S_, .i32⟩
  | 55 => ⟨S1x1600, .i32⟩
  | 56 => ⟨S1x1600, .i32⟩
  | 57 => ⟨S1x1600, .i32⟩
  | 58 => ⟨S1x1600, .i32⟩
  | 59 => ⟨S1x1600, .i32⟩
  | 60 => ⟨S1x1600, .i32⟩
  | 61 => ⟨S1x1600, .i32⟩
  | 62 => ⟨S1x1600, .i32⟩
  | 63 => ⟨S_, .i32⟩
  | 64 => ⟨S1x1600, .i32⟩
  | 65 => ⟨S1x1600, .i32⟩
  | 66 => ⟨S1x1600, .i32⟩
  | 67 => ⟨S_, .i32⟩
  | 68 => ⟨S1x1600, .i32⟩
  | 69 => ⟨S1x1600, .i32⟩
  | 70 => ⟨S_, .i32⟩
  | 71 => ⟨S1x1600, .i32⟩
  | 72 => ⟨S1x1600, .i32⟩
  | 73 => ⟨S1x1600, .i32⟩
  | 74 => ⟨S1x1600, .i32⟩
  | 75 => ⟨S1x1600, .i32⟩
  | 76 => ⟨S_, .i32⟩
  | 77 => ⟨S1x1600, .i32⟩
  | 78 => ⟨S1x1600, .i32⟩
  | 79 => ⟨S_, .i32⟩
  | 80 => ⟨S1x1600, .i32⟩
  | 81 => ⟨S1x1600, .i32⟩
  | 82 => ⟨S1x1600, .i32⟩
  | 83 => ⟨S1x1600, .i32⟩
  | 84 => ⟨S1x1600, .i32⟩
  | 85 => ⟨S_, .i32⟩
  | 86 => ⟨S1x1600, .i32⟩
  | 87 => ⟨S1x1600, .i32⟩
  | 88 => ⟨S_, .i32⟩
  | 89 => ⟨S1x1600, .i32⟩
  | 90 => ⟨S1x1600, .i32⟩
  | 91 => ⟨S1x1600, .i32⟩
  | 92 => ⟨S1x1600, .i32⟩
  | 93 => ⟨S1x1600, .i32⟩
  | 94 => ⟨S_, .i32⟩
  | 95 => ⟨S1x1600, .i32⟩
  | 96 => ⟨S1x1600, .i32⟩
  | 97 => ⟨S_, .i32⟩
  | 98 => ⟨S1x1600, .i32⟩
  | 99 => ⟨S1x1600, .i32⟩
  | 100 => ⟨S1x1600, .i32⟩
  | 101 => ⟨S1x1600, .i32⟩
  | 102 => ⟨S1x1600, .i32⟩
  | 103 => ⟨S1x1600, .i32⟩
  | 104 => ⟨S1x1600, .i32⟩
  | 105 => ⟨S1x1600, .i32⟩
  | 106 => ⟨S_, .i32⟩
  | 107 => ⟨S1x1600, .i32⟩
  | 108 => ⟨S1x1600, .i32⟩
  | 109 => ⟨S1x1600, .i32⟩
  | 110 => ⟨S_, .i32⟩
  | 111 => ⟨S1x1600, .i32⟩
  | 112 => ⟨S1x1600, .i32⟩
  | 113 => ⟨S_, .i32⟩
  | 114 => ⟨S1x1600, .i32⟩
  | 115 => ⟨S1x1600, .i32⟩
  | 116 => ⟨S1x1600, .i32⟩
  | 117 => ⟨S1x1600, .i32⟩
  | 118 => ⟨S1x1600, .i32⟩
  | 119 => ⟨S_, .i32⟩
  | 120 => ⟨S1x1600, .i32⟩
  | 121 => ⟨S1x1600, .i32⟩
  | 122 => ⟨S_, .i32⟩
  | 123 => ⟨S1x1600, .i32⟩
  | 124 => ⟨S1x1600, .i32⟩
  | 125 => ⟨S1x1600, .i32⟩
  | 126 => ⟨S1x1600, .i32⟩
  | 127 => ⟨S1x1600, .i32⟩
  | _ => ⟨S16x84x20000, .f32⟩

abbrev hbmTy0_10 (i : Nat) : BufTy := match i % 128 with
  | 0 => ⟨S_, .i32⟩
  | 1 => ⟨S1x1600, .i32⟩
  | 2 => ⟨S1x1600, .i32⟩
  | 3 => ⟨S_, .i32⟩
  | 4 => ⟨S1x1600, .i32⟩
  | 5 => ⟨S1x1600, .i32⟩
  | 6 => ⟨S1x1600, .i32⟩
  | 7 => ⟨S1x1600, .i32⟩
  | 8 => ⟨S1x1600, .i32⟩
  | 9 => ⟨S_, .i32⟩
  | 10 => ⟨S1x1600, .i32⟩
  | 11 => ⟨S1x1600, .i32⟩
  | 12 => ⟨S_, .i32⟩
  | 13 => ⟨S1x1600, .i32⟩
  | 14 => ⟨S1x1600, .i32⟩
  | 15 => ⟨S1x1600, .i32⟩
  | 16 => ⟨S1x1600, .i32⟩
  | 17 => ⟨S1x1600, .i32⟩
  | 18 => ⟨S1x1600, .i32⟩
  | 19 => ⟨S1x1600, .i32⟩
  | 20 => ⟨S1x1600, .i32⟩
  | 21 => ⟨S_, .i32⟩
  | 22 => ⟨S1x1600, .i32⟩
  | 23 => ⟨S1x1600, .i32⟩
  | 24 => ⟨S1x1600, .i32⟩
  | 25 => ⟨S1600, .i32⟩
  | 26 => ⟨S_, .i32⟩
  | 27 => ⟨S1600, .i32⟩
  | 28 => ⟨S1600, .i32⟩
  | 29 => ⟨S_, .i32⟩
  | 30 => ⟨S1600, .i32⟩
  | 31 => ⟨S1600, .i32⟩
  | 32 => ⟨S1600, .f32⟩
  | 33 => ⟨S_, .f32⟩
  | 34 => ⟨S1600, .f32⟩
  | 35 => ⟨S1600, .f32⟩
  | 36 => ⟨S_, .f32⟩
  | 37 => ⟨S1600, .f32⟩
  | 38 => ⟨S1600, .f32⟩
  | 39 => ⟨S_, .f32⟩
  | 40 => ⟨S1600, .f32⟩
  | 41 => ⟨S1600, .f32⟩
  | 42 => ⟨S_, .f32⟩
  | 43 => ⟨S1600, .f32⟩
  | 44 => ⟨S1600, .f32⟩
  | 45 => ⟨S1600, .f32⟩
  | 46 => ⟨S1600, .f32⟩
  | 47 => ⟨S1600, .f32⟩
  | 48 => ⟨S1600, .f32⟩
  | 49 => ⟨S_, .f32⟩
  | 50 => ⟨S1600, .f32⟩
  | 51 => ⟨S1600, .i1⟩
  | 52 => ⟨S_, .f32⟩
  | 53 => ⟨S1600, .f32⟩
  | 54 => ⟨S1600, .f32⟩
  | 55 => ⟨S1600, .f32⟩
  | 56 => ⟨S_, .f32⟩
  | 57 => ⟨S1600, .f32⟩
  | 58 => ⟨S1600, .f32⟩
  | 59 => ⟨S1600, .f32⟩
  | 60 => ⟨S_, .f32⟩
  | 61 => ⟨S1600, .f32⟩
  | 62 => ⟨S_, .f32⟩
  | 63 => ⟨S1600, .f32⟩
  | 64 => ⟨S1600, .f32⟩
  | 65 => ⟨S_, .f32⟩
  | 66 => ⟨S1600, .f32⟩
  | 67 => ⟨S_, .f32⟩
  | 68 => ⟨S1600, .f32⟩
  | 69 => ⟨S1600, .f32⟩
  | 70 => ⟨S1600, .f32⟩
  | 71 => ⟨S1600, .f32⟩
  | 72 => ⟨S_, .f32⟩
  | 73 => ⟨S1600, .f32⟩
  | 74 => ⟨S_, .f32⟩
  | 75 => ⟨S1600, .f32⟩
  | 76 => ⟨S1600, .f32⟩
  | 77 => ⟨S1600, .f32⟩
  | 78 => ⟨S1600, .f32⟩
  | 79 => ⟨S_, .f32⟩
  | 80 => ⟨S1600, .f32⟩
  | 81 => ⟨S_, .f32⟩
  | 82 => ⟨S1600, .f32⟩
  | 83 => ⟨S1600, .f32⟩
  | 84 => ⟨S1600, .f32⟩
  | 85 => ⟨S1600, .f32⟩
  | 86 => ⟨S_, .f32⟩
  | 87 => ⟨S1600, .f32⟩
  | 88 => ⟨S_, .f32⟩
  | 89 => ⟨S1600, .f32⟩
  | 90 => ⟨S1600, .f32⟩
  | 91 => ⟨S1600, .f32⟩
  | 92 => ⟨S1600, .f32⟩
  | 93 => ⟨S_, .f32⟩
  | 94 => ⟨S1600, .f32⟩
  | 95 => ⟨S_, .f32⟩
  | 96 => ⟨S1600, .f32⟩
  | 97 => ⟨S1600, .f32⟩
  | 98 => ⟨S1600, .f32⟩
  | 99 => ⟨S1600, .f32⟩
  | 100 => ⟨S_, .f32⟩
  | 101 => ⟨S1600, .f32⟩
  | 102 => ⟨S_, .f32⟩
  | 103 => ⟨S1600, .f32⟩
  | 104 => ⟨S1600, .f32⟩
  | 105 => ⟨S1600, .f32⟩
  | 106 => ⟨S1600, .f32⟩
  | 107 => ⟨S_, .f32⟩
  | 108 => ⟨S1600, .f32⟩
  | 109 => ⟨S_, .f32⟩
  | 110 => ⟨S1600, .f32⟩
  | 111 => ⟨S1600, .f32⟩
  | 112 => ⟨S1600, .f32⟩
  | 113 => ⟨S1600, .f32⟩
  | 114 => ⟨S_, .f32⟩
  | 115 => ⟨S1600, .f32⟩
  | 116 => ⟨S_, .f32⟩
  | 117 => ⟨S1600, .f32⟩
  | 118 => ⟨S1600, .f32⟩
  | 119 => ⟨S1600, .f32⟩
  | 120 => ⟨S1600, .f32⟩
  | 121 => ⟨S1600, .f32⟩
  | 122 => ⟨S_, .f32⟩
  | 123 => ⟨S1600, .f32⟩
  | 124 => ⟨S1600, .i1⟩
  | 125 => ⟨S_, .f32⟩
  | 126 => ⟨S1600, .f32⟩
  | 127 => ⟨S1600, .f32⟩
  | _ => ⟨S16x84x20000, .f32⟩

abbrev hbmTy0_11 (i : Nat) : BufTy := match i % 128 with
  | 0 => ⟨S1600, .f32⟩
  | 1 => ⟨S1600, .f32⟩
  | 2 => ⟨S_, .f32⟩
  | 3 => ⟨S1600, .f32⟩
  | 4 => ⟨S1600, .f32⟩
  | 5 => ⟨S16x100, .f32⟩
  | 6 => ⟨S1x2, .i32⟩
  | 7 => ⟨S2, .i32⟩
  | 8 => ⟨S1x2, .i32⟩
  | 9 => ⟨S2, .i32⟩
  | 10 => ⟨S1600, .i32⟩
  | 11 => ⟨S2x1, .i32⟩
  | 12 => ⟨S2x1, .i32⟩
  | 13 => ⟨S_, .i32⟩
  | 14 => ⟨S1600, .i32⟩
  | 15 => ⟨S1x1600, .i32⟩
  | 16 => ⟨S1x1600, .i32⟩
  | 17 => ⟨S2x1, .i32⟩
  | 18 => ⟨S_, .i32⟩
  | 19 => ⟨S2x1, .i32⟩
  | 20 => ⟨S2x1, .i32⟩
  | 21 => ⟨S2x1600, .i32⟩
  | 22 => ⟨S2x1600, .i32⟩
  | 23 => ⟨S2x1600, .i32⟩
  | 24 => ⟨S2x1600, .i32⟩
  | 25 => ⟨S2x1600, .i32⟩
  | 26 => ⟨S2x1600, .i32⟩
  | 27 => ⟨S2x1600, .i32⟩
  | 28 => ⟨S_, .i32⟩
  | 29 => ⟨S2x1600, .i32⟩
  | 30 => ⟨S2x1600, .i32⟩
  | 31 => ⟨S_, .i32⟩
  | 32 => ⟨S2x1600, .i32⟩
  | 33 => ⟨S2x1600, .i32⟩
  | 34 => ⟨S2x1600, .i32⟩
  | 35 => ⟨S2x1600, .i32⟩
  | 36 => ⟨S2x1600, .i32⟩
  | 37 => ⟨S_, .i32⟩
  | 38 => ⟨S2x1600, .i32⟩
  | 39 => ⟨S2x1600, .i32⟩
  | 40 => ⟨S_, .i32⟩
  | 41 => ⟨S2x1600, .i32⟩
  | 42 => ⟨S2x1600, .i32⟩
  | 43 => ⟨S2x1600, .i32⟩
  | 44 => ⟨S2x1600, .i32⟩
  | 45 => ⟨S2x1600, .i32⟩
  | 46 => ⟨S_, .i32⟩
  | 47 => ⟨S2x1600, .i32⟩
  | 48 => ⟨S2x1600, .i32⟩
  | 49 => ⟨S_, .i32⟩
  | 50 => ⟨S2x1600, .i32⟩
  | 51 => ⟨S2x1600, .i32⟩
  | 52 => ⟨S2x1600, .i32⟩
  | 53 => ⟨S2x1600, .i32⟩
  | 54 => ⟨S2x1600, .i32⟩
  | 55 => ⟨S_, .i32⟩
  | 56 => ⟨S2x1600, .i32⟩
  | 57 => ⟨S2x1600, .i32⟩
  | 58 => ⟨S_, .i32⟩
  | 59 => ⟨S2x1600, .i32⟩
  | 60 => ⟨S2x1600, .i32⟩
  | 61 => ⟨S2x1600, .i32⟩
  | 62 => ⟨S2x1600, .i32⟩
  | 63 => ⟨S2x1600, .i32⟩
  | 64 => ⟨S2x1600, .i32⟩
  | 65 => ⟨S2x1600, .i32⟩
  | 66 => ⟨S2x1600, .i32⟩
  | 67 => ⟨S_, .i32⟩
  | 68 => ⟨S2x1600, .i32⟩
  | 69 => ⟨S2x1600, .i32⟩
  | 70 => ⟨S2x1600, .i32⟩
  | 71 => ⟨S_, .i32⟩
  | 72 => ⟨S2x1600, .i32⟩
  | 73 => ⟨S2x1600, .i32⟩
  | 74 => ⟨S_, .i32⟩
  | 75 => ⟨S2x1600, .i32⟩
  | 76 => ⟨S2x1600, .i32⟩
  | 77 => ⟨S2x1600, .i32⟩
  | 78 => ⟨S2x1600, .i32⟩
  | 79 => ⟨S2x1600, .i32⟩
  | 80 => ⟨S_, .i32⟩
  | 81 => ⟨S2x1600, .i32⟩
  | 82 => ⟨S2x1600, .i32⟩
  | 83 => ⟨S_, .i32⟩
  | 84 => ⟨S2x1600, .i32⟩
  | 85 => ⟨S2x1600, .i32⟩
  | 86 => ⟨S2x1600, .i32⟩
  | 87 => ⟨S2x1600, .i32⟩
  | 88 => ⟨S2x1600, .i32⟩
  | 89 => ⟨S_, .i32⟩
  | 90 => ⟨S2x1600, .i32⟩
  | 91 => ⟨S2x1600, .i32⟩
  | 92 => ⟨S_, .i32⟩
  | 93 => ⟨S2x1600, .i32⟩
  | 94 => ⟨S2x1600, .i32⟩
  | 95 => ⟨S2x1600, .i32⟩
  | 96 => ⟨S2x1600, .i32⟩
  | 97 => ⟨S2x1600, .i32⟩
  | 98 => ⟨S_, .i32⟩
  | 99 => ⟨S2x1600, .i32⟩
  | 100 => ⟨S2x1600, .i32⟩
  | 101 => ⟨S_, .i32⟩
  | 102 => ⟨S2x1600, .i32⟩
  | 103 => ⟨S2x1600, .i32⟩
  | 104 => ⟨S2x1600, .i32⟩
  | 105 => ⟨S2x1600, .i32⟩
  | 106 => ⟨S2x1600, .i32⟩
  | 107 => ⟨S2x1600, .i32⟩
  | 108 => ⟨S2x1600, .i32⟩
  | 109 => ⟨S2x1600, .i32⟩
  | 110 => ⟨S_, .i32⟩
  | 111 => ⟨S2x1600, .i32⟩
  | 112 => ⟨S2x1600, .i32⟩
  | 113 => ⟨S2x1600, .i32⟩
  | 114 => ⟨S_, .i32⟩
  | 115 => ⟨S2x1600, .i32⟩
  | 116 => ⟨S2x1600, .i32⟩
  | 117 => ⟨S_, .i32⟩
  | 118 => ⟨S2x1600, .i32⟩
  | 119 => ⟨S2x1600, .i32⟩
  | 120 => ⟨S2x1600, .i32⟩
  | 121 => ⟨S2x1600, .i32⟩
  | 122 => ⟨S2x1600, .i32⟩
  | 123 => ⟨S_, .i32⟩
  | 124 => ⟨S2x1600, .i32⟩
  | 125 => ⟨S2x1600, .i32⟩
  | 126 => ⟨S_, .i32⟩
  | 127 => ⟨S2x1600, .i32⟩
  | _ => ⟨S16x84x20000, .f32⟩

abbrev hbmTy0_12 (i : Nat) : BufTy := match i % 128 with
  | 0 => ⟨S2x1600, .i32⟩
  | 1 => ⟨S2x1600, .i32⟩
  | 2 => ⟨S2x1600, .i32⟩
  | 3 => ⟨S2x1600, .i32⟩
  | 4 => ⟨S_, .i32⟩
  | 5 => ⟨S2x1600, .i32⟩
  | 6 => ⟨S2x1600, .i32⟩
  | 7 => ⟨S_, .i32⟩
  | 8 => ⟨S2x1600, .i32⟩
  | 9 => ⟨S2x1600, .i32⟩
  | 10 => ⟨S2x1600, .i32⟩
  | 11 => ⟨S2x1600, .i32⟩
  | 12 => ⟨S2x1600, .i32⟩
  | 13 => ⟨S_, .i32⟩
  | 14 => ⟨S2x1600, .i32⟩
  | 15 => ⟨S2x1600, .i32⟩
  | 16 => ⟨S_, .i32⟩
  | 17 => ⟨S2x1600, .i32⟩
  | 18 => ⟨S2x1600, .i32⟩
  | 19 => ⟨S2x1600, .i32⟩
  | 20 => ⟨S2x1600, .i32⟩
  | 21 => ⟨S2x1600, .i32⟩
  | 22 => ⟨S2x1600, .i32⟩
  | 23 => ⟨S2x1600, .i32⟩
  | 24 => ⟨S2x1600, .i32⟩
  | 25 => ⟨S_, .i32⟩
  | 26 => ⟨S2x1600, .i32⟩
  | 27 => ⟨S2x1600, .i32⟩
  | 28 => ⟨S2x1600, .i32⟩
  | 29 => ⟨S_, .i32⟩
  | 30 => ⟨S2x1600, .i32⟩
  | 31 => ⟨S2x1600, .i32⟩
  | 32 => ⟨S_, .i32⟩
  | 33 => ⟨S2x1600, .i32⟩
  | 34 => ⟨S2x1600, .i32⟩
  | 35 => ⟨S2x1600, .i32⟩
  | 36 => ⟨S2x1600, .i32⟩
  | 37 => ⟨S2x1600, .i32⟩
  | 38 => ⟨S_, .i32⟩
  | 39 => ⟨S2x1600, .i32⟩
  | 40 => ⟨S2x1600, .i32⟩
  | 41 => ⟨S_, .i32⟩
  | 42 => ⟨S2x1600, .i32⟩
  | 43 => ⟨S2x1600, .i32⟩
  | 44 => ⟨S2x1600, .i32⟩
  | 45 => ⟨S2x1600, .i32⟩
  | 46 => ⟨S2x1600, .i32⟩
  | 47 => ⟨S_, .i32⟩
  | 48 => ⟨S2x1600, .i32⟩
  | 49 => ⟨S2x1600, .i32⟩
  | 50 => ⟨S_, .i32⟩
  | 51 => ⟨S2x1600, .i32⟩
  | 52 => ⟨S2x1600, .i32⟩
  | 53 => ⟨S2x1600, .i32⟩
  | 54 => ⟨S2x1600, .i32⟩
  | 55 => ⟨S2x1600, .i32⟩
  | 56 => ⟨S_, .i32⟩
  | 57 => ⟨S2x1600, .i32⟩
  | 58 => ⟨S2x1600, .i32⟩
  | 59 => ⟨S_, .i32⟩
  | 60 => ⟨S2x1600, .i32⟩
  | 61 => ⟨S2x1600, .i32⟩
  | 62 => ⟨S2x1600, .i32⟩
  | 63 => ⟨S2x1600, .i32⟩
  | 64 => ⟨S2x1600, .i32⟩
  | 65 => ⟨S2x1600, .i32⟩
  | 66 => ⟨S2x1600, .i32⟩
  | 67 => ⟨S2x1600, .i32⟩
  | 68 => ⟨S_, .i32⟩
  | 69 => ⟨S2x1600, .i32⟩
  | 70 => ⟨S2x1600, .i32⟩
  | 71 => ⟨S2x1600, .i32⟩
  | 72 => ⟨S_, .i32⟩
  | 73 => ⟨S2x1600, .i32⟩
  | 74 => ⟨S2x1600, .i32⟩
  | 75 => ⟨S_, .i32⟩
  | 76 => ⟨S2x1600, .i32⟩
  | 77 => ⟨S2x1600, .i32⟩
  | 78 => ⟨S2x1600, .i32⟩
  | 79 => ⟨S2x1600, .i32⟩
  | 80 => ⟨S2x1600, .i32⟩
  | 81 => ⟨S_, .i32⟩
  | 82 => ⟨S2x1600, .i32⟩
  | 83 => ⟨S2x1600, .i32⟩
  | 84 => ⟨S_, .i32⟩
  | 85 => ⟨S2x1600, .i32⟩
  | 86 => ⟨S2x1600, .i32⟩
  | 87 => ⟨S2x1600, .i32⟩
  | 88 => ⟨S2x1600, .i32⟩
  | 89 => ⟨S2x1600, .i32⟩
  | 90 => ⟨S_, .i32⟩
  | 91 => ⟨S2x1600, .i32⟩
  | 92 => ⟨S2x1600, .i32⟩
  | 93 => ⟨S_, .i32⟩
  | 94 => ⟨S2x1600, .i32⟩
  | 95 => ⟨S2x1600, .i32⟩
  | 96 => ⟨S2x1600, .i32⟩
  | 97 => ⟨S2x1600, .i32⟩
  | 98 => ⟨S2x1600, .i32⟩
  | 99 => ⟨S_, .i32⟩
  | 100 => ⟨S2x1600, .i32⟩
  | 101 => ⟨S2x1600, .i32⟩
  | 102 => ⟨S_, .i32⟩
  | 103 => ⟨S2x1600, .i32⟩
  | 104 => ⟨S2x1600, .i32⟩
  | 105 => ⟨S2x1600, .i32⟩
  | 106 => ⟨S2x1600, .i32⟩
  | 107 => ⟨S2x1600, .i32⟩
  | 108 => ⟨S2x1600, .i32⟩
  | 109 => ⟨S2x1600, .i32⟩
  | 110 => ⟨S2x1600, .i32⟩
  | 111 => ⟨S_, .i32⟩
  | 112 => ⟨S2x1600, .i32⟩
  | 113 => ⟨S2x1600, .i32⟩
  | 114 => ⟨S2x1600, .i32⟩
  | 115 => ⟨S1x1600, .i32⟩
  | 116 => ⟨S1600, .i32⟩
  | 117 => ⟨S1x1600, .i32⟩
  | 118 => ⟨S1600, .i32⟩
  | 119 => ⟨S_, .i32⟩
  | 120 => ⟨S_, .i32⟩
  | 121 => ⟨S_, .i32⟩
  | 122 => ⟨S_, .i32⟩
  | 123 => ⟨S_, .i32⟩
  | 124 => ⟨S_, .i32⟩
  | 125 => ⟨S_, .i32⟩
  | 126 => ⟨S1600, .i32⟩
  | 127 => ⟨S1600, .i32⟩
  | _ => ⟨S16x84x20000, .f32⟩

abbrev hbmTy0_13 (i : Nat) : BufTy := match i % 128 with
  | 0 => ⟨S1600, .i32⟩
  | 1 => ⟨S1600, .i32⟩
  | 2 => ⟨S_, .i32⟩
  | 3 => ⟨S1600, .i32⟩
  | 4 => ⟨S1600, .i32⟩
  | 5 => ⟨S1600, .i32⟩
  | 6 => ⟨S_, .i32⟩
  | 7 => ⟨S1600, .i32⟩
  | 8 => ⟨S1600, .i32⟩
  | 9 => ⟨S1600, .i32⟩
  | 10 => ⟨S16x100, .i32⟩
  | 11 => ⟨S1x2, .i32⟩
  | 12 => ⟨S2, .i32⟩
  | 13 => ⟨S1x2, .i32⟩
  | 14 => ⟨S2, .i32⟩
  | 15 => ⟨S1600, .i32⟩
  | 16 => ⟨S2x1, .i32⟩
  | 17 => ⟨S2x1, .i32⟩
  | 18 => ⟨S_, .i32⟩
  | 19 => ⟨S1600, .i32⟩
  | 20 => ⟨S1x1600, .i32⟩
  | 21 => ⟨S1x1600, .i32⟩
  | 22 => ⟨S2x1, .i32⟩
  | 23 => ⟨S_, .i32⟩
  | 24 => ⟨S2x1, .i32⟩
  | 25 => ⟨S2x1, .i32⟩
  | 26 => ⟨S2x1600, .i32⟩
  | 27 => ⟨S2x1600, .i32⟩
  | 28 => ⟨S2x1600, .i32⟩
  | 29 => ⟨S2x1600, .i32⟩
  | 30 => ⟨S2x1600, .i32⟩
  | 31 => ⟨S2x1600, .i32⟩
  | 32 => ⟨S2x1600, .i32⟩
  | 33 => ⟨S_, .i32⟩
  | 34 => ⟨S2x1600, .i32⟩
  | 35 => ⟨S2x1600, .i32⟩
  | 36 => ⟨S_, .i32⟩
  | 37 => ⟨S2x1600, .i32⟩
  | 38 => ⟨S2x1600, .i32⟩
  | 39 => ⟨S2x1600, .i32⟩
  | 40 => ⟨S2x1600, .i32⟩
  | 41 => ⟨S2x1600, .i32⟩
  | 42 => ⟨S_, .i32⟩
  | 43 => ⟨S2x1600, .i32⟩
  | 44 => ⟨S2x1600, .i32⟩
  | 45 => ⟨S_, .i32⟩
  | 46 => ⟨S2x1600, .i32⟩
  | 47 => ⟨S2x1600, .i32⟩
  | 48 => ⟨S2x1600, .i32⟩
  | 49 => ⟨S2x1600, .i32⟩
  | 50 => ⟨S2x1600, .i32⟩
  | 51 => ⟨S_, .i32⟩
  | 52 => ⟨S2x1600, .i32⟩
  | 53 => ⟨S2x1600, .i32⟩
  | 54 => ⟨S_, .i32⟩
  | 55 => ⟨S2x1600, .i32⟩
  | 56 => ⟨S2x1600, .i32⟩
  | 57 => ⟨S2x1600, .i32⟩
  | 58 => ⟨S2x1600, .i32⟩
  | 59 => ⟨S2x1600, .i32⟩
  | 60 => ⟨S_, .i32⟩
  | 61 => ⟨S2x1600, .i32⟩
  | 62 => ⟨S2x1600, .i32⟩
  | 63 => ⟨S_, .i32⟩
  | 64 => ⟨S2x1600, .i32⟩
  | 65 => ⟨S2x1600, .i32⟩
  | 66 => ⟨S2x1600, .i32⟩
  | 67 => ⟨S2x1600, .i32⟩
  | 68 => ⟨S2x1600, .i32⟩
  | 69 => ⟨S2x1600, .i32⟩
  | 70 => ⟨S2x1600, .i32⟩
  | 71 => ⟨S2x1600, .i32⟩
  | 72 => ⟨S_, .i32⟩
  | 73 => ⟨S2x1600, .i32⟩
  | 74 => ⟨S2x1600, .i32⟩
  | 75 => ⟨S2x1600, .i32⟩
  | 76 => ⟨S_, .i32⟩
  | 77 => ⟨S2x1600, .i32⟩
  | 78 => ⟨S2x1600, .i32⟩
  | 79 => ⟨S_, .i32⟩
  | 80 => ⟨S2x1600, .i32⟩
  | 81 => ⟨S2x1600, .i32⟩
  | 82 => ⟨S2x1600, .i32⟩
  | 83 => ⟨S2x1600, .i32⟩
  | 84 => ⟨S2x1600, .i32⟩
  | 85 => ⟨S_, .i32⟩
  | 86 => ⟨S2x1600, .i32⟩
  | 87 => ⟨S2x1600, .i32⟩
  | 88 => ⟨S_, .i32⟩
  | 89 => ⟨S2x1600, .i32⟩
  | 90 => ⟨S2x1600, .i32⟩
  | 91 => ⟨S2x1600, .i32⟩
  | 92 => ⟨S2x1600, .i32⟩
  | 93 => ⟨S2x1600, .i32⟩
  | 94 => ⟨S_, .i32⟩
  | 95 => ⟨S2x1600, .i32⟩
  | 96 => ⟨S2x1600, .i32⟩
  | 97 => ⟨S_, .i32⟩
  | 98 => ⟨S2x1600, .i32⟩
  | 99 => ⟨S2x1600, .i32⟩
  | 100 => ⟨S2x1600, .i32⟩
  | 101 => ⟨S2x1600, .i32⟩
  | 102 => ⟨S2x1600, .i32⟩
  | 103 => ⟨S_, .i32⟩
  | 104 => ⟨S2x1600, .i32⟩
  | 105 => ⟨S2x1600, .i32⟩
  | 106 => ⟨S_, .i32⟩
  | 107 => ⟨S2x1600, .i32⟩
  | 108 => ⟨S2x1600, .i32⟩
  | 109 => ⟨S2x1600, .i32⟩
  | 110 => ⟨S2x1600, .i32⟩
  | 111 => ⟨S2x1600, .i32⟩
  | 112 => ⟨S2x1600, .i32⟩
  | 113 => ⟨S2x1600, .i32⟩
  | 114 => ⟨S2x1600, .i32⟩
  | 115 => ⟨S_, .i32⟩
  | 116 => ⟨S2x1600, .i32⟩
  | 117 => ⟨S2x1600, .i32⟩
  | 118 => ⟨S2x1600, .i32⟩
  | 119 => ⟨S_, .i32⟩
  | 120 => ⟨S2x1600, .i32⟩
  | 121 => ⟨S2x1600, .i32⟩
  | 122 => ⟨S_, .i32⟩
  | 123 => ⟨S2x1600, .i32⟩
  | 124 => ⟨S2x1600, .i32⟩
  | 125 => ⟨S2x1600, .i32⟩
  | 126 => ⟨S2x1600, .i32⟩
  | 127 => ⟨S2x1600, .i32⟩
  | _ => ⟨S16x84x20000, .f32⟩

abbrev hbmTy0_14 (i : Nat) : BufTy := match i % 128 with
  | 0 => ⟨S_, .i32⟩
  | 1 => ⟨S2x1600, .i32⟩
  | 2 => ⟨S2x1600, .i32⟩
  | 3 => ⟨S_, .i32⟩
  | 4 => ⟨S2x1600, .i32⟩
  | 5 => ⟨S2x1600, .i32⟩
  | 6 => ⟨S2x1600, .i32⟩
  | 7 => ⟨S2x1600, .i32⟩
  | 8 => ⟨S2x1600, .i32⟩
  | 9 => ⟨S_, .i32⟩
  | 10 => ⟨S2x1600, .i32⟩
  | 11 => ⟨S2x1600, .i32⟩
  | 12 => ⟨S_, .i32⟩
  | 13 => ⟨S2x1600, .i32⟩
  | 14 => ⟨S2x1600, .i32⟩
  | 15 => ⟨S2x1600, .i32⟩
  | 16 => ⟨S2x1600, .i32⟩
  | 17 => ⟨S2x1600, .i32⟩
  | 18 => ⟨S_, .i32⟩
  | 19 => ⟨S2x1600, .i32⟩
  | 20 => ⟨S2x1600, .i32⟩
  | 21 => ⟨S_, .i32⟩
  | 22 => ⟨S2x1600, .i32⟩
  | 23 => ⟨S2x1600, .i32⟩
  | 24 => ⟨S2x1600, .i32⟩
  | 25 => ⟨S2x1600, .i32⟩
  | 26 => ⟨S2x1600, .i32⟩
  | 27 => ⟨S2x1600, .i32⟩
  | 28 => ⟨S2x1600, .i32⟩
  | 29 => ⟨S2x1600, .i32⟩
  | 30 => ⟨S_, .i32⟩
  | 31 => ⟨S2x1600, .i32⟩
  | 32 => ⟨S2x1600, .i32⟩
  | 33 => ⟨S2x1600, .i32⟩
  | 34 => ⟨S_, .i32⟩
  | 35 => ⟨S2x1600, .i32⟩
  | 36 => ⟨S2x1600, .i32⟩
  | 37 => ⟨S_, .i32⟩
  | 38 => ⟨S2x1600, .i32⟩
  | 39 => ⟨S2x1600, .i32⟩
  | 40 => ⟨S2x1600, .i32⟩
  | 41 => ⟨S2x1600, .i32⟩
  | 42 => ⟨S2x1600, .i32⟩
  | 43 => ⟨S_, .i32⟩
  | 44 => ⟨S2x1600, .i32⟩
  | 45 => ⟨S2x1600, .i32⟩
  | 46 => ⟨S_, .i32⟩
  | 47 => ⟨S2x1600, .i32⟩
  | 48 => ⟨S2x1600, .i32⟩
  | 49 => ⟨S2x1600, .i32⟩
  | 50 => ⟨S2x1600, .i32⟩
  | 51 => ⟨S2x1600, .i32⟩
  | 52 => ⟨S_, .i32⟩
  | 53 => ⟨S2x1600, .i32⟩
  | 54 => ⟨S2x1600, .i32⟩
  | 55 => ⟨S_, .i32⟩
  | 56 => ⟨S2x1600, .i32⟩
  | 57 => ⟨S2x1600, .i32⟩
  | 58 => ⟨S2x1600, .i32⟩
  | 59 => ⟨S2x1600, .i32⟩
  | 60 => ⟨S2x1600, .i32⟩
  | 61 => ⟨S_, .i32⟩
  | 62 => ⟨S2x1600, .i32⟩
  | 63 => ⟨S2x1600, .i32⟩
  | 64 => ⟨S_, .i32⟩
  | 65 => ⟨S2x1600, .i32⟩
  | 66 => ⟨S2x1600, .i32⟩
  | 67 => ⟨S2x1600, .i32⟩
  | 68 => ⟨S2x1600, .i32⟩
  | 69 => ⟨S2x1600, .i32⟩
  | 70 => ⟨S2x1600, .i32⟩
  | 71 => ⟨S2x1600, .i32⟩
  | 72 => ⟨S2x1600, .i32⟩
  | 73 => ⟨S_, .i32⟩
  | 74 => ⟨S2x1600, .i32⟩
  | 75 => ⟨S2x1600, .i32⟩
  | 76 => ⟨S2x1600, .i32⟩
  | 77 => ⟨S_, .i32⟩
  | 78 => ⟨S2x1600, .i32⟩
  | 79 => ⟨S2x1600, .i32⟩
  | 80 => ⟨S_, .i32⟩
  | 81 => ⟨S2x1600, .i32⟩
  | 82 => ⟨S2x1600, .i32⟩
  | 83 => ⟨S2x1600, .i32⟩
  | 84 => ⟨S2x1600, .i32⟩
  | 85 => ⟨S2x1600, .i32⟩
  | 86 => ⟨S_, .i32⟩
  | 87 => ⟨S2x1600, .i32⟩
  | 88 => ⟨S2x1600, .i32⟩
  | 89 => ⟨S_, .i32⟩
  | 90 => ⟨S2x1600, .i32⟩
  | 91 => ⟨S2x1600, .i32⟩
  | 92 => ⟨S2x1600, .i32⟩
  | 93 => ⟨S2x1600, .i32⟩
  | 94 => ⟨S2x1600, .i32⟩
  | 95 => ⟨S_, .i32⟩
  | 96 => ⟨S2x1600, .i32⟩
  | 97 => ⟨S2x1600, .i32⟩
  | 98 => ⟨S_, .i32⟩
  | 99 => ⟨S2x1600, .i32⟩
  | 100 => ⟨S2x1600, .i32⟩
  | 101 => ⟨S2x1600, .i32⟩
  | 102 => ⟨S2x1600, .i32⟩
  | 103 => ⟨S2x1600, .i32⟩
  | 104 => ⟨S_, .i32⟩
  | 105 => ⟨S2x1600, .i32⟩
  | 106 => ⟨S2x1600, .i32⟩
  | 107 => ⟨S_, .i32⟩
  | 108 => ⟨S2x1600, .i32⟩
  | 109 => ⟨S2x1600, .i32⟩
  | 110 => ⟨S2x1600, .i32⟩
  | 111 => ⟨S2x1600, .i32⟩
  | 112 => ⟨S2x1600, .i32⟩
  | 113 => ⟨S2x1600, .i32⟩
  | 114 => ⟨S2x1600, .i32⟩
  | 115 => ⟨S2x1600, .i32⟩
  | 116 => ⟨S_, .i32⟩
  | 117 => ⟨S2x1600, .i32⟩
  | 118 => ⟨S2x1600, .i32⟩
  | 119 => ⟨S2x1600, .i32⟩
  | 120 => ⟨S1x1600, .i32⟩
  | 121 => ⟨S1600, .i32⟩
  | 122 => ⟨S1x1600, .i32⟩
  | 123 => ⟨S1600, .i32⟩
  | 124 => ⟨S_, .i32⟩
  | 125 => ⟨S_, .i32⟩
  | 126 => ⟨S_, .i32⟩
  | 127 => ⟨S_, .i32⟩
  | _ => ⟨S16x84x20000, .f32⟩

abbrev hbmTy0_15 (i : Nat) : BufTy := match i % 128 with
  | 0 => ⟨S_, .i32⟩
  | 1 => ⟨S_, .i32⟩
  | 2 => ⟨S_, .i32⟩
  | 3 => ⟨S1600, .i32⟩
  | 4 => ⟨S1600, .i32⟩
  | 5 => ⟨S1600, .i32⟩
  | 6 => ⟨S1600, .i32⟩
  | 7 => ⟨S_, .i32⟩
  | 8 => ⟨S1600, .i32⟩
  | 9 => ⟨S1600, .i32⟩
  | 10 => ⟨S1600, .i32⟩
  | 11 => ⟨S_, .i32⟩
  | 12 => ⟨S1600, .i32⟩
  | 13 => ⟨S1600, .i32⟩
  | 14 => ⟨S1600, .i32⟩
  | 15 => ⟨S16x100, .i32⟩
  | _ => ⟨S16x84x20000, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | 15 => hbmTy0_15 i
  | _ => ⟨S16x84x20000, .f32⟩

abbrev bufTy : (tb : Table) → Fin (tcTables nBuf tb) → BufTy
  | .hbm, ⟨i, _⟩ => hbmTy i
  | _, _ => ⟨S16x84x20000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_2 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c_3 : Ref sig .tc := ⟨.hbm, 21, rfl⟩
abbrev main_v16 : Ref sig .tc := ⟨.hbm, 22, rfl⟩
abbrev main_v17 : Ref sig .tc := ⟨.hbm, 23, rfl⟩
abbrev main_c_4 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c_5 : Ref sig .tc := ⟨.hbm, 30, rfl⟩
abbrev main_v23 : Ref sig .tc := ⟨.hbm, 31, rfl⟩
abbrev main_v24 : Ref sig .tc := ⟨.hbm, 32, rfl⟩
abbrev main_c_6 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_c_7 : Ref sig .tc := ⟨.hbm, 39, rfl⟩
abbrev main_v30 : Ref sig .tc := ⟨.hbm, 40, rfl⟩
abbrev main_v31 : Ref sig .tc := ⟨.hbm, 41, rfl⟩
abbrev main_c_8 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_c_9 : Ref sig .tc := ⟨.hbm, 48, rfl⟩
abbrev main_v37 : Ref sig .tc := ⟨.hbm, 49, rfl⟩
abbrev main_v38 : Ref sig .tc := ⟨.hbm, 50, rfl⟩
abbrev main_c_10 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_c_11 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_c_12 : Ref sig .tc := ⟨.hbm, 64, rfl⟩
abbrev main_v50 : Ref sig .tc := ⟨.hbm, 65, rfl⟩
abbrev main_v51 : Ref sig .tc := ⟨.hbm, 66, rfl⟩
abbrev main_c_13 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_c_14 : Ref sig .tc := ⟨.hbm, 73, rfl⟩
abbrev main_v57 : Ref sig .tc := ⟨.hbm, 74, rfl⟩
abbrev main_v58 : Ref sig .tc := ⟨.hbm, 75, rfl⟩
abbrev main_c_15 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_c_16 : Ref sig .tc := ⟨.hbm, 82, rfl⟩
abbrev main_v64 : Ref sig .tc := ⟨.hbm, 83, rfl⟩
abbrev main_v65 : Ref sig .tc := ⟨.hbm, 84, rfl⟩
abbrev main_c_17 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_c_18 : Ref sig .tc := ⟨.hbm, 91, rfl⟩
abbrev main_v71 : Ref sig .tc := ⟨.hbm, 92, rfl⟩
abbrev main_v72 : Ref sig .tc := ⟨.hbm, 93, rfl⟩
abbrev main_c_19 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_c_20 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_c_21 : Ref sig .tc := ⟨.hbm, 107, rfl⟩
abbrev main_v84 : Ref sig .tc := ⟨.hbm, 108, rfl⟩
abbrev main_v85 : Ref sig .tc := ⟨.hbm, 109, rfl⟩
abbrev main_c_22 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_c_23 : Ref sig .tc := ⟨.hbm, 116, rfl⟩
abbrev main_v91 : Ref sig .tc := ⟨.hbm, 117, rfl⟩
abbrev main_v92 : Ref sig .tc := ⟨.hbm, 118, rfl⟩
abbrev main_c_24 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_c_25 : Ref sig .tc := ⟨.hbm, 125, rfl⟩
abbrev main_v98 : Ref sig .tc := ⟨.hbm, 126, rfl⟩
abbrev main_v99 : Ref sig .tc := ⟨.hbm, 127, rfl⟩
abbrev main_c_26 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_c_27 : Ref sig .tc := ⟨.hbm, 134, rfl⟩
abbrev main_v105 : Ref sig .tc := ⟨.hbm, 135, rfl⟩
abbrev main_v106 : Ref sig .tc := ⟨.hbm, 136, rfl⟩
abbrev main_c_28 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_c_29 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_c_30 : Ref sig .tc := ⟨.hbm, 150, rfl⟩
abbrev main_v118 : Ref sig .tc := ⟨.hbm, 151, rfl⟩
abbrev main_v119 : Ref sig .tc := ⟨.hbm, 152, rfl⟩
abbrev main_c_31 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_c_32 : Ref sig .tc := ⟨.hbm, 159, rfl⟩
abbrev main_v125 : Ref sig .tc := ⟨.hbm, 160, rfl⟩
abbrev main_v126 : Ref sig .tc := ⟨.hbm, 161, rfl⟩
abbrev main_c_33 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_c_34 : Ref sig .tc := ⟨.hbm, 168, rfl⟩
abbrev main_v132 : Ref sig .tc := ⟨.hbm, 169, rfl⟩
abbrev main_v133 : Ref sig .tc := ⟨.hbm, 170, rfl⟩
abbrev main_c_35 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_c_36 : Ref sig .tc := ⟨.hbm, 177, rfl⟩
abbrev main_v139 : Ref sig .tc := ⟨.hbm, 178, rfl⟩
abbrev main_v140 : Ref sig .tc := ⟨.hbm, 179, rfl⟩
abbrev main_c_37 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_c_38 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_c_39 : Ref sig .tc := ⟨.hbm, 193, rfl⟩
abbrev main_v152 : Ref sig .tc := ⟨.hbm, 194, rfl⟩
abbrev main_v153 : Ref sig .tc := ⟨.hbm, 195, rfl⟩
abbrev main_c_40 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_c_41 : Ref sig .tc := ⟨.hbm, 202, rfl⟩
abbrev main_v159 : Ref sig .tc := ⟨.hbm, 203, rfl⟩
abbrev main_v160 : Ref sig .tc := ⟨.hbm, 204, rfl⟩
abbrev main_c_42 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_c_43 : Ref sig .tc := ⟨.hbm, 211, rfl⟩
abbrev main_v166 : Ref sig .tc := ⟨.hbm, 212, rfl⟩
abbrev main_v167 : Ref sig .tc := ⟨.hbm, 213, rfl⟩
abbrev main_c_44 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_c_45 : Ref sig .tc := ⟨.hbm, 220, rfl⟩
abbrev main_v173 : Ref sig .tc := ⟨.hbm, 221, rfl⟩
abbrev main_v174 : Ref sig .tc := ⟨.hbm, 222, rfl⟩
abbrev main_c_46 : Ref sig .tc := ⟨.hbm, 223, rfl⟩
abbrev main_v175 : Ref sig .tc := ⟨.hbm, 224, rfl⟩
abbrev main_v176 : Ref sig .tc := ⟨.hbm, 225, rfl⟩
abbrev main_v177 : Ref sig .tc := ⟨.hbm, 226, rfl⟩
abbrev main_v178 : Ref sig .tc := ⟨.hbm, 227, rfl⟩
abbrev main_v179 : Ref sig .tc := ⟨.hbm, 228, rfl⟩
abbrev main_v180 : Ref sig .tc := ⟨.hbm, 229, rfl⟩
abbrev main_v181 : Ref sig .tc := ⟨.hbm, 230, rfl⟩
abbrev main_v182 : Ref sig .tc := ⟨.hbm, 231, rfl⟩
abbrev main_c_47 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_v188 : Ref sig .tc := ⟨.hbm, 238, rfl⟩
abbrev main_v189 : Ref sig .tc := ⟨.hbm, 239, rfl⟩
abbrev main_c_48 : Ref sig .tc := ⟨.hbm, 240, rfl⟩
abbrev main_v190 : Ref sig .tc := ⟨.hbm, 241, rfl⟩
abbrev main_v191 : Ref sig .tc := ⟨.hbm, 242, rfl⟩
abbrev main_v192 : Ref sig .tc := ⟨.hbm, 243, rfl⟩
abbrev main_v193 : Ref sig .tc := ⟨.hbm, 244, rfl⟩
abbrev main_c_49 : Ref sig .tc := ⟨.hbm, 245, rfl⟩
abbrev main_v194 : Ref sig .tc := ⟨.hbm, 246, rfl⟩
abbrev main_v195 : Ref sig .tc := ⟨.hbm, 247, rfl⟩
abbrev main_v196 : Ref sig .tc := ⟨.hbm, 248, rfl⟩
abbrev main_v197 : Ref sig .tc := ⟨.hbm, 249, rfl⟩
abbrev main_v198 : Ref sig .tc := ⟨.hbm, 250, rfl⟩
abbrev main_v199 : Ref sig .tc := ⟨.hbm, 251, rfl⟩
abbrev main_v200 : Ref sig .tc := ⟨.hbm, 252, rfl⟩
abbrev main_v201 : Ref sig .tc := ⟨.hbm, 253, rfl⟩
abbrev main_v202 : Ref sig .tc := ⟨.hbm, 254, rfl⟩
abbrev main_c_50 : Ref sig .tc := ⟨.hbm, 255, rfl⟩
abbrev main_v203 : Ref sig .tc := ⟨.hbm, 256, rfl⟩
abbrev main_v204 : Ref sig .tc := ⟨.hbm, 257, rfl⟩
abbrev main_c_51 : Ref sig .tc := ⟨.hbm, 258, rfl⟩
abbrev main_v205 : Ref sig .tc := ⟨.hbm, 259, rfl⟩
abbrev main_v206 : Ref sig .tc := ⟨.hbm, 260, rfl⟩
abbrev main_v207 : Ref sig .tc := ⟨.hbm, 261, rfl⟩
abbrev main_v208 : Ref sig .tc := ⟨.hbm, 262, rfl⟩
abbrev main_v209 : Ref sig .tc := ⟨.hbm, 263, rfl⟩
abbrev main_c_52 : Ref sig .tc := ⟨.hbm, 264, rfl⟩
abbrev main_v210 : Ref sig .tc := ⟨.hbm, 265, rfl⟩
abbrev main_v211 : Ref sig .tc := ⟨.hbm, 266, rfl⟩
abbrev main_c_53 : Ref sig .tc := ⟨.hbm, 267, rfl⟩
abbrev main_v212 : Ref sig .tc := ⟨.hbm, 268, rfl⟩
abbrev main_v213 : Ref sig .tc := ⟨.hbm, 269, rfl⟩
abbrev main_v214 : Ref sig .tc := ⟨.hbm, 270, rfl⟩
abbrev main_v215 : Ref sig .tc := ⟨.hbm, 271, rfl⟩
abbrev main_v216 : Ref sig .tc := ⟨.hbm, 272, rfl⟩
abbrev main_c_54 : Ref sig .tc := ⟨.hbm, 273, rfl⟩
abbrev main_v217 : Ref sig .tc := ⟨.hbm, 274, rfl⟩
abbrev main_v218 : Ref sig .tc := ⟨.hbm, 275, rfl⟩
abbrev main_c_55 : Ref sig .tc := ⟨.hbm, 276, rfl⟩
abbrev main_v219 : Ref sig .tc := ⟨.hbm, 277, rfl⟩
abbrev main_v220 : Ref sig .tc := ⟨.hbm, 278, rfl⟩
abbrev main_v221 : Ref sig .tc := ⟨.hbm, 279, rfl⟩
abbrev main_v222 : Ref sig .tc := ⟨.hbm, 280, rfl⟩
abbrev main_v223 : Ref sig .tc := ⟨.hbm, 281, rfl⟩
abbrev main_c_56 : Ref sig .tc := ⟨.hbm, 282, rfl⟩
abbrev main_v224 : Ref sig .tc := ⟨.hbm, 283, rfl⟩
abbrev main_v225 : Ref sig .tc := ⟨.hbm, 284, rfl⟩
abbrev main_c_57 : Ref sig .tc := ⟨.hbm, 285, rfl⟩
abbrev main_v226 : Ref sig .tc := ⟨.hbm, 286, rfl⟩
abbrev main_v227 : Ref sig .tc := ⟨.hbm, 287, rfl⟩
abbrev main_v228 : Ref sig .tc := ⟨.hbm, 288, rfl⟩
abbrev main_v229 : Ref sig .tc := ⟨.hbm, 289, rfl⟩
abbrev main_v230 : Ref sig .tc := ⟨.hbm, 290, rfl⟩
abbrev main_v231 : Ref sig .tc := ⟨.hbm, 291, rfl⟩
abbrev main_v232 : Ref sig .tc := ⟨.hbm, 292, rfl⟩
abbrev main_v233 : Ref sig .tc := ⟨.hbm, 293, rfl⟩
abbrev main_c_58 : Ref sig .tc := ⟨.hbm, 294, rfl⟩
abbrev main_v234 : Ref sig .tc := ⟨.hbm, 295, rfl⟩
abbrev main_v235 : Ref sig .tc := ⟨.hbm, 296, rfl⟩
abbrev main_v236 : Ref sig .tc := ⟨.hbm, 297, rfl⟩
abbrev main_c_59 : Ref sig .tc := ⟨.hbm, 298, rfl⟩
abbrev main_v237 : Ref sig .tc := ⟨.hbm, 299, rfl⟩
abbrev main_v238 : Ref sig .tc := ⟨.hbm, 300, rfl⟩
abbrev main_c_60 : Ref sig .tc := ⟨.hbm, 301, rfl⟩
abbrev main_v239 : Ref sig .tc := ⟨.hbm, 302, rfl⟩
abbrev main_v240 : Ref sig .tc := ⟨.hbm, 303, rfl⟩
abbrev main_v241 : Ref sig .tc := ⟨.hbm, 304, rfl⟩
abbrev main_v242 : Ref sig .tc := ⟨.hbm, 305, rfl⟩
abbrev main_v243 : Ref sig .tc := ⟨.hbm, 306, rfl⟩
abbrev main_c_61 : Ref sig .tc := ⟨.hbm, 307, rfl⟩
abbrev main_v244 : Ref sig .tc := ⟨.hbm, 308, rfl⟩
abbrev main_v245 : Ref sig .tc := ⟨.hbm, 309, rfl⟩
abbrev main_c_62 : Ref sig .tc := ⟨.hbm, 310, rfl⟩
abbrev main_v246 : Ref sig .tc := ⟨.hbm, 311, rfl⟩
abbrev main_v247 : Ref sig .tc := ⟨.hbm, 312, rfl⟩
abbrev main_v248 : Ref sig .tc := ⟨.hbm, 313, rfl⟩
abbrev main_v249 : Ref sig .tc := ⟨.hbm, 314, rfl⟩
abbrev main_v250 : Ref sig .tc := ⟨.hbm, 315, rfl⟩
abbrev main_c_63 : Ref sig .tc := ⟨.hbm, 316, rfl⟩
abbrev main_v251 : Ref sig .tc := ⟨.hbm, 317, rfl⟩
abbrev main_v252 : Ref sig .tc := ⟨.hbm, 318, rfl⟩
abbrev main_c_64 : Ref sig .tc := ⟨.hbm, 319, rfl⟩
abbrev main_v253 : Ref sig .tc := ⟨.hbm, 320, rfl⟩
abbrev main_v254 : Ref sig .tc := ⟨.hbm, 321, rfl⟩
abbrev main_v255 : Ref sig .tc := ⟨.hbm, 322, rfl⟩
abbrev main_v256 : Ref sig .tc := ⟨.hbm, 323, rfl⟩
abbrev main_v257 : Ref sig .tc := ⟨.hbm, 324, rfl⟩
abbrev main_c_65 : Ref sig .tc := ⟨.hbm, 325, rfl⟩
abbrev main_v258 : Ref sig .tc := ⟨.hbm, 326, rfl⟩
abbrev main_v259 : Ref sig .tc := ⟨.hbm, 327, rfl⟩
abbrev main_c_66 : Ref sig .tc := ⟨.hbm, 328, rfl⟩
abbrev main_v260 : Ref sig .tc := ⟨.hbm, 329, rfl⟩
abbrev main_v261 : Ref sig .tc := ⟨.hbm, 330, rfl⟩
abbrev main_v262 : Ref sig .tc := ⟨.hbm, 331, rfl⟩
abbrev main_v263 : Ref sig .tc := ⟨.hbm, 332, rfl⟩
abbrev main_v264 : Ref sig .tc := ⟨.hbm, 333, rfl⟩
abbrev main_v265 : Ref sig .tc := ⟨.hbm, 334, rfl⟩
abbrev main_v266 : Ref sig .tc := ⟨.hbm, 335, rfl⟩
abbrev main_v267 : Ref sig .tc := ⟨.hbm, 336, rfl⟩
abbrev main_c_67 : Ref sig .tc := ⟨.hbm, 337, rfl⟩
abbrev main_v268 : Ref sig .tc := ⟨.hbm, 338, rfl⟩
abbrev main_v269 : Ref sig .tc := ⟨.hbm, 339, rfl⟩
abbrev main_v270 : Ref sig .tc := ⟨.hbm, 340, rfl⟩
abbrev main_c_68 : Ref sig .tc := ⟨.hbm, 341, rfl⟩
abbrev main_v271 : Ref sig .tc := ⟨.hbm, 342, rfl⟩
abbrev main_v272 : Ref sig .tc := ⟨.hbm, 343, rfl⟩
abbrev main_c_69 : Ref sig .tc := ⟨.hbm, 344, rfl⟩
abbrev main_v273 : Ref sig .tc := ⟨.hbm, 345, rfl⟩
abbrev main_v274 : Ref sig .tc := ⟨.hbm, 346, rfl⟩
abbrev main_v275 : Ref sig .tc := ⟨.hbm, 347, rfl⟩
abbrev main_v276 : Ref sig .tc := ⟨.hbm, 348, rfl⟩
abbrev main_v277 : Ref sig .tc := ⟨.hbm, 349, rfl⟩
abbrev main_c_70 : Ref sig .tc := ⟨.hbm, 350, rfl⟩
abbrev main_v278 : Ref sig .tc := ⟨.hbm, 351, rfl⟩
abbrev main_v279 : Ref sig .tc := ⟨.hbm, 352, rfl⟩
abbrev main_c_71 : Ref sig .tc := ⟨.hbm, 353, rfl⟩
abbrev main_v280 : Ref sig .tc := ⟨.hbm, 354, rfl⟩
abbrev main_v281 : Ref sig .tc := ⟨.hbm, 355, rfl⟩
abbrev main_v282 : Ref sig .tc := ⟨.hbm, 356, rfl⟩
abbrev main_v283 : Ref sig .tc := ⟨.hbm, 357, rfl⟩
abbrev main_v284 : Ref sig .tc := ⟨.hbm, 358, rfl⟩
abbrev main_c_72 : Ref sig .tc := ⟨.hbm, 359, rfl⟩
abbrev main_v285 : Ref sig .tc := ⟨.hbm, 360, rfl⟩
abbrev main_v286 : Ref sig .tc := ⟨.hbm, 361, rfl⟩
abbrev main_c_73 : Ref sig .tc := ⟨.hbm, 362, rfl⟩
abbrev main_v287 : Ref sig .tc := ⟨.hbm, 363, rfl⟩
abbrev main_v288 : Ref sig .tc := ⟨.hbm, 364, rfl⟩
abbrev main_v289 : Ref sig .tc := ⟨.hbm, 365, rfl⟩
abbrev main_v290 : Ref sig .tc := ⟨.hbm, 366, rfl⟩
abbrev main_v291 : Ref sig .tc := ⟨.hbm, 367, rfl⟩
abbrev main_c_74 : Ref sig .tc := ⟨.hbm, 368, rfl⟩
abbrev main_v292 : Ref sig .tc := ⟨.hbm, 369, rfl⟩
abbrev main_v293 : Ref sig .tc := ⟨.hbm, 370, rfl⟩
abbrev main_c_75 : Ref sig .tc := ⟨.hbm, 371, rfl⟩
abbrev main_v294 : Ref sig .tc := ⟨.hbm, 372, rfl⟩
abbrev main_v295 : Ref sig .tc := ⟨.hbm, 373, rfl⟩
abbrev main_v296 : Ref sig .tc := ⟨.hbm, 374, rfl⟩
abbrev main_v297 : Ref sig .tc := ⟨.hbm, 375, rfl⟩
abbrev main_v298 : Ref sig .tc := ⟨.hbm, 376, rfl⟩
abbrev main_v299 : Ref sig .tc := ⟨.hbm, 377, rfl⟩
abbrev main_v300 : Ref sig .tc := ⟨.hbm, 378, rfl⟩
abbrev main_v301 : Ref sig .tc := ⟨.hbm, 379, rfl⟩
abbrev main_c_76 : Ref sig .tc := ⟨.hbm, 380, rfl⟩
abbrev main_v302 : Ref sig .tc := ⟨.hbm, 381, rfl⟩
abbrev main_v303 : Ref sig .tc := ⟨.hbm, 382, rfl⟩
abbrev main_v304 : Ref sig .tc := ⟨.hbm, 383, rfl⟩
abbrev main_c_77 : Ref sig .tc := ⟨.hbm, 384, rfl⟩
abbrev main_v305 : Ref sig .tc := ⟨.hbm, 385, rfl⟩
abbrev main_v306 : Ref sig .tc := ⟨.hbm, 386, rfl⟩
abbrev main_c_78 : Ref sig .tc := ⟨.hbm, 387, rfl⟩
abbrev main_v307 : Ref sig .tc := ⟨.hbm, 388, rfl⟩
abbrev main_v308 : Ref sig .tc := ⟨.hbm, 389, rfl⟩
abbrev main_v309 : Ref sig .tc := ⟨.hbm, 390, rfl⟩
abbrev main_v310 : Ref sig .tc := ⟨.hbm, 391, rfl⟩
abbrev main_v311 : Ref sig .tc := ⟨.hbm, 392, rfl⟩
abbrev main_c_79 : Ref sig .tc := ⟨.hbm, 393, rfl⟩
abbrev main_v312 : Ref sig .tc := ⟨.hbm, 394, rfl⟩
abbrev main_v313 : Ref sig .tc := ⟨.hbm, 395, rfl⟩
abbrev main_c_80 : Ref sig .tc := ⟨.hbm, 396, rfl⟩
abbrev main_v314 : Ref sig .tc := ⟨.hbm, 397, rfl⟩
abbrev main_v315 : Ref sig .tc := ⟨.hbm, 398, rfl⟩
abbrev main_v316 : Ref sig .tc := ⟨.hbm, 399, rfl⟩
abbrev main_v317 : Ref sig .tc := ⟨.hbm, 400, rfl⟩
abbrev main_v318 : Ref sig .tc := ⟨.hbm, 401, rfl⟩
abbrev main_c_81 : Ref sig .tc := ⟨.hbm, 402, rfl⟩
abbrev main_v319 : Ref sig .tc := ⟨.hbm, 403, rfl⟩
abbrev main_v320 : Ref sig .tc := ⟨.hbm, 404, rfl⟩
abbrev main_c_82 : Ref sig .tc := ⟨.hbm, 405, rfl⟩
abbrev main_v321 : Ref sig .tc := ⟨.hbm, 406, rfl⟩
abbrev main_v322 : Ref sig .tc := ⟨.hbm, 407, rfl⟩
abbrev main_v323 : Ref sig .tc := ⟨.hbm, 408, rfl⟩
abbrev main_v324 : Ref sig .tc := ⟨.hbm, 409, rfl⟩
abbrev main_v325 : Ref sig .tc := ⟨.hbm, 410, rfl⟩
abbrev main_c_83 : Ref sig .tc := ⟨.hbm, 411, rfl⟩
abbrev main_v326 : Ref sig .tc := ⟨.hbm, 412, rfl⟩
abbrev main_v327 : Ref sig .tc := ⟨.hbm, 413, rfl⟩
abbrev main_c_84 : Ref sig .tc := ⟨.hbm, 414, rfl⟩
abbrev main_v328 : Ref sig .tc := ⟨.hbm, 415, rfl⟩
abbrev main_v329 : Ref sig .tc := ⟨.hbm, 416, rfl⟩
abbrev main_v330 : Ref sig .tc := ⟨.hbm, 417, rfl⟩
abbrev main_v331 : Ref sig .tc := ⟨.hbm, 418, rfl⟩
abbrev main_v332 : Ref sig .tc := ⟨.hbm, 419, rfl⟩
abbrev main_v333 : Ref sig .tc := ⟨.hbm, 420, rfl⟩
abbrev main_v334 : Ref sig .tc := ⟨.hbm, 421, rfl⟩
abbrev main_v335 : Ref sig .tc := ⟨.hbm, 422, rfl⟩
abbrev main_c_85 : Ref sig .tc := ⟨.hbm, 423, rfl⟩
abbrev main_v336 : Ref sig .tc := ⟨.hbm, 424, rfl⟩
abbrev main_v337 : Ref sig .tc := ⟨.hbm, 425, rfl⟩
abbrev main_v338 : Ref sig .tc := ⟨.hbm, 426, rfl⟩
abbrev main_c_86 : Ref sig .tc := ⟨.hbm, 427, rfl⟩
abbrev main_v339 : Ref sig .tc := ⟨.hbm, 428, rfl⟩
abbrev main_v340 : Ref sig .tc := ⟨.hbm, 429, rfl⟩
abbrev main_c_87 : Ref sig .tc := ⟨.hbm, 430, rfl⟩
abbrev main_v341 : Ref sig .tc := ⟨.hbm, 431, rfl⟩
abbrev main_v342 : Ref sig .tc := ⟨.hbm, 432, rfl⟩
abbrev main_v343 : Ref sig .tc := ⟨.hbm, 433, rfl⟩
abbrev main_v344 : Ref sig .tc := ⟨.hbm, 434, rfl⟩
abbrev main_v345 : Ref sig .tc := ⟨.hbm, 435, rfl⟩
abbrev main_c_88 : Ref sig .tc := ⟨.hbm, 436, rfl⟩
abbrev main_v346 : Ref sig .tc := ⟨.hbm, 437, rfl⟩
abbrev main_v347 : Ref sig .tc := ⟨.hbm, 438, rfl⟩
abbrev main_c_89 : Ref sig .tc := ⟨.hbm, 439, rfl⟩
abbrev main_v348 : Ref sig .tc := ⟨.hbm, 440, rfl⟩
abbrev main_v349 : Ref sig .tc := ⟨.hbm, 441, rfl⟩
abbrev main_v350 : Ref sig .tc := ⟨.hbm, 442, rfl⟩
abbrev main_v351 : Ref sig .tc := ⟨.hbm, 443, rfl⟩
abbrev main_v352 : Ref sig .tc := ⟨.hbm, 444, rfl⟩
abbrev main_c_90 : Ref sig .tc := ⟨.hbm, 445, rfl⟩
abbrev main_v353 : Ref sig .tc := ⟨.hbm, 446, rfl⟩
abbrev main_v354 : Ref sig .tc := ⟨.hbm, 447, rfl⟩
abbrev main_c_91 : Ref sig .tc := ⟨.hbm, 448, rfl⟩
abbrev main_v355 : Ref sig .tc := ⟨.hbm, 449, rfl⟩
abbrev main_v356 : Ref sig .tc := ⟨.hbm, 450, rfl⟩
abbrev main_v357 : Ref sig .tc := ⟨.hbm, 451, rfl⟩
abbrev main_v358 : Ref sig .tc := ⟨.hbm, 452, rfl⟩
abbrev main_v359 : Ref sig .tc := ⟨.hbm, 453, rfl⟩
abbrev main_c_92 : Ref sig .tc := ⟨.hbm, 454, rfl⟩
abbrev main_v360 : Ref sig .tc := ⟨.hbm, 455, rfl⟩
abbrev main_v361 : Ref sig .tc := ⟨.hbm, 456, rfl⟩
abbrev main_c_93 : Ref sig .tc := ⟨.hbm, 457, rfl⟩
abbrev main_v362 : Ref sig .tc := ⟨.hbm, 458, rfl⟩
abbrev main_v363 : Ref sig .tc := ⟨.hbm, 459, rfl⟩
abbrev main_v364 : Ref sig .tc := ⟨.hbm, 460, rfl⟩
abbrev main_v365 : Ref sig .tc := ⟨.hbm, 461, rfl⟩
abbrev main_v366 : Ref sig .tc := ⟨.hbm, 462, rfl⟩
abbrev main_v367 : Ref sig .tc := ⟨.hbm, 463, rfl⟩
abbrev main_v368 : Ref sig .tc := ⟨.hbm, 464, rfl⟩
abbrev main_v369 : Ref sig .tc := ⟨.hbm, 465, rfl⟩
abbrev main_c_94 : Ref sig .tc := ⟨.hbm, 466, rfl⟩
abbrev main_v370 : Ref sig .tc := ⟨.hbm, 467, rfl⟩
abbrev main_v371 : Ref sig .tc := ⟨.hbm, 468, rfl⟩
abbrev main_v372 : Ref sig .tc := ⟨.hbm, 469, rfl⟩
abbrev main_v373 : Ref sig .tc := ⟨.hbm, 470, rfl⟩
abbrev main_v374 : Ref sig .tc := ⟨.hbm, 471, rfl⟩
abbrev main_v375 : Ref sig .tc := ⟨.hbm, 472, rfl⟩
abbrev main_v376 : Ref sig .tc := ⟨.hbm, 473, rfl⟩
abbrev main_v377 : Ref sig .tc := ⟨.hbm, 474, rfl⟩
abbrev main_v378 : Ref sig .tc := ⟨.hbm, 475, rfl⟩
abbrev main_c_95 : Ref sig .tc := ⟨.hbm, 476, rfl⟩
abbrev main_v379 : Ref sig .tc := ⟨.hbm, 477, rfl⟩
abbrev main_v380 : Ref sig .tc := ⟨.hbm, 478, rfl⟩
abbrev main_v381 : Ref sig .tc := ⟨.hbm, 479, rfl⟩
abbrev main_v382 : Ref sig .tc := ⟨.hbm, 480, rfl⟩
abbrev main_c_96 : Ref sig .tc := ⟨.hbm, 481, rfl⟩
abbrev main_v383 : Ref sig .tc := ⟨.hbm, 482, rfl⟩
abbrev main_v384 : Ref sig .tc := ⟨.hbm, 483, rfl⟩
abbrev main_v385 : Ref sig .tc := ⟨.hbm, 484, rfl⟩
abbrev main_v386 : Ref sig .tc := ⟨.hbm, 485, rfl⟩
abbrev main_v387 : Ref sig .tc := ⟨.hbm, 486, rfl⟩
abbrev main_v388 : Ref sig .tc := ⟨.hbm, 487, rfl⟩
abbrev main_v389 : Ref sig .tc := ⟨.hbm, 488, rfl⟩
abbrev main_v390 : Ref sig .tc := ⟨.hbm, 489, rfl⟩
abbrev main_v391 : Ref sig .tc := ⟨.hbm, 490, rfl⟩
abbrev main_c_97 : Ref sig .tc := ⟨.hbm, 491, rfl⟩
abbrev main_v392 : Ref sig .tc := ⟨.hbm, 492, rfl⟩
abbrev main_v393 : Ref sig .tc := ⟨.hbm, 493, rfl⟩
abbrev main_c_98 : Ref sig .tc := ⟨.hbm, 494, rfl⟩
abbrev main_v394 : Ref sig .tc := ⟨.hbm, 495, rfl⟩
abbrev main_v395 : Ref sig .tc := ⟨.hbm, 496, rfl⟩
abbrev main_v396 : Ref sig .tc := ⟨.hbm, 497, rfl⟩
abbrev main_v397 : Ref sig .tc := ⟨.hbm, 498, rfl⟩
abbrev main_v398 : Ref sig .tc := ⟨.hbm, 499, rfl⟩
abbrev main_c_99 : Ref sig .tc := ⟨.hbm, 500, rfl⟩
abbrev main_v399 : Ref sig .tc := ⟨.hbm, 501, rfl⟩
abbrev main_v400 : Ref sig .tc := ⟨.hbm, 502, rfl⟩
abbrev main_c_100 : Ref sig .tc := ⟨.hbm, 503, rfl⟩
abbrev main_v401 : Ref sig .tc := ⟨.hbm, 504, rfl⟩
abbrev main_v402 : Ref sig .tc := ⟨.hbm, 505, rfl⟩
abbrev main_v403 : Ref sig .tc := ⟨.hbm, 506, rfl⟩
abbrev main_v404 : Ref sig .tc := ⟨.hbm, 507, rfl⟩
abbrev main_v405 : Ref sig .tc := ⟨.hbm, 508, rfl⟩
abbrev main_c_101 : Ref sig .tc := ⟨.hbm, 509, rfl⟩
abbrev main_v406 : Ref sig .tc := ⟨.hbm, 510, rfl⟩
abbrev main_v407 : Ref sig .tc := ⟨.hbm, 511, rfl⟩
abbrev main_c_102 : Ref sig .tc := ⟨.hbm, 512, rfl⟩
abbrev main_v408 : Ref sig .tc := ⟨.hbm, 513, rfl⟩
abbrev main_v409 : Ref sig .tc := ⟨.hbm, 514, rfl⟩
abbrev main_v410 : Ref sig .tc := ⟨.hbm, 515, rfl⟩
abbrev main_v411 : Ref sig .tc := ⟨.hbm, 516, rfl⟩
abbrev main_v412 : Ref sig .tc := ⟨.hbm, 517, rfl⟩
abbrev main_c_103 : Ref sig .tc := ⟨.hbm, 518, rfl⟩
abbrev main_v413 : Ref sig .tc := ⟨.hbm, 519, rfl⟩
abbrev main_v414 : Ref sig .tc := ⟨.hbm, 520, rfl⟩
abbrev main_c_104 : Ref sig .tc := ⟨.hbm, 521, rfl⟩
abbrev main_v415 : Ref sig .tc := ⟨.hbm, 522, rfl⟩
abbrev main_v416 : Ref sig .tc := ⟨.hbm, 523, rfl⟩
abbrev main_v417 : Ref sig .tc := ⟨.hbm, 524, rfl⟩
abbrev main_v418 : Ref sig .tc := ⟨.hbm, 525, rfl⟩
abbrev main_v419 : Ref sig .tc := ⟨.hbm, 526, rfl⟩
abbrev main_v420 : Ref sig .tc := ⟨.hbm, 527, rfl⟩
abbrev main_v421 : Ref sig .tc := ⟨.hbm, 528, rfl⟩
abbrev main_v422 : Ref sig .tc := ⟨.hbm, 529, rfl⟩
abbrev main_c_105 : Ref sig .tc := ⟨.hbm, 530, rfl⟩
abbrev main_v423 : Ref sig .tc := ⟨.hbm, 531, rfl⟩
abbrev main_v424 : Ref sig .tc := ⟨.hbm, 532, rfl⟩
abbrev main_v425 : Ref sig .tc := ⟨.hbm, 533, rfl⟩
abbrev main_c_106 : Ref sig .tc := ⟨.hbm, 534, rfl⟩
abbrev main_v426 : Ref sig .tc := ⟨.hbm, 535, rfl⟩
abbrev main_v427 : Ref sig .tc := ⟨.hbm, 536, rfl⟩
abbrev main_c_107 : Ref sig .tc := ⟨.hbm, 537, rfl⟩
abbrev main_v428 : Ref sig .tc := ⟨.hbm, 538, rfl⟩
abbrev main_v429 : Ref sig .tc := ⟨.hbm, 539, rfl⟩
abbrev main_v430 : Ref sig .tc := ⟨.hbm, 540, rfl⟩
abbrev main_v431 : Ref sig .tc := ⟨.hbm, 541, rfl⟩
abbrev main_v432 : Ref sig .tc := ⟨.hbm, 542, rfl⟩
abbrev main_c_108 : Ref sig .tc := ⟨.hbm, 543, rfl⟩
abbrev main_v433 : Ref sig .tc := ⟨.hbm, 544, rfl⟩
abbrev main_v434 : Ref sig .tc := ⟨.hbm, 545, rfl⟩
abbrev main_c_109 : Ref sig .tc := ⟨.hbm, 546, rfl⟩
abbrev main_v435 : Ref sig .tc := ⟨.hbm, 547, rfl⟩
abbrev main_v436 : Ref sig .tc := ⟨.hbm, 548, rfl⟩
abbrev main_v437 : Ref sig .tc := ⟨.hbm, 549, rfl⟩
abbrev main_v438 : Ref sig .tc := ⟨.hbm, 550, rfl⟩
abbrev main_v439 : Ref sig .tc := ⟨.hbm, 551, rfl⟩
abbrev main_c_110 : Ref sig .tc := ⟨.hbm, 552, rfl⟩
abbrev main_v440 : Ref sig .tc := ⟨.hbm, 553, rfl⟩
abbrev main_v441 : Ref sig .tc := ⟨.hbm, 554, rfl⟩
abbrev main_c_111 : Ref sig .tc := ⟨.hbm, 555, rfl⟩
abbrev main_v442 : Ref sig .tc := ⟨.hbm, 556, rfl⟩
abbrev main_v443 : Ref sig .tc := ⟨.hbm, 557, rfl⟩
abbrev main_v444 : Ref sig .tc := ⟨.hbm, 558, rfl⟩
abbrev main_v445 : Ref sig .tc := ⟨.hbm, 559, rfl⟩
abbrev main_v446 : Ref sig .tc := ⟨.hbm, 560, rfl⟩
abbrev main_c_112 : Ref sig .tc := ⟨.hbm, 561, rfl⟩
abbrev main_v447 : Ref sig .tc := ⟨.hbm, 562, rfl⟩
abbrev main_v448 : Ref sig .tc := ⟨.hbm, 563, rfl⟩
abbrev main_c_113 : Ref sig .tc := ⟨.hbm, 564, rfl⟩
abbrev main_v449 : Ref sig .tc := ⟨.hbm, 565, rfl⟩
abbrev main_v450 : Ref sig .tc := ⟨.hbm, 566, rfl⟩
abbrev main_v451 : Ref sig .tc := ⟨.hbm, 567, rfl⟩
abbrev main_v452 : Ref sig .tc := ⟨.hbm, 568, rfl⟩
abbrev main_v453 : Ref sig .tc := ⟨.hbm, 569, rfl⟩
abbrev main_v454 : Ref sig .tc := ⟨.hbm, 570, rfl⟩
abbrev main_v455 : Ref sig .tc := ⟨.hbm, 571, rfl⟩
abbrev main_v456 : Ref sig .tc := ⟨.hbm, 572, rfl⟩
abbrev main_c_114 : Ref sig .tc := ⟨.hbm, 573, rfl⟩
abbrev main_v457 : Ref sig .tc := ⟨.hbm, 574, rfl⟩
abbrev main_v458 : Ref sig .tc := ⟨.hbm, 575, rfl⟩
abbrev main_v459 : Ref sig .tc := ⟨.hbm, 576, rfl⟩
abbrev main_c_115 : Ref sig .tc := ⟨.hbm, 577, rfl⟩
abbrev main_v460 : Ref sig .tc := ⟨.hbm, 578, rfl⟩
abbrev main_v461 : Ref sig .tc := ⟨.hbm, 579, rfl⟩
abbrev main_c_116 : Ref sig .tc := ⟨.hbm, 580, rfl⟩
abbrev main_v462 : Ref sig .tc := ⟨.hbm, 581, rfl⟩
abbrev main_v463 : Ref sig .tc := ⟨.hbm, 582, rfl⟩
abbrev main_v464 : Ref sig .tc := ⟨.hbm, 583, rfl⟩
abbrev main_v465 : Ref sig .tc := ⟨.hbm, 584, rfl⟩
abbrev main_v466 : Ref sig .tc := ⟨.hbm, 585, rfl⟩
abbrev main_c_117 : Ref sig .tc := ⟨.hbm, 586, rfl⟩
abbrev main_v467 : Ref sig .tc := ⟨.hbm, 587, rfl⟩
abbrev main_v468 : Ref sig .tc := ⟨.hbm, 588, rfl⟩
abbrev main_c_118 : Ref sig .tc := ⟨.hbm, 589, rfl⟩
abbrev main_v469 : Ref sig .tc := ⟨.hbm, 590, rfl⟩
abbrev main_v470 : Ref sig .tc := ⟨.hbm, 591, rfl⟩
abbrev main_v471 : Ref sig .tc := ⟨.hbm, 592, rfl⟩
abbrev main_v472 : Ref sig .tc := ⟨.hbm, 593, rfl⟩
abbrev main_v473 : Ref sig .tc := ⟨.hbm, 594, rfl⟩
abbrev main_c_119 : Ref sig .tc := ⟨.hbm, 595, rfl⟩
abbrev main_v474 : Ref sig .tc := ⟨.hbm, 596, rfl⟩
abbrev main_v475 : Ref sig .tc := ⟨.hbm, 597, rfl⟩
abbrev main_c_120 : Ref sig .tc := ⟨.hbm, 598, rfl⟩
abbrev main_v476 : Ref sig .tc := ⟨.hbm, 599, rfl⟩
abbrev main_v477 : Ref sig .tc := ⟨.hbm, 600, rfl⟩
abbrev main_v478 : Ref sig .tc := ⟨.hbm, 601, rfl⟩
abbrev main_v479 : Ref sig .tc := ⟨.hbm, 602, rfl⟩
abbrev main_v480 : Ref sig .tc := ⟨.hbm, 603, rfl⟩
abbrev main_c_121 : Ref sig .tc := ⟨.hbm, 604, rfl⟩
abbrev main_v481 : Ref sig .tc := ⟨.hbm, 605, rfl⟩
abbrev main_v482 : Ref sig .tc := ⟨.hbm, 606, rfl⟩
abbrev main_c_122 : Ref sig .tc := ⟨.hbm, 607, rfl⟩
abbrev main_v483 : Ref sig .tc := ⟨.hbm, 608, rfl⟩
abbrev main_v484 : Ref sig .tc := ⟨.hbm, 609, rfl⟩
abbrev main_v485 : Ref sig .tc := ⟨.hbm, 610, rfl⟩
abbrev main_v486 : Ref sig .tc := ⟨.hbm, 611, rfl⟩
abbrev main_v487 : Ref sig .tc := ⟨.hbm, 612, rfl⟩
abbrev main_v488 : Ref sig .tc := ⟨.hbm, 613, rfl⟩
abbrev main_v489 : Ref sig .tc := ⟨.hbm, 614, rfl⟩
abbrev main_v490 : Ref sig .tc := ⟨.hbm, 615, rfl⟩
abbrev main_c_123 : Ref sig .tc := ⟨.hbm, 616, rfl⟩
abbrev main_v491 : Ref sig .tc := ⟨.hbm, 617, rfl⟩
abbrev main_v492 : Ref sig .tc := ⟨.hbm, 618, rfl⟩
abbrev main_v493 : Ref sig .tc := ⟨.hbm, 619, rfl⟩
abbrev main_c_124 : Ref sig .tc := ⟨.hbm, 620, rfl⟩
abbrev main_v494 : Ref sig .tc := ⟨.hbm, 621, rfl⟩
abbrev main_v495 : Ref sig .tc := ⟨.hbm, 622, rfl⟩
abbrev main_c_125 : Ref sig .tc := ⟨.hbm, 623, rfl⟩
abbrev main_v496 : Ref sig .tc := ⟨.hbm, 624, rfl⟩
abbrev main_v497 : Ref sig .tc := ⟨.hbm, 625, rfl⟩
abbrev main_v498 : Ref sig .tc := ⟨.hbm, 626, rfl⟩
abbrev main_v499 : Ref sig .tc := ⟨.hbm, 627, rfl⟩
abbrev main_v500 : Ref sig .tc := ⟨.hbm, 628, rfl⟩
abbrev main_c_126 : Ref sig .tc := ⟨.hbm, 629, rfl⟩
abbrev main_v501 : Ref sig .tc := ⟨.hbm, 630, rfl⟩
abbrev main_v502 : Ref sig .tc := ⟨.hbm, 631, rfl⟩
abbrev main_c_127 : Ref sig .tc := ⟨.hbm, 632, rfl⟩
abbrev main_v503 : Ref sig .tc := ⟨.hbm, 633, rfl⟩
abbrev main_v504 : Ref sig .tc := ⟨.hbm, 634, rfl⟩
abbrev main_v505 : Ref sig .tc := ⟨.hbm, 635, rfl⟩
abbrev main_v506 : Ref sig .tc := ⟨.hbm, 636, rfl⟩
abbrev main_v507 : Ref sig .tc := ⟨.hbm, 637, rfl⟩
abbrev main_c_128 : Ref sig .tc := ⟨.hbm, 638, rfl⟩
abbrev main_v508 : Ref sig .tc := ⟨.hbm, 639, rfl⟩
abbrev main_v509 : Ref sig .tc := ⟨.hbm, 640, rfl⟩
abbrev main_c_129 : Ref sig .tc := ⟨.hbm, 641, rfl⟩
abbrev main_v510 : Ref sig .tc := ⟨.hbm, 642, rfl⟩
abbrev main_v511 : Ref sig .tc := ⟨.hbm, 643, rfl⟩
abbrev main_v512 : Ref sig .tc := ⟨.hbm, 644, rfl⟩
abbrev main_v513 : Ref sig .tc := ⟨.hbm, 645, rfl⟩
abbrev main_v514 : Ref sig .tc := ⟨.hbm, 646, rfl⟩
abbrev main_c_130 : Ref sig .tc := ⟨.hbm, 647, rfl⟩
abbrev main_v515 : Ref sig .tc := ⟨.hbm, 648, rfl⟩
abbrev main_v516 : Ref sig .tc := ⟨.hbm, 649, rfl⟩
abbrev main_c_131 : Ref sig .tc := ⟨.hbm, 650, rfl⟩
abbrev main_v517 : Ref sig .tc := ⟨.hbm, 651, rfl⟩
abbrev main_v518 : Ref sig .tc := ⟨.hbm, 652, rfl⟩
abbrev main_v519 : Ref sig .tc := ⟨.hbm, 653, rfl⟩
abbrev main_v520 : Ref sig .tc := ⟨.hbm, 654, rfl⟩
abbrev main_v521 : Ref sig .tc := ⟨.hbm, 655, rfl⟩
abbrev main_v522 : Ref sig .tc := ⟨.hbm, 656, rfl⟩
abbrev main_v523 : Ref sig .tc := ⟨.hbm, 657, rfl⟩
abbrev main_v524 : Ref sig .tc := ⟨.hbm, 658, rfl⟩
abbrev main_c_132 : Ref sig .tc := ⟨.hbm, 659, rfl⟩
abbrev main_v525 : Ref sig .tc := ⟨.hbm, 660, rfl⟩
abbrev main_v526 : Ref sig .tc := ⟨.hbm, 661, rfl⟩
abbrev main_v527 : Ref sig .tc := ⟨.hbm, 662, rfl⟩
abbrev main_c_133 : Ref sig .tc := ⟨.hbm, 663, rfl⟩
abbrev main_v528 : Ref sig .tc := ⟨.hbm, 664, rfl⟩
abbrev main_v529 : Ref sig .tc := ⟨.hbm, 665, rfl⟩
abbrev main_c_134 : Ref sig .tc := ⟨.hbm, 666, rfl⟩
abbrev main_v530 : Ref sig .tc := ⟨.hbm, 667, rfl⟩
abbrev main_v531 : Ref sig .tc := ⟨.hbm, 668, rfl⟩
abbrev main_v532 : Ref sig .tc := ⟨.hbm, 669, rfl⟩
abbrev main_v533 : Ref sig .tc := ⟨.hbm, 670, rfl⟩
abbrev main_v534 : Ref sig .tc := ⟨.hbm, 671, rfl⟩
abbrev main_c_135 : Ref sig .tc := ⟨.hbm, 672, rfl⟩
abbrev main_v535 : Ref sig .tc := ⟨.hbm, 673, rfl⟩
abbrev main_v536 : Ref sig .tc := ⟨.hbm, 674, rfl⟩
abbrev main_c_136 : Ref sig .tc := ⟨.hbm, 675, rfl⟩
abbrev main_v537 : Ref sig .tc := ⟨.hbm, 676, rfl⟩
abbrev main_v538 : Ref sig .tc := ⟨.hbm, 677, rfl⟩
abbrev main_v539 : Ref sig .tc := ⟨.hbm, 678, rfl⟩
abbrev main_v540 : Ref sig .tc := ⟨.hbm, 679, rfl⟩
abbrev main_v541 : Ref sig .tc := ⟨.hbm, 680, rfl⟩
abbrev main_c_137 : Ref sig .tc := ⟨.hbm, 681, rfl⟩
abbrev main_v542 : Ref sig .tc := ⟨.hbm, 682, rfl⟩
abbrev main_v543 : Ref sig .tc := ⟨.hbm, 683, rfl⟩
abbrev main_c_138 : Ref sig .tc := ⟨.hbm, 684, rfl⟩
abbrev main_v544 : Ref sig .tc := ⟨.hbm, 685, rfl⟩
abbrev main_v545 : Ref sig .tc := ⟨.hbm, 686, rfl⟩
abbrev main_v546 : Ref sig .tc := ⟨.hbm, 687, rfl⟩
abbrev main_v547 : Ref sig .tc := ⟨.hbm, 688, rfl⟩
abbrev main_v548 : Ref sig .tc := ⟨.hbm, 689, rfl⟩
abbrev main_c_139 : Ref sig .tc := ⟨.hbm, 690, rfl⟩
abbrev main_v549 : Ref sig .tc := ⟨.hbm, 691, rfl⟩
abbrev main_v550 : Ref sig .tc := ⟨.hbm, 692, rfl⟩
abbrev main_c_140 : Ref sig .tc := ⟨.hbm, 693, rfl⟩
abbrev main_v551 : Ref sig .tc := ⟨.hbm, 694, rfl⟩
abbrev main_v552 : Ref sig .tc := ⟨.hbm, 695, rfl⟩
abbrev main_v553 : Ref sig .tc := ⟨.hbm, 696, rfl⟩
abbrev main_v554 : Ref sig .tc := ⟨.hbm, 697, rfl⟩
abbrev main_v555 : Ref sig .tc := ⟨.hbm, 698, rfl⟩
abbrev main_v556 : Ref sig .tc := ⟨.hbm, 699, rfl⟩
abbrev main_v557 : Ref sig .tc := ⟨.hbm, 700, rfl⟩
abbrev main_v558 : Ref sig .tc := ⟨.hbm, 701, rfl⟩
abbrev main_c_141 : Ref sig .tc := ⟨.hbm, 702, rfl⟩
abbrev main_v559 : Ref sig .tc := ⟨.hbm, 703, rfl⟩
abbrev main_v560 : Ref sig .tc := ⟨.hbm, 704, rfl⟩
abbrev main_v561 : Ref sig .tc := ⟨.hbm, 705, rfl⟩
abbrev main_v562 : Ref sig .tc := ⟨.hbm, 706, rfl⟩
abbrev main_v563 : Ref sig .tc := ⟨.hbm, 707, rfl⟩
abbrev main_v564 : Ref sig .tc := ⟨.hbm, 708, rfl⟩
abbrev main_v565 : Ref sig .tc := ⟨.hbm, 709, rfl⟩
abbrev main_c_142 : Ref sig .tc := ⟨.hbm, 710, rfl⟩
abbrev main_c_143 : Ref sig .tc := ⟨.hbm, 711, rfl⟩
abbrev main_v566 : Ref sig .tc := ⟨.hbm, 712, rfl⟩
abbrev main_v567 : Ref sig .tc := ⟨.hbm, 713, rfl⟩
abbrev main_c_144 : Ref sig .tc := ⟨.hbm, 714, rfl⟩
abbrev main_v568 : Ref sig .tc := ⟨.hbm, 715, rfl⟩
abbrev main_c_145 : Ref sig .tc := ⟨.hbm, 716, rfl⟩
abbrev main_v569 : Ref sig .tc := ⟨.hbm, 717, rfl⟩
abbrev main_v570 : Ref sig .tc := ⟨.hbm, 718, rfl⟩
abbrev main_v571 : Ref sig .tc := ⟨.hbm, 719, rfl⟩
abbrev main_v572 : Ref sig .tc := ⟨.hbm, 720, rfl⟩
abbrev main_c_146 : Ref sig .tc := ⟨.hbm, 721, rfl⟩
abbrev main_v573 : Ref sig .tc := ⟨.hbm, 722, rfl⟩
abbrev main_v574 : Ref sig .tc := ⟨.hbm, 723, rfl⟩
abbrev main_v575 : Ref sig .tc := ⟨.hbm, 724, rfl⟩
abbrev main_c_147 : Ref sig .tc := ⟨.hbm, 725, rfl⟩
abbrev main_v576 : Ref sig .tc := ⟨.hbm, 726, rfl⟩
abbrev main_v577 : Ref sig .tc := ⟨.hbm, 727, rfl⟩
abbrev main_v578 : Ref sig .tc := ⟨.hbm, 728, rfl⟩
abbrev main_v579 : Ref sig .tc := ⟨.hbm, 729, rfl⟩
abbrev main_v580 : Ref sig .tc := ⟨.hbm, 730, rfl⟩
abbrev main_v581 : Ref sig .tc := ⟨.hbm, 731, rfl⟩
abbrev main_v582 : Ref sig .tc := ⟨.hbm, 732, rfl⟩
abbrev main_v583 : Ref sig .tc := ⟨.hbm, 733, rfl⟩
abbrev main_v584 : Ref sig .tc := ⟨.hbm, 734, rfl⟩
abbrev main_c_148 : Ref sig .tc := ⟨.hbm, 735, rfl⟩
abbrev main_v585 : Ref sig .tc := ⟨.hbm, 736, rfl⟩
abbrev main_v586 : Ref sig .tc := ⟨.hbm, 737, rfl⟩
abbrev main_v587 : Ref sig .tc := ⟨.hbm, 738, rfl⟩
abbrev main_v588 : Ref sig .tc := ⟨.hbm, 739, rfl⟩
abbrev main_c_149 : Ref sig .tc := ⟨.hbm, 740, rfl⟩
abbrev main_v589 : Ref sig .tc := ⟨.hbm, 741, rfl⟩
abbrev main_v590 : Ref sig .tc := ⟨.hbm, 742, rfl⟩
abbrev main_v591 : Ref sig .tc := ⟨.hbm, 743, rfl⟩
abbrev main_v592 : Ref sig .tc := ⟨.hbm, 744, rfl⟩
abbrev main_v593 : Ref sig .tc := ⟨.hbm, 745, rfl⟩
abbrev main_v594 : Ref sig .tc := ⟨.hbm, 746, rfl⟩
abbrev main_v595 : Ref sig .tc := ⟨.hbm, 747, rfl⟩
abbrev main_c_150 : Ref sig .tc := ⟨.hbm, 748, rfl⟩
abbrev main_v596 : Ref sig .tc := ⟨.hbm, 749, rfl⟩
abbrev main_v597 : Ref sig .tc := ⟨.hbm, 750, rfl⟩
abbrev main_c_151 : Ref sig .tc := ⟨.hbm, 751, rfl⟩
abbrev main_v598 : Ref sig .tc := ⟨.hbm, 752, rfl⟩
abbrev main_v599 : Ref sig .tc := ⟨.hbm, 753, rfl⟩
abbrev main_v600 : Ref sig .tc := ⟨.hbm, 754, rfl⟩
abbrev main_v601 : Ref sig .tc := ⟨.hbm, 755, rfl⟩
abbrev main_v602 : Ref sig .tc := ⟨.hbm, 756, rfl⟩
abbrev main_c_152 : Ref sig .tc := ⟨.hbm, 757, rfl⟩
abbrev main_v603 : Ref sig .tc := ⟨.hbm, 758, rfl⟩
abbrev main_v604 : Ref sig .tc := ⟨.hbm, 759, rfl⟩
abbrev main_c_153 : Ref sig .tc := ⟨.hbm, 760, rfl⟩
abbrev main_v605 : Ref sig .tc := ⟨.hbm, 761, rfl⟩
abbrev main_v606 : Ref sig .tc := ⟨.hbm, 762, rfl⟩
abbrev main_v607 : Ref sig .tc := ⟨.hbm, 763, rfl⟩
abbrev main_v608 : Ref sig .tc := ⟨.hbm, 764, rfl⟩
abbrev main_v609 : Ref sig .tc := ⟨.hbm, 765, rfl⟩
abbrev main_c_154 : Ref sig .tc := ⟨.hbm, 766, rfl⟩
abbrev main_v610 : Ref sig .tc := ⟨.hbm, 767, rfl⟩
abbrev main_v611 : Ref sig .tc := ⟨.hbm, 768, rfl⟩
abbrev main_c_155 : Ref sig .tc := ⟨.hbm, 769, rfl⟩
abbrev main_v612 : Ref sig .tc := ⟨.hbm, 770, rfl⟩
abbrev main_v613 : Ref sig .tc := ⟨.hbm, 771, rfl⟩
abbrev main_v614 : Ref sig .tc := ⟨.hbm, 772, rfl⟩
abbrev main_v615 : Ref sig .tc := ⟨.hbm, 773, rfl⟩
abbrev main_v616 : Ref sig .tc := ⟨.hbm, 774, rfl⟩
abbrev main_c_156 : Ref sig .tc := ⟨.hbm, 775, rfl⟩
abbrev main_v617 : Ref sig .tc := ⟨.hbm, 776, rfl⟩
abbrev main_v618 : Ref sig .tc := ⟨.hbm, 777, rfl⟩
abbrev main_c_157 : Ref sig .tc := ⟨.hbm, 778, rfl⟩
abbrev main_v619 : Ref sig .tc := ⟨.hbm, 779, rfl⟩
abbrev main_v620 : Ref sig .tc := ⟨.hbm, 780, rfl⟩
abbrev main_v621 : Ref sig .tc := ⟨.hbm, 781, rfl⟩
abbrev main_v622 : Ref sig .tc := ⟨.hbm, 782, rfl⟩
abbrev main_v623 : Ref sig .tc := ⟨.hbm, 783, rfl⟩
abbrev main_v624 : Ref sig .tc := ⟨.hbm, 784, rfl⟩
abbrev main_v625 : Ref sig .tc := ⟨.hbm, 785, rfl⟩
abbrev main_v626 : Ref sig .tc := ⟨.hbm, 786, rfl⟩
abbrev main_c_158 : Ref sig .tc := ⟨.hbm, 787, rfl⟩
abbrev main_v627 : Ref sig .tc := ⟨.hbm, 788, rfl⟩
abbrev main_v628 : Ref sig .tc := ⟨.hbm, 789, rfl⟩
abbrev main_v629 : Ref sig .tc := ⟨.hbm, 790, rfl⟩
abbrev main_c_159 : Ref sig .tc := ⟨.hbm, 791, rfl⟩
abbrev main_v630 : Ref sig .tc := ⟨.hbm, 792, rfl⟩
abbrev main_v631 : Ref sig .tc := ⟨.hbm, 793, rfl⟩
abbrev main_c_160 : Ref sig .tc := ⟨.hbm, 794, rfl⟩
abbrev main_v632 : Ref sig .tc := ⟨.hbm, 795, rfl⟩
abbrev main_v633 : Ref sig .tc := ⟨.hbm, 796, rfl⟩
abbrev main_v634 : Ref sig .tc := ⟨.hbm, 797, rfl⟩
abbrev main_v635 : Ref sig .tc := ⟨.hbm, 798, rfl⟩
abbrev main_v636 : Ref sig .tc := ⟨.hbm, 799, rfl⟩
abbrev main_c_161 : Ref sig .tc := ⟨.hbm, 800, rfl⟩
abbrev main_v637 : Ref sig .tc := ⟨.hbm, 801, rfl⟩
abbrev main_v638 : Ref sig .tc := ⟨.hbm, 802, rfl⟩
abbrev main_c_162 : Ref sig .tc := ⟨.hbm, 803, rfl⟩
abbrev main_v639 : Ref sig .tc := ⟨.hbm, 804, rfl⟩
abbrev main_v640 : Ref sig .tc := ⟨.hbm, 805, rfl⟩
abbrev main_v641 : Ref sig .tc := ⟨.hbm, 806, rfl⟩
abbrev main_v642 : Ref sig .tc := ⟨.hbm, 807, rfl⟩
abbrev main_v643 : Ref sig .tc := ⟨.hbm, 808, rfl⟩
abbrev main_c_163 : Ref sig .tc := ⟨.hbm, 809, rfl⟩
abbrev main_v644 : Ref sig .tc := ⟨.hbm, 810, rfl⟩
abbrev main_v645 : Ref sig .tc := ⟨.hbm, 811, rfl⟩
abbrev main_c_164 : Ref sig .tc := ⟨.hbm, 812, rfl⟩
abbrev main_v646 : Ref sig .tc := ⟨.hbm, 813, rfl⟩
abbrev main_v647 : Ref sig .tc := ⟨.hbm, 814, rfl⟩
abbrev main_v648 : Ref sig .tc := ⟨.hbm, 815, rfl⟩
abbrev main_v649 : Ref sig .tc := ⟨.hbm, 816, rfl⟩
abbrev main_v650 : Ref sig .tc := ⟨.hbm, 817, rfl⟩
abbrev main_c_165 : Ref sig .tc := ⟨.hbm, 818, rfl⟩
abbrev main_v651 : Ref sig .tc := ⟨.hbm, 819, rfl⟩
abbrev main_v652 : Ref sig .tc := ⟨.hbm, 820, rfl⟩
abbrev main_c_166 : Ref sig .tc := ⟨.hbm, 821, rfl⟩
abbrev main_v653 : Ref sig .tc := ⟨.hbm, 822, rfl⟩
abbrev main_v654 : Ref sig .tc := ⟨.hbm, 823, rfl⟩
abbrev main_v655 : Ref sig .tc := ⟨.hbm, 824, rfl⟩
abbrev main_v656 : Ref sig .tc := ⟨.hbm, 825, rfl⟩
abbrev main_v657 : Ref sig .tc := ⟨.hbm, 826, rfl⟩
abbrev main_v658 : Ref sig .tc := ⟨.hbm, 827, rfl⟩
abbrev main_v659 : Ref sig .tc := ⟨.hbm, 828, rfl⟩
abbrev main_v660 : Ref sig .tc := ⟨.hbm, 829, rfl⟩
abbrev main_c_167 : Ref sig .tc := ⟨.hbm, 830, rfl⟩
abbrev main_v661 : Ref sig .tc := ⟨.hbm, 831, rfl⟩
abbrev main_v662 : Ref sig .tc := ⟨.hbm, 832, rfl⟩
abbrev main_v663 : Ref sig .tc := ⟨.hbm, 833, rfl⟩
abbrev main_c_168 : Ref sig .tc := ⟨.hbm, 834, rfl⟩
abbrev main_v664 : Ref sig .tc := ⟨.hbm, 835, rfl⟩
abbrev main_v665 : Ref sig .tc := ⟨.hbm, 836, rfl⟩
abbrev main_c_169 : Ref sig .tc := ⟨.hbm, 837, rfl⟩
abbrev main_v666 : Ref sig .tc := ⟨.hbm, 838, rfl⟩
abbrev main_v667 : Ref sig .tc := ⟨.hbm, 839, rfl⟩
abbrev main_v668 : Ref sig .tc := ⟨.hbm, 840, rfl⟩
abbrev main_v669 : Ref sig .tc := ⟨.hbm, 841, rfl⟩
abbrev main_v670 : Ref sig .tc := ⟨.hbm, 842, rfl⟩
abbrev main_c_170 : Ref sig .tc := ⟨.hbm, 843, rfl⟩
abbrev main_v671 : Ref sig .tc := ⟨.hbm, 844, rfl⟩
abbrev main_v672 : Ref sig .tc := ⟨.hbm, 845, rfl⟩
abbrev main_c_171 : Ref sig .tc := ⟨.hbm, 846, rfl⟩
abbrev main_v673 : Ref sig .tc := ⟨.hbm, 847, rfl⟩
abbrev main_v674 : Ref sig .tc := ⟨.hbm, 848, rfl⟩
abbrev main_v675 : Ref sig .tc := ⟨.hbm, 849, rfl⟩
abbrev main_v676 : Ref sig .tc := ⟨.hbm, 850, rfl⟩
abbrev main_v677 : Ref sig .tc := ⟨.hbm, 851, rfl⟩
abbrev main_c_172 : Ref sig .tc := ⟨.hbm, 852, rfl⟩
abbrev main_v678 : Ref sig .tc := ⟨.hbm, 853, rfl⟩
abbrev main_v679 : Ref sig .tc := ⟨.hbm, 854, rfl⟩
abbrev main_c_173 : Ref sig .tc := ⟨.hbm, 855, rfl⟩
abbrev main_v680 : Ref sig .tc := ⟨.hbm, 856, rfl⟩
abbrev main_v681 : Ref sig .tc := ⟨.hbm, 857, rfl⟩
abbrev main_v682 : Ref sig .tc := ⟨.hbm, 858, rfl⟩
abbrev main_v683 : Ref sig .tc := ⟨.hbm, 859, rfl⟩
abbrev main_v684 : Ref sig .tc := ⟨.hbm, 860, rfl⟩
abbrev main_c_174 : Ref sig .tc := ⟨.hbm, 861, rfl⟩
abbrev main_v685 : Ref sig .tc := ⟨.hbm, 862, rfl⟩
abbrev main_v686 : Ref sig .tc := ⟨.hbm, 863, rfl⟩
abbrev main_c_175 : Ref sig .tc := ⟨.hbm, 864, rfl⟩
abbrev main_v687 : Ref sig .tc := ⟨.hbm, 865, rfl⟩
abbrev main_v688 : Ref sig .tc := ⟨.hbm, 866, rfl⟩
abbrev main_v689 : Ref sig .tc := ⟨.hbm, 867, rfl⟩
abbrev main_v690 : Ref sig .tc := ⟨.hbm, 868, rfl⟩
abbrev main_v691 : Ref sig .tc := ⟨.hbm, 869, rfl⟩
abbrev main_v692 : Ref sig .tc := ⟨.hbm, 870, rfl⟩
abbrev main_v693 : Ref sig .tc := ⟨.hbm, 871, rfl⟩
abbrev main_v694 : Ref sig .tc := ⟨.hbm, 872, rfl⟩
abbrev main_c_176 : Ref sig .tc := ⟨.hbm, 873, rfl⟩
abbrev main_v695 : Ref sig .tc := ⟨.hbm, 874, rfl⟩
abbrev main_v696 : Ref sig .tc := ⟨.hbm, 875, rfl⟩
abbrev main_v697 : Ref sig .tc := ⟨.hbm, 876, rfl⟩
abbrev main_c_177 : Ref sig .tc := ⟨.hbm, 877, rfl⟩
abbrev main_v698 : Ref sig .tc := ⟨.hbm, 878, rfl⟩
abbrev main_v699 : Ref sig .tc := ⟨.hbm, 879, rfl⟩
abbrev main_c_178 : Ref sig .tc := ⟨.hbm, 880, rfl⟩
abbrev main_v700 : Ref sig .tc := ⟨.hbm, 881, rfl⟩
abbrev main_v701 : Ref sig .tc := ⟨.hbm, 882, rfl⟩
abbrev main_v702 : Ref sig .tc := ⟨.hbm, 883, rfl⟩
abbrev main_v703 : Ref sig .tc := ⟨.hbm, 884, rfl⟩
abbrev main_v704 : Ref sig .tc := ⟨.hbm, 885, rfl⟩
abbrev main_c_179 : Ref sig .tc := ⟨.hbm, 886, rfl⟩
abbrev main_v705 : Ref sig .tc := ⟨.hbm, 887, rfl⟩
abbrev main_v706 : Ref sig .tc := ⟨.hbm, 888, rfl⟩
abbrev main_c_180 : Ref sig .tc := ⟨.hbm, 889, rfl⟩
abbrev main_v707 : Ref sig .tc := ⟨.hbm, 890, rfl⟩
abbrev main_v708 : Ref sig .tc := ⟨.hbm, 891, rfl⟩
abbrev main_v709 : Ref sig .tc := ⟨.hbm, 892, rfl⟩
abbrev main_v710 : Ref sig .tc := ⟨.hbm, 893, rfl⟩
abbrev main_v711 : Ref sig .tc := ⟨.hbm, 894, rfl⟩
abbrev main_c_181 : Ref sig .tc := ⟨.hbm, 895, rfl⟩
abbrev main_v712 : Ref sig .tc := ⟨.hbm, 896, rfl⟩
abbrev main_v713 : Ref sig .tc := ⟨.hbm, 897, rfl⟩
abbrev main_c_182 : Ref sig .tc := ⟨.hbm, 898, rfl⟩
abbrev main_v714 : Ref sig .tc := ⟨.hbm, 899, rfl⟩
abbrev main_v715 : Ref sig .tc := ⟨.hbm, 900, rfl⟩
abbrev main_v716 : Ref sig .tc := ⟨.hbm, 901, rfl⟩
abbrev main_v717 : Ref sig .tc := ⟨.hbm, 902, rfl⟩
abbrev main_v718 : Ref sig .tc := ⟨.hbm, 903, rfl⟩
abbrev main_c_183 : Ref sig .tc := ⟨.hbm, 904, rfl⟩
abbrev main_v719 : Ref sig .tc := ⟨.hbm, 905, rfl⟩
abbrev main_v720 : Ref sig .tc := ⟨.hbm, 906, rfl⟩
abbrev main_c_184 : Ref sig .tc := ⟨.hbm, 907, rfl⟩
abbrev main_v721 : Ref sig .tc := ⟨.hbm, 908, rfl⟩
abbrev main_v722 : Ref sig .tc := ⟨.hbm, 909, rfl⟩
abbrev main_v723 : Ref sig .tc := ⟨.hbm, 910, rfl⟩
abbrev main_v724 : Ref sig .tc := ⟨.hbm, 911, rfl⟩
abbrev main_v725 : Ref sig .tc := ⟨.hbm, 912, rfl⟩
abbrev main_v726 : Ref sig .tc := ⟨.hbm, 913, rfl⟩
abbrev main_v727 : Ref sig .tc := ⟨.hbm, 914, rfl⟩
abbrev main_v728 : Ref sig .tc := ⟨.hbm, 915, rfl⟩
abbrev main_c_185 : Ref sig .tc := ⟨.hbm, 916, rfl⟩
abbrev main_v729 : Ref sig .tc := ⟨.hbm, 917, rfl⟩
abbrev main_v730 : Ref sig .tc := ⟨.hbm, 918, rfl⟩
abbrev main_v731 : Ref sig .tc := ⟨.hbm, 919, rfl⟩
abbrev main_c_186 : Ref sig .tc := ⟨.hbm, 920, rfl⟩
abbrev main_v732 : Ref sig .tc := ⟨.hbm, 921, rfl⟩
abbrev main_v733 : Ref sig .tc := ⟨.hbm, 922, rfl⟩
abbrev main_c_187 : Ref sig .tc := ⟨.hbm, 923, rfl⟩
abbrev main_v734 : Ref sig .tc := ⟨.hbm, 924, rfl⟩
abbrev main_v735 : Ref sig .tc := ⟨.hbm, 925, rfl⟩
abbrev main_v736 : Ref sig .tc := ⟨.hbm, 926, rfl⟩
abbrev main_v737 : Ref sig .tc := ⟨.hbm, 927, rfl⟩
abbrev main_v738 : Ref sig .tc := ⟨.hbm, 928, rfl⟩
abbrev main_c_188 : Ref sig .tc := ⟨.hbm, 929, rfl⟩
abbrev main_v739 : Ref sig .tc := ⟨.hbm, 930, rfl⟩
abbrev main_v740 : Ref sig .tc := ⟨.hbm, 931, rfl⟩
abbrev main_c_189 : Ref sig .tc := ⟨.hbm, 932, rfl⟩
abbrev main_v741 : Ref sig .tc := ⟨.hbm, 933, rfl⟩
abbrev main_v742 : Ref sig .tc := ⟨.hbm, 934, rfl⟩
abbrev main_v743 : Ref sig .tc := ⟨.hbm, 935, rfl⟩
abbrev main_v744 : Ref sig .tc := ⟨.hbm, 936, rfl⟩
abbrev main_v745 : Ref sig .tc := ⟨.hbm, 937, rfl⟩
abbrev main_c_190 : Ref sig .tc := ⟨.hbm, 938, rfl⟩
abbrev main_v746 : Ref sig .tc := ⟨.hbm, 939, rfl⟩
abbrev main_v747 : Ref sig .tc := ⟨.hbm, 940, rfl⟩
abbrev main_c_191 : Ref sig .tc := ⟨.hbm, 941, rfl⟩
abbrev main_v748 : Ref sig .tc := ⟨.hbm, 942, rfl⟩
abbrev main_v749 : Ref sig .tc := ⟨.hbm, 943, rfl⟩
abbrev main_v750 : Ref sig .tc := ⟨.hbm, 944, rfl⟩
abbrev main_v751 : Ref sig .tc := ⟨.hbm, 945, rfl⟩
abbrev main_v752 : Ref sig .tc := ⟨.hbm, 946, rfl⟩
abbrev main_c_192 : Ref sig .tc := ⟨.hbm, 947, rfl⟩
abbrev main_v753 : Ref sig .tc := ⟨.hbm, 948, rfl⟩
abbrev main_v754 : Ref sig .tc := ⟨.hbm, 949, rfl⟩
abbrev main_c_193 : Ref sig .tc := ⟨.hbm, 950, rfl⟩
abbrev main_v755 : Ref sig .tc := ⟨.hbm, 951, rfl⟩
abbrev main_v756 : Ref sig .tc := ⟨.hbm, 952, rfl⟩
abbrev main_v757 : Ref sig .tc := ⟨.hbm, 953, rfl⟩
abbrev main_v758 : Ref sig .tc := ⟨.hbm, 954, rfl⟩
abbrev main_v759 : Ref sig .tc := ⟨.hbm, 955, rfl⟩
abbrev main_v760 : Ref sig .tc := ⟨.hbm, 956, rfl⟩
abbrev main_v761 : Ref sig .tc := ⟨.hbm, 957, rfl⟩
abbrev main_v762 : Ref sig .tc := ⟨.hbm, 958, rfl⟩
abbrev main_c_194 : Ref sig .tc := ⟨.hbm, 959, rfl⟩
abbrev main_v763 : Ref sig .tc := ⟨.hbm, 960, rfl⟩
abbrev main_v764 : Ref sig .tc := ⟨.hbm, 961, rfl⟩
abbrev main_v765 : Ref sig .tc := ⟨.hbm, 962, rfl⟩
abbrev main_v766 : Ref sig .tc := ⟨.hbm, 963, rfl⟩
abbrev main_c_195 : Ref sig .tc := ⟨.hbm, 964, rfl⟩
abbrev main_v767 : Ref sig .tc := ⟨.hbm, 965, rfl⟩
abbrev main_v768 : Ref sig .tc := ⟨.hbm, 966, rfl⟩
abbrev main_c_196 : Ref sig .tc := ⟨.hbm, 967, rfl⟩
abbrev main_v769 : Ref sig .tc := ⟨.hbm, 968, rfl⟩
abbrev main_v770 : Ref sig .tc := ⟨.hbm, 969, rfl⟩
abbrev main_v771 : Ref sig .tc := ⟨.hbm, 970, rfl⟩
abbrev main_cst : Ref sig .tc := ⟨.hbm, 971, rfl⟩
abbrev main_v772 : Ref sig .tc := ⟨.hbm, 972, rfl⟩
abbrev main_v773 : Ref sig .tc := ⟨.hbm, 973, rfl⟩
abbrev main_cst_197 : Ref sig .tc := ⟨.hbm, 974, rfl⟩
abbrev main_v774 : Ref sig .tc := ⟨.hbm, 975, rfl⟩
abbrev main_v775 : Ref sig .tc := ⟨.hbm, 976, rfl⟩
abbrev main_cst_198 : Ref sig .tc := ⟨.hbm, 977, rfl⟩
abbrev main_v776 : Ref sig .tc := ⟨.hbm, 978, rfl⟩
abbrev main_v777 : Ref sig .tc := ⟨.hbm, 979, rfl⟩
abbrev main_cst_199 : Ref sig .tc := ⟨.hbm, 980, rfl⟩
abbrev main_v778 : Ref sig .tc := ⟨.hbm, 981, rfl⟩
abbrev main_v779 : Ref sig .tc := ⟨.hbm, 982, rfl⟩
abbrev main_v780 : Ref sig .tc := ⟨.hbm, 983, rfl⟩
abbrev main_v781 : Ref sig .tc := ⟨.hbm, 984, rfl⟩
abbrev main_v782 : Ref sig .tc := ⟨.hbm, 985, rfl⟩
abbrev main_v783 : Ref sig .tc := ⟨.hbm, 986, rfl⟩
abbrev main_cst_200 : Ref sig .tc := ⟨.hbm, 987, rfl⟩
abbrev main_v784 : Ref sig .tc := ⟨.hbm, 988, rfl⟩
abbrev main_v785 : Ref sig .tc := ⟨.hbm, 989, rfl⟩
abbrev main_cst_201 : Ref sig .tc := ⟨.hbm, 990, rfl⟩
abbrev main_v786 : Ref sig .tc := ⟨.hbm, 991, rfl⟩
abbrev main_v787 : Ref sig .tc := ⟨.hbm, 992, rfl⟩
abbrev main_v788 : Ref sig .tc := ⟨.hbm, 993, rfl⟩
abbrev main_cst_202 : Ref sig .tc := ⟨.hbm, 994, rfl⟩
abbrev main_v789 : Ref sig .tc := ⟨.hbm, 995, rfl⟩
abbrev main_v790 : Ref sig .tc := ⟨.hbm, 996, rfl⟩
abbrev main_v791 : Ref sig .tc := ⟨.hbm, 997, rfl⟩
abbrev main_cst_203 : Ref sig .tc := ⟨.hbm, 998, rfl⟩
abbrev main_v792 : Ref sig .tc := ⟨.hbm, 999, rfl⟩
abbrev main_cst_204 : Ref sig .tc := ⟨.hbm, 1000, rfl⟩
abbrev main_v793 : Ref sig .tc := ⟨.hbm, 1001, rfl⟩
abbrev main_v794 : Ref sig .tc := ⟨.hbm, 1002, rfl⟩
abbrev main_cst_205 : Ref sig .tc := ⟨.hbm, 1003, rfl⟩
abbrev main_v795 : Ref sig .tc := ⟨.hbm, 1004, rfl⟩
abbrev main_cst_206 : Ref sig .tc := ⟨.hbm, 1005, rfl⟩
abbrev main_v796 : Ref sig .tc := ⟨.hbm, 1006, rfl⟩
abbrev main_v797 : Ref sig .tc := ⟨.hbm, 1007, rfl⟩
abbrev main_v798 : Ref sig .tc := ⟨.hbm, 1008, rfl⟩
abbrev main_v799 : Ref sig .tc := ⟨.hbm, 1009, rfl⟩
abbrev main_cst_207 : Ref sig .tc := ⟨.hbm, 1010, rfl⟩
abbrev main_v800 : Ref sig .tc := ⟨.hbm, 1011, rfl⟩
abbrev main_cst_208 : Ref sig .tc := ⟨.hbm, 1012, rfl⟩
abbrev main_v801 : Ref sig .tc := ⟨.hbm, 1013, rfl⟩
abbrev main_v802 : Ref sig .tc := ⟨.hbm, 1014, rfl⟩
abbrev main_v803 : Ref sig .tc := ⟨.hbm, 1015, rfl⟩
abbrev main_v804 : Ref sig .tc := ⟨.hbm, 1016, rfl⟩
abbrev main_cst_209 : Ref sig .tc := ⟨.hbm, 1017, rfl⟩
abbrev main_v805 : Ref sig .tc := ⟨.hbm, 1018, rfl⟩
abbrev main_cst_210 : Ref sig .tc := ⟨.hbm, 1019, rfl⟩
abbrev main_v806 : Ref sig .tc := ⟨.hbm, 1020, rfl⟩
abbrev main_v807 : Ref sig .tc := ⟨.hbm, 1021, rfl⟩
abbrev main_v808 : Ref sig .tc := ⟨.hbm, 1022, rfl⟩
abbrev main_v809 : Ref sig .tc := ⟨.hbm, 1023, rfl⟩
abbrev main_cst_211 : Ref sig .tc := ⟨.hbm, 1024, rfl⟩
abbrev main_v810 : Ref sig .tc := ⟨.hbm, 1025, rfl⟩
abbrev main_cst_212 : Ref sig .tc := ⟨.hbm, 1026, rfl⟩
abbrev main_v811 : Ref sig .tc := ⟨.hbm, 1027, rfl⟩
abbrev main_v812 : Ref sig .tc := ⟨.hbm, 1028, rfl⟩
abbrev main_v813 : Ref sig .tc := ⟨.hbm, 1029, rfl⟩
abbrev main_v814 : Ref sig .tc := ⟨.hbm, 1030, rfl⟩
abbrev main_cst_213 : Ref sig .tc := ⟨.hbm, 1031, rfl⟩
abbrev main_v815 : Ref sig .tc := ⟨.hbm, 1032, rfl⟩
abbrev main_cst_214 : Ref sig .tc := ⟨.hbm, 1033, rfl⟩
abbrev main_v816 : Ref sig .tc := ⟨.hbm, 1034, rfl⟩
abbrev main_v817 : Ref sig .tc := ⟨.hbm, 1035, rfl⟩
abbrev main_v818 : Ref sig .tc := ⟨.hbm, 1036, rfl⟩
abbrev main_v819 : Ref sig .tc := ⟨.hbm, 1037, rfl⟩
abbrev main_cst_215 : Ref sig .tc := ⟨.hbm, 1038, rfl⟩
abbrev main_v820 : Ref sig .tc := ⟨.hbm, 1039, rfl⟩
abbrev main_cst_216 : Ref sig .tc := ⟨.hbm, 1040, rfl⟩
abbrev main_v821 : Ref sig .tc := ⟨.hbm, 1041, rfl⟩
abbrev main_v822 : Ref sig .tc := ⟨.hbm, 1042, rfl⟩
abbrev main_v823 : Ref sig .tc := ⟨.hbm, 1043, rfl⟩
abbrev main_v824 : Ref sig .tc := ⟨.hbm, 1044, rfl⟩
abbrev main_cst_217 : Ref sig .tc := ⟨.hbm, 1045, rfl⟩
abbrev main_v825 : Ref sig .tc := ⟨.hbm, 1046, rfl⟩
abbrev main_cst_218 : Ref sig .tc := ⟨.hbm, 1047, rfl⟩
abbrev main_v826 : Ref sig .tc := ⟨.hbm, 1048, rfl⟩
abbrev main_v827 : Ref sig .tc := ⟨.hbm, 1049, rfl⟩
abbrev main_v828 : Ref sig .tc := ⟨.hbm, 1050, rfl⟩
abbrev main_v829 : Ref sig .tc := ⟨.hbm, 1051, rfl⟩
abbrev main_cst_219 : Ref sig .tc := ⟨.hbm, 1052, rfl⟩
abbrev main_v830 : Ref sig .tc := ⟨.hbm, 1053, rfl⟩
abbrev main_cst_220 : Ref sig .tc := ⟨.hbm, 1054, rfl⟩
abbrev main_v831 : Ref sig .tc := ⟨.hbm, 1055, rfl⟩
abbrev main_v832 : Ref sig .tc := ⟨.hbm, 1056, rfl⟩
abbrev main_v833 : Ref sig .tc := ⟨.hbm, 1057, rfl⟩
abbrev main_v834 : Ref sig .tc := ⟨.hbm, 1058, rfl⟩
abbrev main_v835 : Ref sig .tc := ⟨.hbm, 1059, rfl⟩
abbrev main_cst_221 : Ref sig .tc := ⟨.hbm, 1060, rfl⟩
abbrev main_v836 : Ref sig .tc := ⟨.hbm, 1061, rfl⟩
abbrev main_v837 : Ref sig .tc := ⟨.hbm, 1062, rfl⟩
abbrev main_cst_222 : Ref sig .tc := ⟨.hbm, 1063, rfl⟩
abbrev main_v838 : Ref sig .tc := ⟨.hbm, 1064, rfl⟩
abbrev main_v839 : Ref sig .tc := ⟨.hbm, 1065, rfl⟩
abbrev main_v840 : Ref sig .tc := ⟨.hbm, 1066, rfl⟩
abbrev main_v841 : Ref sig .tc := ⟨.hbm, 1067, rfl⟩
abbrev main_cst_223 : Ref sig .tc := ⟨.hbm, 1068, rfl⟩
abbrev main_v842 : Ref sig .tc := ⟨.hbm, 1069, rfl⟩
abbrev main_v843 : Ref sig .tc := ⟨.hbm, 1070, rfl⟩
abbrev main_v844 : Ref sig .tc := ⟨.hbm, 1071, rfl⟩
abbrev main_v845 : Ref sig .tc := ⟨.hbm, 1072, rfl⟩
abbrev main_v846 : Ref sig .tc := ⟨.hbm, 1073, rfl⟩
abbrev main_v847 : Ref sig .tc := ⟨.hbm, 1074, rfl⟩
abbrev main_v848 : Ref sig .tc := ⟨.hbm, 1075, rfl⟩
abbrev main_v849 : Ref sig .tc := ⟨.hbm, 1076, rfl⟩
abbrev main_c_224 : Ref sig .tc := ⟨.hbm, 1077, rfl⟩
abbrev main_v850 : Ref sig .tc := ⟨.hbm, 1078, rfl⟩
abbrev main_v851 : Ref sig .tc := ⟨.hbm, 1079, rfl⟩
abbrev main_v852 : Ref sig .tc := ⟨.hbm, 1080, rfl⟩
abbrev main_v853 : Ref sig .tc := ⟨.hbm, 1081, rfl⟩
abbrev main_c_225 : Ref sig .tc := ⟨.hbm, 1082, rfl⟩
abbrev main_v854 : Ref sig .tc := ⟨.hbm, 1083, rfl⟩
abbrev main_v855 : Ref sig .tc := ⟨.hbm, 1084, rfl⟩
abbrev main_v856 : Ref sig .tc := ⟨.hbm, 1085, rfl⟩
abbrev main_v857 : Ref sig .tc := ⟨.hbm, 1086, rfl⟩
abbrev main_v858 : Ref sig .tc := ⟨.hbm, 1087, rfl⟩
abbrev main_v859 : Ref sig .tc := ⟨.hbm, 1088, rfl⟩
abbrev main_v860 : Ref sig .tc := ⟨.hbm, 1089, rfl⟩
abbrev main_c_226 : Ref sig .tc := ⟨.hbm, 1090, rfl⟩
abbrev main_v861 : Ref sig .tc := ⟨.hbm, 1091, rfl⟩
abbrev main_v862 : Ref sig .tc := ⟨.hbm, 1092, rfl⟩
abbrev main_c_227 : Ref sig .tc := ⟨.hbm, 1093, rfl⟩
abbrev main_v863 : Ref sig .tc := ⟨.hbm, 1094, rfl⟩
abbrev main_v864 : Ref sig .tc := ⟨.hbm, 1095, rfl⟩
abbrev main_v865 : Ref sig .tc := ⟨.hbm, 1096, rfl⟩
abbrev main_v866 : Ref sig .tc := ⟨.hbm, 1097, rfl⟩
abbrev main_v867 : Ref sig .tc := ⟨.hbm, 1098, rfl⟩
abbrev main_c_228 : Ref sig .tc := ⟨.hbm, 1099, rfl⟩
abbrev main_v868 : Ref sig .tc := ⟨.hbm, 1100, rfl⟩
abbrev main_v869 : Ref sig .tc := ⟨.hbm, 1101, rfl⟩
abbrev main_c_229 : Ref sig .tc := ⟨.hbm, 1102, rfl⟩
abbrev main_v870 : Ref sig .tc := ⟨.hbm, 1103, rfl⟩
abbrev main_v871 : Ref sig .tc := ⟨.hbm, 1104, rfl⟩
abbrev main_v872 : Ref sig .tc := ⟨.hbm, 1105, rfl⟩
abbrev main_v873 : Ref sig .tc := ⟨.hbm, 1106, rfl⟩
abbrev main_v874 : Ref sig .tc := ⟨.hbm, 1107, rfl⟩
abbrev main_c_230 : Ref sig .tc := ⟨.hbm, 1108, rfl⟩
abbrev main_v875 : Ref sig .tc := ⟨.hbm, 1109, rfl⟩
abbrev main_v876 : Ref sig .tc := ⟨.hbm, 1110, rfl⟩
abbrev main_c_231 : Ref sig .tc := ⟨.hbm, 1111, rfl⟩
abbrev main_v877 : Ref sig .tc := ⟨.hbm, 1112, rfl⟩
abbrev main_v878 : Ref sig .tc := ⟨.hbm, 1113, rfl⟩
abbrev main_v879 : Ref sig .tc := ⟨.hbm, 1114, rfl⟩
abbrev main_v880 : Ref sig .tc := ⟨.hbm, 1115, rfl⟩
abbrev main_v881 : Ref sig .tc := ⟨.hbm, 1116, rfl⟩
abbrev main_c_232 : Ref sig .tc := ⟨.hbm, 1117, rfl⟩
abbrev main_v882 : Ref sig .tc := ⟨.hbm, 1118, rfl⟩
abbrev main_v883 : Ref sig .tc := ⟨.hbm, 1119, rfl⟩
abbrev main_c_233 : Ref sig .tc := ⟨.hbm, 1120, rfl⟩
abbrev main_v884 : Ref sig .tc := ⟨.hbm, 1121, rfl⟩
abbrev main_v885 : Ref sig .tc := ⟨.hbm, 1122, rfl⟩
abbrev main_v886 : Ref sig .tc := ⟨.hbm, 1123, rfl⟩
abbrev main_v887 : Ref sig .tc := ⟨.hbm, 1124, rfl⟩
abbrev main_v888 : Ref sig .tc := ⟨.hbm, 1125, rfl⟩
abbrev main_v889 : Ref sig .tc := ⟨.hbm, 1126, rfl⟩
abbrev main_v890 : Ref sig .tc := ⟨.hbm, 1127, rfl⟩
abbrev main_v891 : Ref sig .tc := ⟨.hbm, 1128, rfl⟩
abbrev main_c_234 : Ref sig .tc := ⟨.hbm, 1129, rfl⟩
abbrev main_v892 : Ref sig .tc := ⟨.hbm, 1130, rfl⟩
abbrev main_v893 : Ref sig .tc := ⟨.hbm, 1131, rfl⟩
abbrev main_v894 : Ref sig .tc := ⟨.hbm, 1132, rfl⟩
abbrev main_c_235 : Ref sig .tc := ⟨.hbm, 1133, rfl⟩
abbrev main_v895 : Ref sig .tc := ⟨.hbm, 1134, rfl⟩
abbrev main_v896 : Ref sig .tc := ⟨.hbm, 1135, rfl⟩
abbrev main_c_236 : Ref sig .tc := ⟨.hbm, 1136, rfl⟩
abbrev main_v897 : Ref sig .tc := ⟨.hbm, 1137, rfl⟩
abbrev main_v898 : Ref sig .tc := ⟨.hbm, 1138, rfl⟩
abbrev main_v899 : Ref sig .tc := ⟨.hbm, 1139, rfl⟩
abbrev main_v900 : Ref sig .tc := ⟨.hbm, 1140, rfl⟩
abbrev main_v901 : Ref sig .tc := ⟨.hbm, 1141, rfl⟩
abbrev main_c_237 : Ref sig .tc := ⟨.hbm, 1142, rfl⟩
abbrev main_v902 : Ref sig .tc := ⟨.hbm, 1143, rfl⟩
abbrev main_v903 : Ref sig .tc := ⟨.hbm, 1144, rfl⟩
abbrev main_c_238 : Ref sig .tc := ⟨.hbm, 1145, rfl⟩
abbrev main_v904 : Ref sig .tc := ⟨.hbm, 1146, rfl⟩
abbrev main_v905 : Ref sig .tc := ⟨.hbm, 1147, rfl⟩
abbrev main_v906 : Ref sig .tc := ⟨.hbm, 1148, rfl⟩
abbrev main_v907 : Ref sig .tc := ⟨.hbm, 1149, rfl⟩
abbrev main_v908 : Ref sig .tc := ⟨.hbm, 1150, rfl⟩
abbrev main_c_239 : Ref sig .tc := ⟨.hbm, 1151, rfl⟩
abbrev main_v909 : Ref sig .tc := ⟨.hbm, 1152, rfl⟩
abbrev main_v910 : Ref sig .tc := ⟨.hbm, 1153, rfl⟩
abbrev main_c_240 : Ref sig .tc := ⟨.hbm, 1154, rfl⟩
abbrev main_v911 : Ref sig .tc := ⟨.hbm, 1155, rfl⟩
abbrev main_v912 : Ref sig .tc := ⟨.hbm, 1156, rfl⟩
abbrev main_v913 : Ref sig .tc := ⟨.hbm, 1157, rfl⟩
abbrev main_v914 : Ref sig .tc := ⟨.hbm, 1158, rfl⟩
abbrev main_v915 : Ref sig .tc := ⟨.hbm, 1159, rfl⟩
abbrev main_c_241 : Ref sig .tc := ⟨.hbm, 1160, rfl⟩
abbrev main_v916 : Ref sig .tc := ⟨.hbm, 1161, rfl⟩
abbrev main_v917 : Ref sig .tc := ⟨.hbm, 1162, rfl⟩
abbrev main_c_242 : Ref sig .tc := ⟨.hbm, 1163, rfl⟩
abbrev main_v918 : Ref sig .tc := ⟨.hbm, 1164, rfl⟩
abbrev main_v919 : Ref sig .tc := ⟨.hbm, 1165, rfl⟩
abbrev main_v920 : Ref sig .tc := ⟨.hbm, 1166, rfl⟩
abbrev main_v921 : Ref sig .tc := ⟨.hbm, 1167, rfl⟩
abbrev main_v922 : Ref sig .tc := ⟨.hbm, 1168, rfl⟩
abbrev main_v923 : Ref sig .tc := ⟨.hbm, 1169, rfl⟩
abbrev main_v924 : Ref sig .tc := ⟨.hbm, 1170, rfl⟩
abbrev main_v925 : Ref sig .tc := ⟨.hbm, 1171, rfl⟩
abbrev main_c_243 : Ref sig .tc := ⟨.hbm, 1172, rfl⟩
abbrev main_v926 : Ref sig .tc := ⟨.hbm, 1173, rfl⟩
abbrev main_v927 : Ref sig .tc := ⟨.hbm, 1174, rfl⟩
abbrev main_v928 : Ref sig .tc := ⟨.hbm, 1175, rfl⟩
abbrev main_c_244 : Ref sig .tc := ⟨.hbm, 1176, rfl⟩
abbrev main_v929 : Ref sig .tc := ⟨.hbm, 1177, rfl⟩
abbrev main_v930 : Ref sig .tc := ⟨.hbm, 1178, rfl⟩
abbrev main_c_245 : Ref sig .tc := ⟨.hbm, 1179, rfl⟩
abbrev main_v931 : Ref sig .tc := ⟨.hbm, 1180, rfl⟩
abbrev main_v932 : Ref sig .tc := ⟨.hbm, 1181, rfl⟩
abbrev main_v933 : Ref sig .tc := ⟨.hbm, 1182, rfl⟩
abbrev main_v934 : Ref sig .tc := ⟨.hbm, 1183, rfl⟩
abbrev main_v935 : Ref sig .tc := ⟨.hbm, 1184, rfl⟩
abbrev main_c_246 : Ref sig .tc := ⟨.hbm, 1185, rfl⟩
abbrev main_v936 : Ref sig .tc := ⟨.hbm, 1186, rfl⟩
abbrev main_v937 : Ref sig .tc := ⟨.hbm, 1187, rfl⟩
abbrev main_c_247 : Ref sig .tc := ⟨.hbm, 1188, rfl⟩
abbrev main_v938 : Ref sig .tc := ⟨.hbm, 1189, rfl⟩
abbrev main_v939 : Ref sig .tc := ⟨.hbm, 1190, rfl⟩
abbrev main_v940 : Ref sig .tc := ⟨.hbm, 1191, rfl⟩
abbrev main_v941 : Ref sig .tc := ⟨.hbm, 1192, rfl⟩
abbrev main_v942 : Ref sig .tc := ⟨.hbm, 1193, rfl⟩
abbrev main_c_248 : Ref sig .tc := ⟨.hbm, 1194, rfl⟩
abbrev main_v943 : Ref sig .tc := ⟨.hbm, 1195, rfl⟩
abbrev main_v944 : Ref sig .tc := ⟨.hbm, 1196, rfl⟩
abbrev main_c_249 : Ref sig .tc := ⟨.hbm, 1197, rfl⟩
abbrev main_v945 : Ref sig .tc := ⟨.hbm, 1198, rfl⟩
abbrev main_v946 : Ref sig .tc := ⟨.hbm, 1199, rfl⟩
abbrev main_v947 : Ref sig .tc := ⟨.hbm, 1200, rfl⟩
abbrev main_v948 : Ref sig .tc := ⟨.hbm, 1201, rfl⟩
abbrev main_v949 : Ref sig .tc := ⟨.hbm, 1202, rfl⟩
abbrev main_c_250 : Ref sig .tc := ⟨.hbm, 1203, rfl⟩
abbrev main_v950 : Ref sig .tc := ⟨.hbm, 1204, rfl⟩
abbrev main_v951 : Ref sig .tc := ⟨.hbm, 1205, rfl⟩
abbrev main_c_251 : Ref sig .tc := ⟨.hbm, 1206, rfl⟩
abbrev main_v952 : Ref sig .tc := ⟨.hbm, 1207, rfl⟩
abbrev main_v953 : Ref sig .tc := ⟨.hbm, 1208, rfl⟩
abbrev main_v954 : Ref sig .tc := ⟨.hbm, 1209, rfl⟩
abbrev main_v955 : Ref sig .tc := ⟨.hbm, 1210, rfl⟩
abbrev main_v956 : Ref sig .tc := ⟨.hbm, 1211, rfl⟩
abbrev main_v957 : Ref sig .tc := ⟨.hbm, 1212, rfl⟩
abbrev main_v958 : Ref sig .tc := ⟨.hbm, 1213, rfl⟩
abbrev main_v959 : Ref sig .tc := ⟨.hbm, 1214, rfl⟩
abbrev main_c_252 : Ref sig .tc := ⟨.hbm, 1215, rfl⟩
abbrev main_v960 : Ref sig .tc := ⟨.hbm, 1216, rfl⟩
abbrev main_v961 : Ref sig .tc := ⟨.hbm, 1217, rfl⟩
abbrev main_v962 : Ref sig .tc := ⟨.hbm, 1218, rfl⟩
abbrev main_c_253 : Ref sig .tc := ⟨.hbm, 1219, rfl⟩
abbrev main_v963 : Ref sig .tc := ⟨.hbm, 1220, rfl⟩
abbrev main_v964 : Ref sig .tc := ⟨.hbm, 1221, rfl⟩
abbrev main_c_254 : Ref sig .tc := ⟨.hbm, 1222, rfl⟩
abbrev main_v965 : Ref sig .tc := ⟨.hbm, 1223, rfl⟩
abbrev main_v966 : Ref sig .tc := ⟨.hbm, 1224, rfl⟩
abbrev main_v967 : Ref sig .tc := ⟨.hbm, 1225, rfl⟩
abbrev main_v968 : Ref sig .tc := ⟨.hbm, 1226, rfl⟩
abbrev main_v969 : Ref sig .tc := ⟨.hbm, 1227, rfl⟩
abbrev main_c_255 : Ref sig .tc := ⟨.hbm, 1228, rfl⟩
abbrev main_v970 : Ref sig .tc := ⟨.hbm, 1229, rfl⟩
abbrev main_v971 : Ref sig .tc := ⟨.hbm, 1230, rfl⟩
abbrev main_c_256 : Ref sig .tc := ⟨.hbm, 1231, rfl⟩
abbrev main_v972 : Ref sig .tc := ⟨.hbm, 1232, rfl⟩
abbrev main_v973 : Ref sig .tc := ⟨.hbm, 1233, rfl⟩
abbrev main_v974 : Ref sig .tc := ⟨.hbm, 1234, rfl⟩
abbrev main_v975 : Ref sig .tc := ⟨.hbm, 1235, rfl⟩
abbrev main_v976 : Ref sig .tc := ⟨.hbm, 1236, rfl⟩
abbrev main_c_257 : Ref sig .tc := ⟨.hbm, 1237, rfl⟩
abbrev main_v977 : Ref sig .tc := ⟨.hbm, 1238, rfl⟩
abbrev main_v978 : Ref sig .tc := ⟨.hbm, 1239, rfl⟩
abbrev main_c_258 : Ref sig .tc := ⟨.hbm, 1240, rfl⟩
abbrev main_v979 : Ref sig .tc := ⟨.hbm, 1241, rfl⟩
abbrev main_v980 : Ref sig .tc := ⟨.hbm, 1242, rfl⟩
abbrev main_v981 : Ref sig .tc := ⟨.hbm, 1243, rfl⟩
abbrev main_v982 : Ref sig .tc := ⟨.hbm, 1244, rfl⟩
abbrev main_v983 : Ref sig .tc := ⟨.hbm, 1245, rfl⟩
abbrev main_c_259 : Ref sig .tc := ⟨.hbm, 1246, rfl⟩
abbrev main_v984 : Ref sig .tc := ⟨.hbm, 1247, rfl⟩
abbrev main_v985 : Ref sig .tc := ⟨.hbm, 1248, rfl⟩
abbrev main_c_260 : Ref sig .tc := ⟨.hbm, 1249, rfl⟩
abbrev main_v986 : Ref sig .tc := ⟨.hbm, 1250, rfl⟩
abbrev main_v987 : Ref sig .tc := ⟨.hbm, 1251, rfl⟩
abbrev main_v988 : Ref sig .tc := ⟨.hbm, 1252, rfl⟩
abbrev main_v989 : Ref sig .tc := ⟨.hbm, 1253, rfl⟩
abbrev main_v990 : Ref sig .tc := ⟨.hbm, 1254, rfl⟩
abbrev main_v991 : Ref sig .tc := ⟨.hbm, 1255, rfl⟩
abbrev main_v992 : Ref sig .tc := ⟨.hbm, 1256, rfl⟩
abbrev main_v993 : Ref sig .tc := ⟨.hbm, 1257, rfl⟩
abbrev main_c_261 : Ref sig .tc := ⟨.hbm, 1258, rfl⟩
abbrev main_v994 : Ref sig .tc := ⟨.hbm, 1259, rfl⟩
abbrev main_v995 : Ref sig .tc := ⟨.hbm, 1260, rfl⟩
abbrev main_v996 : Ref sig .tc := ⟨.hbm, 1261, rfl⟩
abbrev main_c_262 : Ref sig .tc := ⟨.hbm, 1262, rfl⟩
abbrev main_v997 : Ref sig .tc := ⟨.hbm, 1263, rfl⟩
abbrev main_v998 : Ref sig .tc := ⟨.hbm, 1264, rfl⟩
abbrev main_c_263 : Ref sig .tc := ⟨.hbm, 1265, rfl⟩
abbrev main_v999 : Ref sig .tc := ⟨.hbm, 1266, rfl⟩
abbrev main_v1000 : Ref sig .tc := ⟨.hbm, 1267, rfl⟩
abbrev main_v1001 : Ref sig .tc := ⟨.hbm, 1268, rfl⟩
abbrev main_v1002 : Ref sig .tc := ⟨.hbm, 1269, rfl⟩
abbrev main_v1003 : Ref sig .tc := ⟨.hbm, 1270, rfl⟩
abbrev main_c_264 : Ref sig .tc := ⟨.hbm, 1271, rfl⟩
abbrev main_v1004 : Ref sig .tc := ⟨.hbm, 1272, rfl⟩
abbrev main_v1005 : Ref sig .tc := ⟨.hbm, 1273, rfl⟩
abbrev main_c_265 : Ref sig .tc := ⟨.hbm, 1274, rfl⟩
abbrev main_v1006 : Ref sig .tc := ⟨.hbm, 1275, rfl⟩
abbrev main_v1007 : Ref sig .tc := ⟨.hbm, 1276, rfl⟩
abbrev main_v1008 : Ref sig .tc := ⟨.hbm, 1277, rfl⟩
abbrev main_v1009 : Ref sig .tc := ⟨.hbm, 1278, rfl⟩
abbrev main_v1010 : Ref sig .tc := ⟨.hbm, 1279, rfl⟩
abbrev main_c_266 : Ref sig .tc := ⟨.hbm, 1280, rfl⟩
abbrev main_v1011 : Ref sig .tc := ⟨.hbm, 1281, rfl⟩
abbrev main_v1012 : Ref sig .tc := ⟨.hbm, 1282, rfl⟩
abbrev main_c_267 : Ref sig .tc := ⟨.hbm, 1283, rfl⟩
abbrev main_v1013 : Ref sig .tc := ⟨.hbm, 1284, rfl⟩
abbrev main_v1014 : Ref sig .tc := ⟨.hbm, 1285, rfl⟩
abbrev main_v1015 : Ref sig .tc := ⟨.hbm, 1286, rfl⟩
abbrev main_v1016 : Ref sig .tc := ⟨.hbm, 1287, rfl⟩
abbrev main_v1017 : Ref sig .tc := ⟨.hbm, 1288, rfl⟩
abbrev main_c_268 : Ref sig .tc := ⟨.hbm, 1289, rfl⟩
abbrev main_v1018 : Ref sig .tc := ⟨.hbm, 1290, rfl⟩
abbrev main_v1019 : Ref sig .tc := ⟨.hbm, 1291, rfl⟩
abbrev main_c_269 : Ref sig .tc := ⟨.hbm, 1292, rfl⟩
abbrev main_v1020 : Ref sig .tc := ⟨.hbm, 1293, rfl⟩
abbrev main_v1021 : Ref sig .tc := ⟨.hbm, 1294, rfl⟩
abbrev main_v1022 : Ref sig .tc := ⟨.hbm, 1295, rfl⟩
abbrev main_v1023 : Ref sig .tc := ⟨.hbm, 1296, rfl⟩
abbrev main_v1024 : Ref sig .tc := ⟨.hbm, 1297, rfl⟩
abbrev main_v1025 : Ref sig .tc := ⟨.hbm, 1298, rfl⟩
abbrev main_v1026 : Ref sig .tc := ⟨.hbm, 1299, rfl⟩
abbrev main_v1027 : Ref sig .tc := ⟨.hbm, 1300, rfl⟩
abbrev main_c_270 : Ref sig .tc := ⟨.hbm, 1301, rfl⟩
abbrev main_v1028 : Ref sig .tc := ⟨.hbm, 1302, rfl⟩
abbrev main_v1029 : Ref sig .tc := ⟨.hbm, 1303, rfl⟩
abbrev main_v1030 : Ref sig .tc := ⟨.hbm, 1304, rfl⟩
abbrev main_v1031 : Ref sig .tc := ⟨.hbm, 1305, rfl⟩
abbrev main_c_271 : Ref sig .tc := ⟨.hbm, 1306, rfl⟩
abbrev main_v1032 : Ref sig .tc := ⟨.hbm, 1307, rfl⟩
abbrev main_v1033 : Ref sig .tc := ⟨.hbm, 1308, rfl⟩
abbrev main_c_272 : Ref sig .tc := ⟨.hbm, 1309, rfl⟩
abbrev main_v1034 : Ref sig .tc := ⟨.hbm, 1310, rfl⟩
abbrev main_v1035 : Ref sig .tc := ⟨.hbm, 1311, rfl⟩
abbrev main_v1036 : Ref sig .tc := ⟨.hbm, 1312, rfl⟩
abbrev main_cst_273 : Ref sig .tc := ⟨.hbm, 1313, rfl⟩
abbrev main_v1037 : Ref sig .tc := ⟨.hbm, 1314, rfl⟩
abbrev main_v1038 : Ref sig .tc := ⟨.hbm, 1315, rfl⟩
abbrev main_cst_274 : Ref sig .tc := ⟨.hbm, 1316, rfl⟩
abbrev main_v1039 : Ref sig .tc := ⟨.hbm, 1317, rfl⟩
abbrev main_v1040 : Ref sig .tc := ⟨.hbm, 1318, rfl⟩
abbrev main_cst_275 : Ref sig .tc := ⟨.hbm, 1319, rfl⟩
abbrev main_v1041 : Ref sig .tc := ⟨.hbm, 1320, rfl⟩
abbrev main_v1042 : Ref sig .tc := ⟨.hbm, 1321, rfl⟩
abbrev main_cst_276 : Ref sig .tc := ⟨.hbm, 1322, rfl⟩
abbrev main_v1043 : Ref sig .tc := ⟨.hbm, 1323, rfl⟩
abbrev main_v1044 : Ref sig .tc := ⟨.hbm, 1324, rfl⟩
abbrev main_v1045 : Ref sig .tc := ⟨.hbm, 1325, rfl⟩
abbrev main_v1046 : Ref sig .tc := ⟨.hbm, 1326, rfl⟩
abbrev main_v1047 : Ref sig .tc := ⟨.hbm, 1327, rfl⟩
abbrev main_v1048 : Ref sig .tc := ⟨.hbm, 1328, rfl⟩
abbrev main_cst_277 : Ref sig .tc := ⟨.hbm, 1329, rfl⟩
abbrev main_v1049 : Ref sig .tc := ⟨.hbm, 1330, rfl⟩
abbrev main_v1050 : Ref sig .tc := ⟨.hbm, 1331, rfl⟩
abbrev main_cst_278 : Ref sig .tc := ⟨.hbm, 1332, rfl⟩
abbrev main_v1051 : Ref sig .tc := ⟨.hbm, 1333, rfl⟩
abbrev main_v1052 : Ref sig .tc := ⟨.hbm, 1334, rfl⟩
abbrev main_v1053 : Ref sig .tc := ⟨.hbm, 1335, rfl⟩
abbrev main_cst_279 : Ref sig .tc := ⟨.hbm, 1336, rfl⟩
abbrev main_v1054 : Ref sig .tc := ⟨.hbm, 1337, rfl⟩
abbrev main_v1055 : Ref sig .tc := ⟨.hbm, 1338, rfl⟩
abbrev main_v1056 : Ref sig .tc := ⟨.hbm, 1339, rfl⟩
abbrev main_cst_280 : Ref sig .tc := ⟨.hbm, 1340, rfl⟩
abbrev main_v1057 : Ref sig .tc := ⟨.hbm, 1341, rfl⟩
abbrev main_cst_281 : Ref sig .tc := ⟨.hbm, 1342, rfl⟩
abbrev main_v1058 : Ref sig .tc := ⟨.hbm, 1343, rfl⟩
abbrev main_v1059 : Ref sig .tc := ⟨.hbm, 1344, rfl⟩
abbrev main_cst_282 : Ref sig .tc := ⟨.hbm, 1345, rfl⟩
abbrev main_v1060 : Ref sig .tc := ⟨.hbm, 1346, rfl⟩
abbrev main_cst_283 : Ref sig .tc := ⟨.hbm, 1347, rfl⟩
abbrev main_v1061 : Ref sig .tc := ⟨.hbm, 1348, rfl⟩
abbrev main_v1062 : Ref sig .tc := ⟨.hbm, 1349, rfl⟩
abbrev main_v1063 : Ref sig .tc := ⟨.hbm, 1350, rfl⟩
abbrev main_v1064 : Ref sig .tc := ⟨.hbm, 1351, rfl⟩
abbrev main_cst_284 : Ref sig .tc := ⟨.hbm, 1352, rfl⟩
abbrev main_v1065 : Ref sig .tc := ⟨.hbm, 1353, rfl⟩
abbrev main_cst_285 : Ref sig .tc := ⟨.hbm, 1354, rfl⟩
abbrev main_v1066 : Ref sig .tc := ⟨.hbm, 1355, rfl⟩
abbrev main_v1067 : Ref sig .tc := ⟨.hbm, 1356, rfl⟩
abbrev main_v1068 : Ref sig .tc := ⟨.hbm, 1357, rfl⟩
abbrev main_v1069 : Ref sig .tc := ⟨.hbm, 1358, rfl⟩
abbrev main_cst_286 : Ref sig .tc := ⟨.hbm, 1359, rfl⟩
abbrev main_v1070 : Ref sig .tc := ⟨.hbm, 1360, rfl⟩
abbrev main_cst_287 : Ref sig .tc := ⟨.hbm, 1361, rfl⟩
abbrev main_v1071 : Ref sig .tc := ⟨.hbm, 1362, rfl⟩
abbrev main_v1072 : Ref sig .tc := ⟨.hbm, 1363, rfl⟩
abbrev main_v1073 : Ref sig .tc := ⟨.hbm, 1364, rfl⟩
abbrev main_v1074 : Ref sig .tc := ⟨.hbm, 1365, rfl⟩
abbrev main_cst_288 : Ref sig .tc := ⟨.hbm, 1366, rfl⟩
abbrev main_v1075 : Ref sig .tc := ⟨.hbm, 1367, rfl⟩
abbrev main_cst_289 : Ref sig .tc := ⟨.hbm, 1368, rfl⟩
abbrev main_v1076 : Ref sig .tc := ⟨.hbm, 1369, rfl⟩
abbrev main_v1077 : Ref sig .tc := ⟨.hbm, 1370, rfl⟩
abbrev main_v1078 : Ref sig .tc := ⟨.hbm, 1371, rfl⟩
abbrev main_v1079 : Ref sig .tc := ⟨.hbm, 1372, rfl⟩
abbrev main_cst_290 : Ref sig .tc := ⟨.hbm, 1373, rfl⟩
abbrev main_v1080 : Ref sig .tc := ⟨.hbm, 1374, rfl⟩
abbrev main_cst_291 : Ref sig .tc := ⟨.hbm, 1375, rfl⟩
abbrev main_v1081 : Ref sig .tc := ⟨.hbm, 1376, rfl⟩
abbrev main_v1082 : Ref sig .tc := ⟨.hbm, 1377, rfl⟩
abbrev main_v1083 : Ref sig .tc := ⟨.hbm, 1378, rfl⟩
abbrev main_v1084 : Ref sig .tc := ⟨.hbm, 1379, rfl⟩
abbrev main_cst_292 : Ref sig .tc := ⟨.hbm, 1380, rfl⟩
abbrev main_v1085 : Ref sig .tc := ⟨.hbm, 1381, rfl⟩
abbrev main_cst_293 : Ref sig .tc := ⟨.hbm, 1382, rfl⟩
abbrev main_v1086 : Ref sig .tc := ⟨.hbm, 1383, rfl⟩
abbrev main_v1087 : Ref sig .tc := ⟨.hbm, 1384, rfl⟩
abbrev main_v1088 : Ref sig .tc := ⟨.hbm, 1385, rfl⟩
abbrev main_v1089 : Ref sig .tc := ⟨.hbm, 1386, rfl⟩
abbrev main_cst_294 : Ref sig .tc := ⟨.hbm, 1387, rfl⟩
abbrev main_v1090 : Ref sig .tc := ⟨.hbm, 1388, rfl⟩
abbrev main_cst_295 : Ref sig .tc := ⟨.hbm, 1389, rfl⟩
abbrev main_v1091 : Ref sig .tc := ⟨.hbm, 1390, rfl⟩
abbrev main_v1092 : Ref sig .tc := ⟨.hbm, 1391, rfl⟩
abbrev main_v1093 : Ref sig .tc := ⟨.hbm, 1392, rfl⟩
abbrev main_v1094 : Ref sig .tc := ⟨.hbm, 1393, rfl⟩
abbrev main_cst_296 : Ref sig .tc := ⟨.hbm, 1394, rfl⟩
abbrev main_v1095 : Ref sig .tc := ⟨.hbm, 1395, rfl⟩
abbrev main_cst_297 : Ref sig .tc := ⟨.hbm, 1396, rfl⟩
abbrev main_v1096 : Ref sig .tc := ⟨.hbm, 1397, rfl⟩
abbrev main_v1097 : Ref sig .tc := ⟨.hbm, 1398, rfl⟩
abbrev main_v1098 : Ref sig .tc := ⟨.hbm, 1399, rfl⟩
abbrev main_v1099 : Ref sig .tc := ⟨.hbm, 1400, rfl⟩
abbrev main_v1100 : Ref sig .tc := ⟨.hbm, 1401, rfl⟩
abbrev main_cst_298 : Ref sig .tc := ⟨.hbm, 1402, rfl⟩
abbrev main_v1101 : Ref sig .tc := ⟨.hbm, 1403, rfl⟩
abbrev main_v1102 : Ref sig .tc := ⟨.hbm, 1404, rfl⟩
abbrev main_cst_299 : Ref sig .tc := ⟨.hbm, 1405, rfl⟩
abbrev main_v1103 : Ref sig .tc := ⟨.hbm, 1406, rfl⟩
abbrev main_v1104 : Ref sig .tc := ⟨.hbm, 1407, rfl⟩
abbrev main_v1105 : Ref sig .tc := ⟨.hbm, 1408, rfl⟩
abbrev main_v1106 : Ref sig .tc := ⟨.hbm, 1409, rfl⟩
abbrev main_cst_300 : Ref sig .tc := ⟨.hbm, 1410, rfl⟩
abbrev main_v1107 : Ref sig .tc := ⟨.hbm, 1411, rfl⟩
abbrev main_v1108 : Ref sig .tc := ⟨.hbm, 1412, rfl⟩
abbrev main_v1109 : Ref sig .tc := ⟨.hbm, 1413, rfl⟩
abbrev main_v1110 : Ref sig .tc := ⟨.hbm, 1414, rfl⟩
abbrev main_v1111 : Ref sig .tc := ⟨.hbm, 1415, rfl⟩
abbrev main_v1112 : Ref sig .tc := ⟨.hbm, 1416, rfl⟩
abbrev main_v1113 : Ref sig .tc := ⟨.hbm, 1417, rfl⟩
abbrev main_v1114 : Ref sig .tc := ⟨.hbm, 1418, rfl⟩
abbrev main_v1115 : Ref sig .tc := ⟨.hbm, 1419, rfl⟩
abbrev main_v1116 : Ref sig .tc := ⟨.hbm, 1420, rfl⟩
abbrev main_c_301 : Ref sig .tc := ⟨.hbm, 1421, rfl⟩
abbrev main_v1117 : Ref sig .tc := ⟨.hbm, 1422, rfl⟩
abbrev main_v1118 : Ref sig .tc := ⟨.hbm, 1423, rfl⟩
abbrev main_v1119 : Ref sig .tc := ⟨.hbm, 1424, rfl⟩
abbrev main_v1120 : Ref sig .tc := ⟨.hbm, 1425, rfl⟩
abbrev main_c_302 : Ref sig .tc := ⟨.hbm, 1426, rfl⟩
abbrev main_v1121 : Ref sig .tc := ⟨.hbm, 1427, rfl⟩
abbrev main_v1122 : Ref sig .tc := ⟨.hbm, 1428, rfl⟩
abbrev main_v1123 : Ref sig .tc := ⟨.hbm, 1429, rfl⟩
abbrev main_v1124 : Ref sig .tc := ⟨.hbm, 1430, rfl⟩
abbrev main_v1125 : Ref sig .tc := ⟨.hbm, 1431, rfl⟩
abbrev main_v1126 : Ref sig .tc := ⟨.hbm, 1432, rfl⟩
abbrev main_v1127 : Ref sig .tc := ⟨.hbm, 1433, rfl⟩
abbrev main_v1128 : Ref sig .tc := ⟨.hbm, 1434, rfl⟩
abbrev main_v1129 : Ref sig .tc := ⟨.hbm, 1435, rfl⟩
abbrev main_c_303 : Ref sig .tc := ⟨.hbm, 1436, rfl⟩
abbrev main_v1130 : Ref sig .tc := ⟨.hbm, 1437, rfl⟩
abbrev main_v1131 : Ref sig .tc := ⟨.hbm, 1438, rfl⟩
abbrev main_c_304 : Ref sig .tc := ⟨.hbm, 1439, rfl⟩
abbrev main_v1132 : Ref sig .tc := ⟨.hbm, 1440, rfl⟩
abbrev main_v1133 : Ref sig .tc := ⟨.hbm, 1441, rfl⟩
abbrev main_v1134 : Ref sig .tc := ⟨.hbm, 1442, rfl⟩
abbrev main_v1135 : Ref sig .tc := ⟨.hbm, 1443, rfl⟩
abbrev main_v1136 : Ref sig .tc := ⟨.hbm, 1444, rfl⟩
abbrev main_c_305 : Ref sig .tc := ⟨.hbm, 1445, rfl⟩
abbrev main_v1137 : Ref sig .tc := ⟨.hbm, 1446, rfl⟩
abbrev main_v1138 : Ref sig .tc := ⟨.hbm, 1447, rfl⟩
abbrev main_c_306 : Ref sig .tc := ⟨.hbm, 1448, rfl⟩
abbrev main_v1139 : Ref sig .tc := ⟨.hbm, 1449, rfl⟩
abbrev main_v1140 : Ref sig .tc := ⟨.hbm, 1450, rfl⟩
abbrev main_v1141 : Ref sig .tc := ⟨.hbm, 1451, rfl⟩
abbrev main_v1142 : Ref sig .tc := ⟨.hbm, 1452, rfl⟩
abbrev main_v1143 : Ref sig .tc := ⟨.hbm, 1453, rfl⟩
abbrev main_c_307 : Ref sig .tc := ⟨.hbm, 1454, rfl⟩
abbrev main_v1144 : Ref sig .tc := ⟨.hbm, 1455, rfl⟩
abbrev main_v1145 : Ref sig .tc := ⟨.hbm, 1456, rfl⟩
abbrev main_c_308 : Ref sig .tc := ⟨.hbm, 1457, rfl⟩
abbrev main_v1146 : Ref sig .tc := ⟨.hbm, 1458, rfl⟩
abbrev main_v1147 : Ref sig .tc := ⟨.hbm, 1459, rfl⟩
abbrev main_v1148 : Ref sig .tc := ⟨.hbm, 1460, rfl⟩
abbrev main_v1149 : Ref sig .tc := ⟨.hbm, 1461, rfl⟩
abbrev main_v1150 : Ref sig .tc := ⟨.hbm, 1462, rfl⟩
abbrev main_c_309 : Ref sig .tc := ⟨.hbm, 1463, rfl⟩
abbrev main_v1151 : Ref sig .tc := ⟨.hbm, 1464, rfl⟩
abbrev main_v1152 : Ref sig .tc := ⟨.hbm, 1465, rfl⟩
abbrev main_c_310 : Ref sig .tc := ⟨.hbm, 1466, rfl⟩
abbrev main_v1153 : Ref sig .tc := ⟨.hbm, 1467, rfl⟩
abbrev main_v1154 : Ref sig .tc := ⟨.hbm, 1468, rfl⟩
abbrev main_v1155 : Ref sig .tc := ⟨.hbm, 1469, rfl⟩
abbrev main_v1156 : Ref sig .tc := ⟨.hbm, 1470, rfl⟩
abbrev main_v1157 : Ref sig .tc := ⟨.hbm, 1471, rfl⟩
abbrev main_v1158 : Ref sig .tc := ⟨.hbm, 1472, rfl⟩
abbrev main_v1159 : Ref sig .tc := ⟨.hbm, 1473, rfl⟩
abbrev main_v1160 : Ref sig .tc := ⟨.hbm, 1474, rfl⟩
abbrev main_c_311 : Ref sig .tc := ⟨.hbm, 1475, rfl⟩
abbrev main_v1161 : Ref sig .tc := ⟨.hbm, 1476, rfl⟩
abbrev main_v1162 : Ref sig .tc := ⟨.hbm, 1477, rfl⟩
abbrev main_v1163 : Ref sig .tc := ⟨.hbm, 1478, rfl⟩
abbrev main_c_312 : Ref sig .tc := ⟨.hbm, 1479, rfl⟩
abbrev main_v1164 : Ref sig .tc := ⟨.hbm, 1480, rfl⟩
abbrev main_v1165 : Ref sig .tc := ⟨.hbm, 1481, rfl⟩
abbrev main_c_313 : Ref sig .tc := ⟨.hbm, 1482, rfl⟩
abbrev main_v1166 : Ref sig .tc := ⟨.hbm, 1483, rfl⟩
abbrev main_v1167 : Ref sig .tc := ⟨.hbm, 1484, rfl⟩
abbrev main_v1168 : Ref sig .tc := ⟨.hbm, 1485, rfl⟩
abbrev main_v1169 : Ref sig .tc := ⟨.hbm, 1486, rfl⟩
abbrev main_v1170 : Ref sig .tc := ⟨.hbm, 1487, rfl⟩
abbrev main_c_314 : Ref sig .tc := ⟨.hbm, 1488, rfl⟩
abbrev main_v1171 : Ref sig .tc := ⟨.hbm, 1489, rfl⟩
abbrev main_v1172 : Ref sig .tc := ⟨.hbm, 1490, rfl⟩
abbrev main_c_315 : Ref sig .tc := ⟨.hbm, 1491, rfl⟩
abbrev main_v1173 : Ref sig .tc := ⟨.hbm, 1492, rfl⟩
abbrev main_v1174 : Ref sig .tc := ⟨.hbm, 1493, rfl⟩
abbrev main_v1175 : Ref sig .tc := ⟨.hbm, 1494, rfl⟩
abbrev main_v1176 : Ref sig .tc := ⟨.hbm, 1495, rfl⟩
abbrev main_v1177 : Ref sig .tc := ⟨.hbm, 1496, rfl⟩
abbrev main_c_316 : Ref sig .tc := ⟨.hbm, 1497, rfl⟩
abbrev main_v1178 : Ref sig .tc := ⟨.hbm, 1498, rfl⟩
abbrev main_v1179 : Ref sig .tc := ⟨.hbm, 1499, rfl⟩
abbrev main_c_317 : Ref sig .tc := ⟨.hbm, 1500, rfl⟩
abbrev main_v1180 : Ref sig .tc := ⟨.hbm, 1501, rfl⟩
abbrev main_v1181 : Ref sig .tc := ⟨.hbm, 1502, rfl⟩
abbrev main_v1182 : Ref sig .tc := ⟨.hbm, 1503, rfl⟩
abbrev main_v1183 : Ref sig .tc := ⟨.hbm, 1504, rfl⟩
abbrev main_v1184 : Ref sig .tc := ⟨.hbm, 1505, rfl⟩
abbrev main_c_318 : Ref sig .tc := ⟨.hbm, 1506, rfl⟩
abbrev main_v1185 : Ref sig .tc := ⟨.hbm, 1507, rfl⟩
abbrev main_v1186 : Ref sig .tc := ⟨.hbm, 1508, rfl⟩
abbrev main_c_319 : Ref sig .tc := ⟨.hbm, 1509, rfl⟩
abbrev main_v1187 : Ref sig .tc := ⟨.hbm, 1510, rfl⟩
abbrev main_v1188 : Ref sig .tc := ⟨.hbm, 1511, rfl⟩
abbrev main_v1189 : Ref sig .tc := ⟨.hbm, 1512, rfl⟩
abbrev main_v1190 : Ref sig .tc := ⟨.hbm, 1513, rfl⟩
abbrev main_v1191 : Ref sig .tc := ⟨.hbm, 1514, rfl⟩
abbrev main_v1192 : Ref sig .tc := ⟨.hbm, 1515, rfl⟩
abbrev main_v1193 : Ref sig .tc := ⟨.hbm, 1516, rfl⟩
abbrev main_v1194 : Ref sig .tc := ⟨.hbm, 1517, rfl⟩
abbrev main_c_320 : Ref sig .tc := ⟨.hbm, 1518, rfl⟩
abbrev main_v1195 : Ref sig .tc := ⟨.hbm, 1519, rfl⟩
abbrev main_v1196 : Ref sig .tc := ⟨.hbm, 1520, rfl⟩
abbrev main_v1197 : Ref sig .tc := ⟨.hbm, 1521, rfl⟩
abbrev main_c_321 : Ref sig .tc := ⟨.hbm, 1522, rfl⟩
abbrev main_v1198 : Ref sig .tc := ⟨.hbm, 1523, rfl⟩
abbrev main_v1199 : Ref sig .tc := ⟨.hbm, 1524, rfl⟩
abbrev main_c_322 : Ref sig .tc := ⟨.hbm, 1525, rfl⟩
abbrev main_v1200 : Ref sig .tc := ⟨.hbm, 1526, rfl⟩
abbrev main_v1201 : Ref sig .tc := ⟨.hbm, 1527, rfl⟩
abbrev main_v1202 : Ref sig .tc := ⟨.hbm, 1528, rfl⟩
abbrev main_v1203 : Ref sig .tc := ⟨.hbm, 1529, rfl⟩
abbrev main_v1204 : Ref sig .tc := ⟨.hbm, 1530, rfl⟩
abbrev main_c_323 : Ref sig .tc := ⟨.hbm, 1531, rfl⟩
abbrev main_v1205 : Ref sig .tc := ⟨.hbm, 1532, rfl⟩
abbrev main_v1206 : Ref sig .tc := ⟨.hbm, 1533, rfl⟩
abbrev main_c_324 : Ref sig .tc := ⟨.hbm, 1534, rfl⟩
abbrev main_v1207 : Ref sig .tc := ⟨.hbm, 1535, rfl⟩
abbrev main_v1208 : Ref sig .tc := ⟨.hbm, 1536, rfl⟩
abbrev main_v1209 : Ref sig .tc := ⟨.hbm, 1537, rfl⟩
abbrev main_v1210 : Ref sig .tc := ⟨.hbm, 1538, rfl⟩
abbrev main_v1211 : Ref sig .tc := ⟨.hbm, 1539, rfl⟩
abbrev main_c_325 : Ref sig .tc := ⟨.hbm, 1540, rfl⟩
abbrev main_v1212 : Ref sig .tc := ⟨.hbm, 1541, rfl⟩
abbrev main_v1213 : Ref sig .tc := ⟨.hbm, 1542, rfl⟩
abbrev main_c_326 : Ref sig .tc := ⟨.hbm, 1543, rfl⟩
abbrev main_v1214 : Ref sig .tc := ⟨.hbm, 1544, rfl⟩
abbrev main_v1215 : Ref sig .tc := ⟨.hbm, 1545, rfl⟩
abbrev main_v1216 : Ref sig .tc := ⟨.hbm, 1546, rfl⟩
abbrev main_v1217 : Ref sig .tc := ⟨.hbm, 1547, rfl⟩
abbrev main_v1218 : Ref sig .tc := ⟨.hbm, 1548, rfl⟩
abbrev main_c_327 : Ref sig .tc := ⟨.hbm, 1549, rfl⟩
abbrev main_v1219 : Ref sig .tc := ⟨.hbm, 1550, rfl⟩
abbrev main_v1220 : Ref sig .tc := ⟨.hbm, 1551, rfl⟩
abbrev main_c_328 : Ref sig .tc := ⟨.hbm, 1552, rfl⟩
abbrev main_v1221 : Ref sig .tc := ⟨.hbm, 1553, rfl⟩
abbrev main_v1222 : Ref sig .tc := ⟨.hbm, 1554, rfl⟩
abbrev main_v1223 : Ref sig .tc := ⟨.hbm, 1555, rfl⟩
abbrev main_v1224 : Ref sig .tc := ⟨.hbm, 1556, rfl⟩
abbrev main_v1225 : Ref sig .tc := ⟨.hbm, 1557, rfl⟩
abbrev main_v1226 : Ref sig .tc := ⟨.hbm, 1558, rfl⟩
abbrev main_v1227 : Ref sig .tc := ⟨.hbm, 1559, rfl⟩
abbrev main_v1228 : Ref sig .tc := ⟨.hbm, 1560, rfl⟩
abbrev main_c_329 : Ref sig .tc := ⟨.hbm, 1561, rfl⟩
abbrev main_v1229 : Ref sig .tc := ⟨.hbm, 1562, rfl⟩
abbrev main_v1230 : Ref sig .tc := ⟨.hbm, 1563, rfl⟩
abbrev main_v1231 : Ref sig .tc := ⟨.hbm, 1564, rfl⟩
abbrev main_c_330 : Ref sig .tc := ⟨.hbm, 1565, rfl⟩
abbrev main_v1232 : Ref sig .tc := ⟨.hbm, 1566, rfl⟩
abbrev main_v1233 : Ref sig .tc := ⟨.hbm, 1567, rfl⟩
abbrev main_c_331 : Ref sig .tc := ⟨.hbm, 1568, rfl⟩
abbrev main_v1234 : Ref sig .tc := ⟨.hbm, 1569, rfl⟩
abbrev main_v1235 : Ref sig .tc := ⟨.hbm, 1570, rfl⟩
abbrev main_v1236 : Ref sig .tc := ⟨.hbm, 1571, rfl⟩
abbrev main_v1237 : Ref sig .tc := ⟨.hbm, 1572, rfl⟩
abbrev main_v1238 : Ref sig .tc := ⟨.hbm, 1573, rfl⟩
abbrev main_c_332 : Ref sig .tc := ⟨.hbm, 1574, rfl⟩
abbrev main_v1239 : Ref sig .tc := ⟨.hbm, 1575, rfl⟩
abbrev main_v1240 : Ref sig .tc := ⟨.hbm, 1576, rfl⟩
abbrev main_c_333 : Ref sig .tc := ⟨.hbm, 1577, rfl⟩
abbrev main_v1241 : Ref sig .tc := ⟨.hbm, 1578, rfl⟩
abbrev main_v1242 : Ref sig .tc := ⟨.hbm, 1579, rfl⟩
abbrev main_v1243 : Ref sig .tc := ⟨.hbm, 1580, rfl⟩
abbrev main_v1244 : Ref sig .tc := ⟨.hbm, 1581, rfl⟩
abbrev main_v1245 : Ref sig .tc := ⟨.hbm, 1582, rfl⟩
abbrev main_c_334 : Ref sig .tc := ⟨.hbm, 1583, rfl⟩
abbrev main_v1246 : Ref sig .tc := ⟨.hbm, 1584, rfl⟩
abbrev main_v1247 : Ref sig .tc := ⟨.hbm, 1585, rfl⟩
abbrev main_c_335 : Ref sig .tc := ⟨.hbm, 1586, rfl⟩
abbrev main_v1248 : Ref sig .tc := ⟨.hbm, 1587, rfl⟩
abbrev main_v1249 : Ref sig .tc := ⟨.hbm, 1588, rfl⟩
abbrev main_v1250 : Ref sig .tc := ⟨.hbm, 1589, rfl⟩
abbrev main_v1251 : Ref sig .tc := ⟨.hbm, 1590, rfl⟩
abbrev main_v1252 : Ref sig .tc := ⟨.hbm, 1591, rfl⟩
abbrev main_c_336 : Ref sig .tc := ⟨.hbm, 1592, rfl⟩
abbrev main_v1253 : Ref sig .tc := ⟨.hbm, 1593, rfl⟩
abbrev main_v1254 : Ref sig .tc := ⟨.hbm, 1594, rfl⟩
abbrev main_c_337 : Ref sig .tc := ⟨.hbm, 1595, rfl⟩
abbrev main_v1255 : Ref sig .tc := ⟨.hbm, 1596, rfl⟩
abbrev main_v1256 : Ref sig .tc := ⟨.hbm, 1597, rfl⟩
abbrev main_v1257 : Ref sig .tc := ⟨.hbm, 1598, rfl⟩
abbrev main_v1258 : Ref sig .tc := ⟨.hbm, 1599, rfl⟩
abbrev main_v1259 : Ref sig .tc := ⟨.hbm, 1600, rfl⟩
abbrev main_v1260 : Ref sig .tc := ⟨.hbm, 1601, rfl⟩
abbrev main_v1261 : Ref sig .tc := ⟨.hbm, 1602, rfl⟩
abbrev main_v1262 : Ref sig .tc := ⟨.hbm, 1603, rfl⟩
abbrev main_c_338 : Ref sig .tc := ⟨.hbm, 1604, rfl⟩
abbrev main_v1263 : Ref sig .tc := ⟨.hbm, 1605, rfl⟩
abbrev main_v1264 : Ref sig .tc := ⟨.hbm, 1606, rfl⟩
abbrev main_v1265 : Ref sig .tc := ⟨.hbm, 1607, rfl⟩
abbrev main_c_339 : Ref sig .tc := ⟨.hbm, 1608, rfl⟩
abbrev main_v1266 : Ref sig .tc := ⟨.hbm, 1609, rfl⟩
abbrev main_v1267 : Ref sig .tc := ⟨.hbm, 1610, rfl⟩
abbrev main_c_340 : Ref sig .tc := ⟨.hbm, 1611, rfl⟩
abbrev main_v1268 : Ref sig .tc := ⟨.hbm, 1612, rfl⟩
abbrev main_v1269 : Ref sig .tc := ⟨.hbm, 1613, rfl⟩
abbrev main_v1270 : Ref sig .tc := ⟨.hbm, 1614, rfl⟩
abbrev main_v1271 : Ref sig .tc := ⟨.hbm, 1615, rfl⟩
abbrev main_v1272 : Ref sig .tc := ⟨.hbm, 1616, rfl⟩
abbrev main_c_341 : Ref sig .tc := ⟨.hbm, 1617, rfl⟩
abbrev main_v1273 : Ref sig .tc := ⟨.hbm, 1618, rfl⟩
abbrev main_v1274 : Ref sig .tc := ⟨.hbm, 1619, rfl⟩
abbrev main_c_342 : Ref sig .tc := ⟨.hbm, 1620, rfl⟩
abbrev main_v1275 : Ref sig .tc := ⟨.hbm, 1621, rfl⟩
abbrev main_v1276 : Ref sig .tc := ⟨.hbm, 1622, rfl⟩
abbrev main_v1277 : Ref sig .tc := ⟨.hbm, 1623, rfl⟩
abbrev main_v1278 : Ref sig .tc := ⟨.hbm, 1624, rfl⟩
abbrev main_v1279 : Ref sig .tc := ⟨.hbm, 1625, rfl⟩
abbrev main_c_343 : Ref sig .tc := ⟨.hbm, 1626, rfl⟩
abbrev main_v1280 : Ref sig .tc := ⟨.hbm, 1627, rfl⟩
abbrev main_v1281 : Ref sig .tc := ⟨.hbm, 1628, rfl⟩
abbrev main_c_344 : Ref sig .tc := ⟨.hbm, 1629, rfl⟩
abbrev main_v1282 : Ref sig .tc := ⟨.hbm, 1630, rfl⟩
abbrev main_v1283 : Ref sig .tc := ⟨.hbm, 1631, rfl⟩
abbrev main_v1284 : Ref sig .tc := ⟨.hbm, 1632, rfl⟩
abbrev main_v1285 : Ref sig .tc := ⟨.hbm, 1633, rfl⟩
abbrev main_v1286 : Ref sig .tc := ⟨.hbm, 1634, rfl⟩
abbrev main_c_345 : Ref sig .tc := ⟨.hbm, 1635, rfl⟩
abbrev main_v1287 : Ref sig .tc := ⟨.hbm, 1636, rfl⟩
abbrev main_v1288 : Ref sig .tc := ⟨.hbm, 1637, rfl⟩
abbrev main_c_346 : Ref sig .tc := ⟨.hbm, 1638, rfl⟩
abbrev main_v1289 : Ref sig .tc := ⟨.hbm, 1639, rfl⟩
abbrev main_v1290 : Ref sig .tc := ⟨.hbm, 1640, rfl⟩
abbrev main_v1291 : Ref sig .tc := ⟨.hbm, 1641, rfl⟩
abbrev main_v1292 : Ref sig .tc := ⟨.hbm, 1642, rfl⟩
abbrev main_v1293 : Ref sig .tc := ⟨.hbm, 1643, rfl⟩
abbrev main_v1294 : Ref sig .tc := ⟨.hbm, 1644, rfl⟩
abbrev main_v1295 : Ref sig .tc := ⟨.hbm, 1645, rfl⟩
abbrev main_v1296 : Ref sig .tc := ⟨.hbm, 1646, rfl⟩
abbrev main_c_347 : Ref sig .tc := ⟨.hbm, 1647, rfl⟩
abbrev main_v1297 : Ref sig .tc := ⟨.hbm, 1648, rfl⟩
abbrev main_v1298 : Ref sig .tc := ⟨.hbm, 1649, rfl⟩
abbrev main_v1299 : Ref sig .tc := ⟨.hbm, 1650, rfl⟩
abbrev main_v1300 : Ref sig .tc := ⟨.hbm, 1651, rfl⟩
abbrev main_v1301 : Ref sig .tc := ⟨.hbm, 1652, rfl⟩
abbrev main_v1302 : Ref sig .tc := ⟨.hbm, 1653, rfl⟩
abbrev main_v1303 : Ref sig .tc := ⟨.hbm, 1654, rfl⟩
abbrev main_c_348 : Ref sig .tc := ⟨.hbm, 1655, rfl⟩
abbrev main_c_349 : Ref sig .tc := ⟨.hbm, 1656, rfl⟩
abbrev main_v1304 : Ref sig .tc := ⟨.hbm, 1657, rfl⟩
abbrev main_v1305 : Ref sig .tc := ⟨.hbm, 1658, rfl⟩
abbrev main_c_350 : Ref sig .tc := ⟨.hbm, 1659, rfl⟩
abbrev main_v1306 : Ref sig .tc := ⟨.hbm, 1660, rfl⟩
abbrev main_c_351 : Ref sig .tc := ⟨.hbm, 1661, rfl⟩
abbrev main_v1307 : Ref sig .tc := ⟨.hbm, 1662, rfl⟩
abbrev main_v1308 : Ref sig .tc := ⟨.hbm, 1663, rfl⟩
abbrev main_v1309 : Ref sig .tc := ⟨.hbm, 1664, rfl⟩
abbrev main_v1310 : Ref sig .tc := ⟨.hbm, 1665, rfl⟩
abbrev main_c_352 : Ref sig .tc := ⟨.hbm, 1666, rfl⟩
abbrev main_v1311 : Ref sig .tc := ⟨.hbm, 1667, rfl⟩
abbrev main_v1312 : Ref sig .tc := ⟨.hbm, 1668, rfl⟩
abbrev main_v1313 : Ref sig .tc := ⟨.hbm, 1669, rfl⟩
abbrev main_c_353 : Ref sig .tc := ⟨.hbm, 1670, rfl⟩
abbrev main_v1314 : Ref sig .tc := ⟨.hbm, 1671, rfl⟩
abbrev main_v1315 : Ref sig .tc := ⟨.hbm, 1672, rfl⟩
abbrev main_v1316 : Ref sig .tc := ⟨.hbm, 1673, rfl⟩
abbrev main_v1317 : Ref sig .tc := ⟨.hbm, 1674, rfl⟩
abbrev main_v1318 : Ref sig .tc := ⟨.hbm, 1675, rfl⟩
abbrev main_v1319 : Ref sig .tc := ⟨.hbm, 1676, rfl⟩
abbrev main_v1320 : Ref sig .tc := ⟨.hbm, 1677, rfl⟩
abbrev main_v1321 : Ref sig .tc := ⟨.hbm, 1678, rfl⟩
abbrev main_v1322 : Ref sig .tc := ⟨.hbm, 1679, rfl⟩
abbrev main_v1323 : Ref sig .tc := ⟨.hbm, 1680, rfl⟩
abbrev main_v1324 : Ref sig .tc := ⟨.hbm, 1681, rfl⟩
abbrev main_c_354 : Ref sig .tc := ⟨.hbm, 1682, rfl⟩
abbrev main_v1325 : Ref sig .tc := ⟨.hbm, 1683, rfl⟩
abbrev main_v1326 : Ref sig .tc := ⟨.hbm, 1684, rfl⟩
abbrev main_v1327 : Ref sig .tc := ⟨.hbm, 1685, rfl⟩
abbrev main_v1328 : Ref sig .tc := ⟨.hbm, 1686, rfl⟩
abbrev main_c_355 : Ref sig .tc := ⟨.hbm, 1687, rfl⟩
abbrev main_v1329 : Ref sig .tc := ⟨.hbm, 1688, rfl⟩
abbrev main_v1330 : Ref sig .tc := ⟨.hbm, 1689, rfl⟩
abbrev main_v1331 : Ref sig .tc := ⟨.hbm, 1690, rfl⟩
abbrev main_v1332 : Ref sig .tc := ⟨.hbm, 1691, rfl⟩
abbrev main_v1333 : Ref sig .tc := ⟨.hbm, 1692, rfl⟩
abbrev main_v1334 : Ref sig .tc := ⟨.hbm, 1693, rfl⟩
abbrev main_v1335 : Ref sig .tc := ⟨.hbm, 1694, rfl⟩
abbrev main_v1336 : Ref sig .tc := ⟨.hbm, 1695, rfl⟩
abbrev main_v1337 : Ref sig .tc := ⟨.hbm, 1696, rfl⟩
abbrev main_c_356 : Ref sig .tc := ⟨.hbm, 1697, rfl⟩
abbrev main_v1338 : Ref sig .tc := ⟨.hbm, 1698, rfl⟩
abbrev main_v1339 : Ref sig .tc := ⟨.hbm, 1699, rfl⟩
abbrev main_c_357 : Ref sig .tc := ⟨.hbm, 1700, rfl⟩
abbrev main_v1340 : Ref sig .tc := ⟨.hbm, 1701, rfl⟩
abbrev main_v1341 : Ref sig .tc := ⟨.hbm, 1702, rfl⟩
abbrev main_v1342 : Ref sig .tc := ⟨.hbm, 1703, rfl⟩
abbrev main_v1343 : Ref sig .tc := ⟨.hbm, 1704, rfl⟩
abbrev main_v1344 : Ref sig .tc := ⟨.hbm, 1705, rfl⟩
abbrev main_c_358 : Ref sig .tc := ⟨.hbm, 1706, rfl⟩
abbrev main_v1345 : Ref sig .tc := ⟨.hbm, 1707, rfl⟩
abbrev main_v1346 : Ref sig .tc := ⟨.hbm, 1708, rfl⟩
abbrev main_c_359 : Ref sig .tc := ⟨.hbm, 1709, rfl⟩
abbrev main_v1347 : Ref sig .tc := ⟨.hbm, 1710, rfl⟩
abbrev main_v1348 : Ref sig .tc := ⟨.hbm, 1711, rfl⟩
abbrev main_v1349 : Ref sig .tc := ⟨.hbm, 1712, rfl⟩
abbrev main_v1350 : Ref sig .tc := ⟨.hbm, 1713, rfl⟩
abbrev main_v1351 : Ref sig .tc := ⟨.hbm, 1714, rfl⟩
abbrev main_c_360 : Ref sig .tc := ⟨.hbm, 1715, rfl⟩
abbrev main_v1352 : Ref sig .tc := ⟨.hbm, 1716, rfl⟩
abbrev main_v1353 : Ref sig .tc := ⟨.hbm, 1717, rfl⟩
abbrev main_c_361 : Ref sig .tc := ⟨.hbm, 1718, rfl⟩
abbrev main_v1354 : Ref sig .tc := ⟨.hbm, 1719, rfl⟩
abbrev main_v1355 : Ref sig .tc := ⟨.hbm, 1720, rfl⟩
abbrev main_v1356 : Ref sig .tc := ⟨.hbm, 1721, rfl⟩
abbrev main_v1357 : Ref sig .tc := ⟨.hbm, 1722, rfl⟩
abbrev main_v1358 : Ref sig .tc := ⟨.hbm, 1723, rfl⟩
abbrev main_c_362 : Ref sig .tc := ⟨.hbm, 1724, rfl⟩
abbrev main_v1359 : Ref sig .tc := ⟨.hbm, 1725, rfl⟩
abbrev main_v1360 : Ref sig .tc := ⟨.hbm, 1726, rfl⟩
abbrev main_c_363 : Ref sig .tc := ⟨.hbm, 1727, rfl⟩
abbrev main_v1361 : Ref sig .tc := ⟨.hbm, 1728, rfl⟩
abbrev main_v1362 : Ref sig .tc := ⟨.hbm, 1729, rfl⟩
abbrev main_v1363 : Ref sig .tc := ⟨.hbm, 1730, rfl⟩
abbrev main_v1364 : Ref sig .tc := ⟨.hbm, 1731, rfl⟩
abbrev main_v1365 : Ref sig .tc := ⟨.hbm, 1732, rfl⟩
abbrev main_v1366 : Ref sig .tc := ⟨.hbm, 1733, rfl⟩
abbrev main_v1367 : Ref sig .tc := ⟨.hbm, 1734, rfl⟩
abbrev main_v1368 : Ref sig .tc := ⟨.hbm, 1735, rfl⟩
abbrev main_c_364 : Ref sig .tc := ⟨.hbm, 1736, rfl⟩
abbrev main_v1369 : Ref sig .tc := ⟨.hbm, 1737, rfl⟩
abbrev main_v1370 : Ref sig .tc := ⟨.hbm, 1738, rfl⟩
abbrev main_v1371 : Ref sig .tc := ⟨.hbm, 1739, rfl⟩
abbrev main_c_365 : Ref sig .tc := ⟨.hbm, 1740, rfl⟩
abbrev main_v1372 : Ref sig .tc := ⟨.hbm, 1741, rfl⟩
abbrev main_v1373 : Ref sig .tc := ⟨.hbm, 1742, rfl⟩
abbrev main_c_366 : Ref sig .tc := ⟨.hbm, 1743, rfl⟩
abbrev main_v1374 : Ref sig .tc := ⟨.hbm, 1744, rfl⟩
abbrev main_v1375 : Ref sig .tc := ⟨.hbm, 1745, rfl⟩
abbrev main_v1376 : Ref sig .tc := ⟨.hbm, 1746, rfl⟩
abbrev main_v1377 : Ref sig .tc := ⟨.hbm, 1747, rfl⟩
abbrev main_v1378 : Ref sig .tc := ⟨.hbm, 1748, rfl⟩
abbrev main_c_367 : Ref sig .tc := ⟨.hbm, 1749, rfl⟩
abbrev main_v1379 : Ref sig .tc := ⟨.hbm, 1750, rfl⟩
abbrev main_v1380 : Ref sig .tc := ⟨.hbm, 1751, rfl⟩
abbrev main_c_368 : Ref sig .tc := ⟨.hbm, 1752, rfl⟩
abbrev main_v1381 : Ref sig .tc := ⟨.hbm, 1753, rfl⟩
abbrev main_v1382 : Ref sig .tc := ⟨.hbm, 1754, rfl⟩
abbrev main_v1383 : Ref sig .tc := ⟨.hbm, 1755, rfl⟩
abbrev main_v1384 : Ref sig .tc := ⟨.hbm, 1756, rfl⟩
abbrev main_v1385 : Ref sig .tc := ⟨.hbm, 1757, rfl⟩
abbrev main_c_369 : Ref sig .tc := ⟨.hbm, 1758, rfl⟩
abbrev main_v1386 : Ref sig .tc := ⟨.hbm, 1759, rfl⟩
abbrev main_v1387 : Ref sig .tc := ⟨.hbm, 1760, rfl⟩
abbrev main_c_370 : Ref sig .tc := ⟨.hbm, 1761, rfl⟩
abbrev main_v1388 : Ref sig .tc := ⟨.hbm, 1762, rfl⟩
abbrev main_v1389 : Ref sig .tc := ⟨.hbm, 1763, rfl⟩
abbrev main_v1390 : Ref sig .tc := ⟨.hbm, 1764, rfl⟩
abbrev main_v1391 : Ref sig .tc := ⟨.hbm, 1765, rfl⟩
abbrev main_v1392 : Ref sig .tc := ⟨.hbm, 1766, rfl⟩
abbrev main_c_371 : Ref sig .tc := ⟨.hbm, 1767, rfl⟩
abbrev main_v1393 : Ref sig .tc := ⟨.hbm, 1768, rfl⟩
abbrev main_v1394 : Ref sig .tc := ⟨.hbm, 1769, rfl⟩
abbrev main_c_372 : Ref sig .tc := ⟨.hbm, 1770, rfl⟩
abbrev main_v1395 : Ref sig .tc := ⟨.hbm, 1771, rfl⟩
abbrev main_v1396 : Ref sig .tc := ⟨.hbm, 1772, rfl⟩
abbrev main_v1397 : Ref sig .tc := ⟨.hbm, 1773, rfl⟩
abbrev main_v1398 : Ref sig .tc := ⟨.hbm, 1774, rfl⟩
abbrev main_v1399 : Ref sig .tc := ⟨.hbm, 1775, rfl⟩
abbrev main_v1400 : Ref sig .tc := ⟨.hbm, 1776, rfl⟩
abbrev main_v1401 : Ref sig .tc := ⟨.hbm, 1777, rfl⟩
abbrev main_v1402 : Ref sig .tc := ⟨.hbm, 1778, rfl⟩
abbrev main_c_373 : Ref sig .tc := ⟨.hbm, 1779, rfl⟩
abbrev main_v1403 : Ref sig .tc := ⟨.hbm, 1780, rfl⟩
abbrev main_v1404 : Ref sig .tc := ⟨.hbm, 1781, rfl⟩
abbrev main_v1405 : Ref sig .tc := ⟨.hbm, 1782, rfl⟩
abbrev main_c_374 : Ref sig .tc := ⟨.hbm, 1783, rfl⟩
abbrev main_v1406 : Ref sig .tc := ⟨.hbm, 1784, rfl⟩
abbrev main_v1407 : Ref sig .tc := ⟨.hbm, 1785, rfl⟩
abbrev main_c_375 : Ref sig .tc := ⟨.hbm, 1786, rfl⟩
abbrev main_v1408 : Ref sig .tc := ⟨.hbm, 1787, rfl⟩
abbrev main_v1409 : Ref sig .tc := ⟨.hbm, 1788, rfl⟩
abbrev main_v1410 : Ref sig .tc := ⟨.hbm, 1789, rfl⟩
abbrev main_v1411 : Ref sig .tc := ⟨.hbm, 1790, rfl⟩
abbrev main_v1412 : Ref sig .tc := ⟨.hbm, 1791, rfl⟩
abbrev main_c_376 : Ref sig .tc := ⟨.hbm, 1792, rfl⟩
abbrev main_v1413 : Ref sig .tc := ⟨.hbm, 1793, rfl⟩
abbrev main_v1414 : Ref sig .tc := ⟨.hbm, 1794, rfl⟩
abbrev main_c_377 : Ref sig .tc := ⟨.hbm, 1795, rfl⟩
abbrev main_v1415 : Ref sig .tc := ⟨.hbm, 1796, rfl⟩
abbrev main_v1416 : Ref sig .tc := ⟨.hbm, 1797, rfl⟩
abbrev main_v1417 : Ref sig .tc := ⟨.hbm, 1798, rfl⟩
abbrev main_v1418 : Ref sig .tc := ⟨.hbm, 1799, rfl⟩
abbrev main_v1419 : Ref sig .tc := ⟨.hbm, 1800, rfl⟩
abbrev main_c_378 : Ref sig .tc := ⟨.hbm, 1801, rfl⟩
abbrev main_v1420 : Ref sig .tc := ⟨.hbm, 1802, rfl⟩
abbrev main_v1421 : Ref sig .tc := ⟨.hbm, 1803, rfl⟩
abbrev main_c_379 : Ref sig .tc := ⟨.hbm, 1804, rfl⟩
abbrev main_v1422 : Ref sig .tc := ⟨.hbm, 1805, rfl⟩
abbrev main_v1423 : Ref sig .tc := ⟨.hbm, 1806, rfl⟩
abbrev main_v1424 : Ref sig .tc := ⟨.hbm, 1807, rfl⟩
abbrev main_v1425 : Ref sig .tc := ⟨.hbm, 1808, rfl⟩
abbrev main_v1426 : Ref sig .tc := ⟨.hbm, 1809, rfl⟩
abbrev main_c_380 : Ref sig .tc := ⟨.hbm, 1810, rfl⟩
abbrev main_v1427 : Ref sig .tc := ⟨.hbm, 1811, rfl⟩
abbrev main_v1428 : Ref sig .tc := ⟨.hbm, 1812, rfl⟩
abbrev main_c_381 : Ref sig .tc := ⟨.hbm, 1813, rfl⟩
abbrev main_v1429 : Ref sig .tc := ⟨.hbm, 1814, rfl⟩
abbrev main_v1430 : Ref sig .tc := ⟨.hbm, 1815, rfl⟩
abbrev main_v1431 : Ref sig .tc := ⟨.hbm, 1816, rfl⟩
abbrev main_v1432 : Ref sig .tc := ⟨.hbm, 1817, rfl⟩
abbrev main_v1433 : Ref sig .tc := ⟨.hbm, 1818, rfl⟩
abbrev main_v1434 : Ref sig .tc := ⟨.hbm, 1819, rfl⟩
abbrev main_v1435 : Ref sig .tc := ⟨.hbm, 1820, rfl⟩
abbrev main_v1436 : Ref sig .tc := ⟨.hbm, 1821, rfl⟩
abbrev main_c_382 : Ref sig .tc := ⟨.hbm, 1822, rfl⟩
abbrev main_v1437 : Ref sig .tc := ⟨.hbm, 1823, rfl⟩
abbrev main_v1438 : Ref sig .tc := ⟨.hbm, 1824, rfl⟩
abbrev main_v1439 : Ref sig .tc := ⟨.hbm, 1825, rfl⟩
abbrev main_c_383 : Ref sig .tc := ⟨.hbm, 1826, rfl⟩
abbrev main_v1440 : Ref sig .tc := ⟨.hbm, 1827, rfl⟩
abbrev main_v1441 : Ref sig .tc := ⟨.hbm, 1828, rfl⟩
abbrev main_c_384 : Ref sig .tc := ⟨.hbm, 1829, rfl⟩
abbrev main_v1442 : Ref sig .tc := ⟨.hbm, 1830, rfl⟩
abbrev main_v1443 : Ref sig .tc := ⟨.hbm, 1831, rfl⟩
abbrev main_v1444 : Ref sig .tc := ⟨.hbm, 1832, rfl⟩
abbrev main_v1445 : Ref sig .tc := ⟨.hbm, 1833, rfl⟩
abbrev main_v1446 : Ref sig .tc := ⟨.hbm, 1834, rfl⟩
abbrev main_c_385 : Ref sig .tc := ⟨.hbm, 1835, rfl⟩
abbrev main_v1447 : Ref sig .tc := ⟨.hbm, 1836, rfl⟩
abbrev main_v1448 : Ref sig .tc := ⟨.hbm, 1837, rfl⟩
abbrev main_c_386 : Ref sig .tc := ⟨.hbm, 1838, rfl⟩
abbrev main_v1449 : Ref sig .tc := ⟨.hbm, 1839, rfl⟩
abbrev main_v1450 : Ref sig .tc := ⟨.hbm, 1840, rfl⟩
abbrev main_v1451 : Ref sig .tc := ⟨.hbm, 1841, rfl⟩
abbrev main_v1452 : Ref sig .tc := ⟨.hbm, 1842, rfl⟩
abbrev main_v1453 : Ref sig .tc := ⟨.hbm, 1843, rfl⟩
abbrev main_c_387 : Ref sig .tc := ⟨.hbm, 1844, rfl⟩
abbrev main_v1454 : Ref sig .tc := ⟨.hbm, 1845, rfl⟩
abbrev main_v1455 : Ref sig .tc := ⟨.hbm, 1846, rfl⟩
abbrev main_c_388 : Ref sig .tc := ⟨.hbm, 1847, rfl⟩
abbrev main_v1456 : Ref sig .tc := ⟨.hbm, 1848, rfl⟩
abbrev main_v1457 : Ref sig .tc := ⟨.hbm, 1849, rfl⟩
abbrev main_v1458 : Ref sig .tc := ⟨.hbm, 1850, rfl⟩
abbrev main_v1459 : Ref sig .tc := ⟨.hbm, 1851, rfl⟩
abbrev main_v1460 : Ref sig .tc := ⟨.hbm, 1852, rfl⟩
abbrev main_c_389 : Ref sig .tc := ⟨.hbm, 1853, rfl⟩
abbrev main_v1461 : Ref sig .tc := ⟨.hbm, 1854, rfl⟩
abbrev main_v1462 : Ref sig .tc := ⟨.hbm, 1855, rfl⟩
abbrev main_c_390 : Ref sig .tc := ⟨.hbm, 1856, rfl⟩
abbrev main_v1463 : Ref sig .tc := ⟨.hbm, 1857, rfl⟩
abbrev main_v1464 : Ref sig .tc := ⟨.hbm, 1858, rfl⟩
abbrev main_v1465 : Ref sig .tc := ⟨.hbm, 1859, rfl⟩
abbrev main_v1466 : Ref sig .tc := ⟨.hbm, 1860, rfl⟩
abbrev main_v1467 : Ref sig .tc := ⟨.hbm, 1861, rfl⟩
abbrev main_v1468 : Ref sig .tc := ⟨.hbm, 1862, rfl⟩
abbrev main_v1469 : Ref sig .tc := ⟨.hbm, 1863, rfl⟩
abbrev main_v1470 : Ref sig .tc := ⟨.hbm, 1864, rfl⟩
abbrev main_c_391 : Ref sig .tc := ⟨.hbm, 1865, rfl⟩
abbrev main_v1471 : Ref sig .tc := ⟨.hbm, 1866, rfl⟩
abbrev main_v1472 : Ref sig .tc := ⟨.hbm, 1867, rfl⟩
abbrev main_v1473 : Ref sig .tc := ⟨.hbm, 1868, rfl⟩
abbrev main_c_392 : Ref sig .tc := ⟨.hbm, 1869, rfl⟩
abbrev main_v1474 : Ref sig .tc := ⟨.hbm, 1870, rfl⟩
abbrev main_v1475 : Ref sig .tc := ⟨.hbm, 1871, rfl⟩
abbrev main_c_393 : Ref sig .tc := ⟨.hbm, 1872, rfl⟩
abbrev main_v1476 : Ref sig .tc := ⟨.hbm, 1873, rfl⟩
abbrev main_v1477 : Ref sig .tc := ⟨.hbm, 1874, rfl⟩
abbrev main_v1478 : Ref sig .tc := ⟨.hbm, 1875, rfl⟩
abbrev main_v1479 : Ref sig .tc := ⟨.hbm, 1876, rfl⟩
abbrev main_v1480 : Ref sig .tc := ⟨.hbm, 1877, rfl⟩
abbrev main_c_394 : Ref sig .tc := ⟨.hbm, 1878, rfl⟩
abbrev main_v1481 : Ref sig .tc := ⟨.hbm, 1879, rfl⟩
abbrev main_v1482 : Ref sig .tc := ⟨.hbm, 1880, rfl⟩
abbrev main_c_395 : Ref sig .tc := ⟨.hbm, 1881, rfl⟩
abbrev main_v1483 : Ref sig .tc := ⟨.hbm, 1882, rfl⟩
abbrev main_v1484 : Ref sig .tc := ⟨.hbm, 1883, rfl⟩
abbrev main_v1485 : Ref sig .tc := ⟨.hbm, 1884, rfl⟩
abbrev main_v1486 : Ref sig .tc := ⟨.hbm, 1885, rfl⟩
abbrev main_v1487 : Ref sig .tc := ⟨.hbm, 1886, rfl⟩
abbrev main_c_396 : Ref sig .tc := ⟨.hbm, 1887, rfl⟩
abbrev main_v1488 : Ref sig .tc := ⟨.hbm, 1888, rfl⟩
abbrev main_v1489 : Ref sig .tc := ⟨.hbm, 1889, rfl⟩
abbrev main_c_397 : Ref sig .tc := ⟨.hbm, 1890, rfl⟩
abbrev main_v1490 : Ref sig .tc := ⟨.hbm, 1891, rfl⟩
abbrev main_v1491 : Ref sig .tc := ⟨.hbm, 1892, rfl⟩
abbrev main_v1492 : Ref sig .tc := ⟨.hbm, 1893, rfl⟩
abbrev main_v1493 : Ref sig .tc := ⟨.hbm, 1894, rfl⟩
abbrev main_v1494 : Ref sig .tc := ⟨.hbm, 1895, rfl⟩
abbrev main_c_398 : Ref sig .tc := ⟨.hbm, 1896, rfl⟩
abbrev main_v1495 : Ref sig .tc := ⟨.hbm, 1897, rfl⟩
abbrev main_v1496 : Ref sig .tc := ⟨.hbm, 1898, rfl⟩
abbrev main_c_399 : Ref sig .tc := ⟨.hbm, 1899, rfl⟩
abbrev main_v1497 : Ref sig .tc := ⟨.hbm, 1900, rfl⟩
abbrev main_v1498 : Ref sig .tc := ⟨.hbm, 1901, rfl⟩
abbrev main_v1499 : Ref sig .tc := ⟨.hbm, 1902, rfl⟩
abbrev main_v1500 : Ref sig .tc := ⟨.hbm, 1903, rfl⟩
abbrev main_v1501 : Ref sig .tc := ⟨.hbm, 1904, rfl⟩
abbrev main_v1502 : Ref sig .tc := ⟨.hbm, 1905, rfl⟩
abbrev main_v1503 : Ref sig .tc := ⟨.hbm, 1906, rfl⟩
abbrev main_v1504 : Ref sig .tc := ⟨.hbm, 1907, rfl⟩
abbrev main_c_400 : Ref sig .tc := ⟨.hbm, 1908, rfl⟩
abbrev main_v1505 : Ref sig .tc := ⟨.hbm, 1909, rfl⟩
abbrev main_v1506 : Ref sig .tc := ⟨.hbm, 1910, rfl⟩
abbrev main_v1507 : Ref sig .tc := ⟨.hbm, 1911, rfl⟩
abbrev main_v1508 : Ref sig .tc := ⟨.hbm, 1912, rfl⟩
abbrev main_v1509 : Ref sig .tc := ⟨.hbm, 1913, rfl⟩
abbrev main_v1510 : Ref sig .tc := ⟨.hbm, 1914, rfl⟩
abbrev main_v1511 : Ref sig .tc := ⟨.hbm, 1915, rfl⟩
abbrev main_c_401 : Ref sig .tc := ⟨.hbm, 1916, rfl⟩
abbrev main_c_402 : Ref sig .tc := ⟨.hbm, 1917, rfl⟩
abbrev main_v1512 : Ref sig .tc := ⟨.hbm, 1918, rfl⟩
abbrev main_v1513 : Ref sig .tc := ⟨.hbm, 1919, rfl⟩
abbrev main_c_403 : Ref sig .tc := ⟨.hbm, 1920, rfl⟩
abbrev main_v1514 : Ref sig .tc := ⟨.hbm, 1921, rfl⟩
abbrev main_c_404 : Ref sig .tc := ⟨.hbm, 1922, rfl⟩
abbrev main_v1515 : Ref sig .tc := ⟨.hbm, 1923, rfl⟩
abbrev main_v1516 : Ref sig .tc := ⟨.hbm, 1924, rfl⟩
abbrev main_v1517 : Ref sig .tc := ⟨.hbm, 1925, rfl⟩
abbrev main_v1518 : Ref sig .tc := ⟨.hbm, 1926, rfl⟩
abbrev main_c_405 : Ref sig .tc := ⟨.hbm, 1927, rfl⟩
abbrev main_v1519 : Ref sig .tc := ⟨.hbm, 1928, rfl⟩
abbrev main_v1520 : Ref sig .tc := ⟨.hbm, 1929, rfl⟩
abbrev main_v1521 : Ref sig .tc := ⟨.hbm, 1930, rfl⟩
abbrev main_c_406 : Ref sig .tc := ⟨.hbm, 1931, rfl⟩
abbrev main_v1522 : Ref sig .tc := ⟨.hbm, 1932, rfl⟩
abbrev main_v1523 : Ref sig .tc := ⟨.hbm, 1933, rfl⟩
abbrev main_v1524 : Ref sig .tc := ⟨.hbm, 1934, rfl⟩
abbrev main_v1525 : Ref sig .tc := ⟨.hbm, 1935, rfl⟩

abbrev nD : Nat := 1
abbrev τ : Topo := Topo.v7x

variable {F : FTy → Type} [FloatOps F]
-- ==== Proof.KernelIdealValues.lean ====
module

public import proofs.«01_k».proof.Proof.Gen.KernelIdeal.Frame
public import proofs.«01_k».proof.Proof.Gen.KernelIdeal.Skeleton

@[expose] public section

/-! # What the body stores

The kernel reads nothing and stores each of its five results once. The values the body binds and uses more than once
are named here (`shared360` to `shared424`, in the body's order), and the contents of each result's buffer after the body
are written over them. -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The whole buffer of result 1. -/
abbrev r0_0 : Rect S16 := Rect.unit (s := S16) ![0] S16.size inb_S16_S16_0
/-- The whole buffer of result 2. -/
abbrev r0_1 : Rect S64x100 := Rect.unit (s := S64x100) ![0, 0] S64x100.size inb_S64x100_S64x100_0_0
/-- The whole buffer of results 3, 4 and 5. -/
abbrev r0_2 : Rect S16x100 := Rect.unit (s := S16x100) ![0, 0] S16x100.size inb_S16x100_S16x100_0_0

def shared360 : IVec S1x16 32 :=
  k0_pay11 -- the value `v40`
def shared361 : IVec S1x16 32 :=
  k0_pay12 -- the value `v42`
def shared362 : IVec S1x16 32 :=
  k0_pay13 -- the value `v44`
def shared363 : IVec S1x16 32 :=
  k0_pay25 shared360 shared361 shared362 -- the value `v86`
def shared364 : IVec S1x16 32 :=
  k0_pay26 shared360 shared361 shared362 -- the value `v88`
def shared365 : IVec S1x16 32 :=
  k0_pay27 shared360 shared361 shared362 -- the value `v90`
def shared366 : IVec S1x16 32 :=
  k0_pay42 -- the value `v177`
def shared367 : IVec S1x16 32 :=
  k0_pay43 -- the value `v179`
def shared368 : IVec S1x16 32 :=
  k0_pay44 -- the value `v181`
def shared369 : IVec S1x16 32 :=
  k0_pay56 shared366 shared367 shared368 -- the value `v223`
def shared370 : IVec S1x16 32 :=
  k0_pay57 shared366 shared367 shared368 -- the value `v225`
def shared371 : IVec S1x16 32 :=
  k0_pay58 shared366 shared367 shared368 -- the value `v227`
def shared372 : IVec S1x16 32 :=
  k0_pay69 shared369 shared370 shared371 -- the value `v272`
def shared373 : IVec S1x16 32 :=
  k0_pay70 shared369 shared370 shared371 -- the value `v273`
def shared374 : IVec S1x16 32 :=
  k0_pay83 (k0_pay81 shared372 shared373) (k0_pay82 shared372 shared373) -- the value `v337`
def shared375 : IVec S64x100 32 :=
  iota .tc S64x100 32 [0] iota_S64x100_d0_w32 -- the value `v441`
def shared376 : IVec S64x100 32 :=
  k0_pay90 -- the value `v449`
def shared377 : IVec S64x100 32 :=
  k0_pay91 -- the value `v450`
def shared378 : IVec S64x100 32 :=
  k0_pay102 shared375 shared376 shared377 -- the value `v494`
def shared379 : IVec S64x100 32 :=
  k0_pay103 shared375 shared376 shared377 -- the value `v495`
def shared380 : IVec S64x100 32 :=
  k0_pay114 shared378 shared379 29#32 -- the value `v540`
def shared381 : IVec S64x100 32 :=
  k0_pay115 shared378 shared379 29#32 -- the value `v541`
def shared382 : IVec S64x100 32 :=
  k0_pay124 shared380 shared381 6#32 -- the value `v583`
def shared383 : IVec S64x100 32 :=
  k0_pay125 shared380 shared381 6#32 -- the value `v584`
def shared384 : IVec S64x100 32 :=
  k0_pay126 shared380 shared381 6#32 -- the value `v586`
def shared385 : FVec F S64x100 .f32 :=
  k0_pay127 (F := F) shared382 shared383 shared384 19#32 -- the value `v629`
def shared386 : FVec F S64x100 .f32 :=
  k0_pay128 (F := F) shared382 shared383 shared384 19#32 -- the value `v631`
def shared387 : IVec S16x100 32 :=
  k0_pay137 -- the value `v713`
def shared388 : IVec S16x100 32 :=
  k0_pay138 -- the value `v718`
def shared389 : IVec S16x100 32 :=
  k0_pay150 shared387 shared388 -- the value `v759`
def shared390 : IVec S16x100 32 :=
  k0_pay151 shared387 shared388 -- the value `v764`
def shared391 : IVec S16x100 32 :=
  k0_pay162 shared389 shared390 -- the value `v808`
def shared392 : IVec S16x100 32 :=
  k0_pay163 shared389 shared390 -- the value `v809`
def shared393 : IVec S16x100 32 :=
  k0_pay174 shared391 shared392 29#32 -- the value `v854`
def shared394 : IVec S16x100 32 :=
  k0_pay175 shared391 shared392 29#32 -- the value `v855`
def shared395 : IVec S16x100 32 :=
  k0_pay190 -- the value `v983`
def shared396 : IVec S16x100 32 :=
  k0_pay191 -- the value `v985`
def shared397 : IVec S16x100 32 :=
  k0_pay192 -- the value `v986`
def shared398 : IVec S16x100 32 :=
  k0_pay204 shared395 shared396 shared397 -- the value `v1027`
def shared399 : IVec S16x100 32 :=
  k0_pay205 shared395 shared396 shared397 -- the value `v1032`
def shared400 : IVec S16x100 32 :=
  k0_pay220 -- the value `v1121`
def shared401 : IVec S16x100 32 :=
  k0_pay221 -- the value `v1122`
def shared402 : IVec S16x100 32 :=
  k0_pay222 -- the value `v1123`
def shared403 : IVec S16x100 32 :=
  k0_pay234 shared400 shared401 shared402 -- the value `v1164`
def shared404 : IVec S16x100 32 :=
  k0_pay235 shared400 shared401 shared402 -- the value `v1169`
def shared405 : IVec S16x100 32 :=
  k0_pay247 shared403 shared404 -- the value `v1210`
def shared406 : IVec S16x100 32 :=
  k0_pay248 shared403 shared404 -- the value `v1215`
def shared407 : IVec S16x100 32 :=
  k0_pay261 (k0_pay259 shared405 shared406) (k0_pay260 shared405 shared406) 15#32 -- the value `v1285`
def shared408 : IVec S16x100 32 :=
  k0_pay267 -- the value `v1392`
def shared409 : IVec S16x100 32 :=
  k0_pay278 shared408 -- the value `v1434`
def shared410 : IVec S16x100 32 :=
  k0_pay279 shared408 -- the value `v1435`
def shared411 : IVec S16x100 32 :=
  k0_pay280 shared408 -- the value `v1437`
def shared412 : IVec S16x100 32 :=
  k0_pay291 shared409 shared410 shared411 -- the value `v1480`
def shared413 : IVec S16x100 32 :=
  k0_pay292 shared409 shared410 shared411 -- the value `v1481`
def shared414 : IVec S16x100 32 :=
  k0_pay293 shared409 shared410 shared411 -- the value `v1483`
def shared415 : IVec S16x100 32 :=
  k0_pay309 -- the value `v1571`
def shared416 : IVec S16x100 32 :=
  k0_pay310 -- the value `v1572`
def shared417 : IVec S16x100 32 :=
  k0_pay311 -- the value `v1574`
def shared418 : IVec S16x100 32 :=
  k0_pay322 shared415 shared416 shared417 -- the value `v1617`
def shared419 : IVec S16x100 32 :=
  k0_pay323 shared415 shared416 shared417 -- the value `v1618`
def shared420 : IVec S16x100 32 :=
  k0_pay324 shared415 shared416 shared417 -- the value `v1620`
def shared421 : IVec S16x100 32 :=
  k0_pay334 shared418 shared419 shared420 -- the value `v1661`
def shared422 : IVec S16x100 32 :=
  k0_pay335 shared418 shared419 shared420 -- the value `v1663`
def shared423 : IVec S16x100 32 :=
  k0_pay336 shared418 shared419 shared420 -- the value `v1665`
def shared424 : IVec S16x100 32 :=
  k0_pay351 (k0_pay348 shared421 shared422 shared423) (k0_pay349 shared421 shared422 shared423) (k0_pay350 shared421 shared422 shared423) -- the value `v1725`

/-- What the body leaves in the buffer of result 1: one store, which fills the buffer. -/
def out0_0 : Vec F S16 .i32 :=
  View.canon [⟨r0_0, k0_pay89 (F := F) (k0_pay86 (k0_pay84 (F := F) (k0_pay40 (k0_pay38 shared363 shared364 shared365) (k0_pay39 shared363 shared364 shared365))) k0_pay85) (k0_pay87 (F := F) shared374) (k0_pay88 (F := F) shared374) 100#32⟩]

/-- That one store reaches every element of the buffer. -/
theorem cover0_0 (p0 : Vec F S16 .i32) (y : S16.Idx) :
    ∃ pc ∈ ([⟨r0_0, p0⟩] : List (View.Piece (Elt F) S16 .i32)), y ∈ pc.1.set :=
  View.cover_of_tiled [⟨r0_0, p0⟩] S16.size (by rfl) y

/-- What the body leaves in the buffer of result 2: one store, which fills the buffer. -/
def out0_1 : Vec F S64x100 .f32 :=
  View.canon [⟨r0_1, k0_pay133 (shared385 (F := F)) (k0_pay129 (shared385 (F := F)) (shared386 (F := F))) (k0_pay130 (shared385 (F := F)) (shared386 (F := F))) (k0_pay131 (shared385 (F := F)) (shared386 (F := F))) (k0_pay132 (shared385 (F := F)) (shared386 (F := F)))⟩]

/-- That one store reaches every element of the buffer. -/
theorem cover0_1 (p0 : Vec F S64x100 .f32) (y : S64x100.Idx) :
    ∃ pc ∈ ([⟨r0_1, p0⟩] : List (View.Piece (Elt F) S64x100 .f32)), y ∈ pc.1.set :=
  View.cover_of_tiled [⟨r0_1, p0⟩] S64x100.size (by rfl) y

/-- What the body leaves in the buffer of result 3: one store, which fills the buffer. -/
def out0_2 : Vec F S16x100 .f32 :=
  View.canon [⟨r0_2, k0_pay181 (k0_pay176 (F := F) shared393 shared394 6#32) (k0_pay180 (k0_pay177 (F := F) shared393 shared394 6#32) (k0_pay178 (F := F) shared393 shared394 6#32) (k0_pay179 (F := F) shared393 shared394 6#32) (Scalar.ofBits .f32 0x396532DB#32))⟩]

/-- That one store reaches every element of the buffer. -/
theorem cover0_2 (p0 : Vec F S16x100 .f32) (y : S16x100.Idx) :
    ∃ pc ∈ ([⟨r0_2, p0⟩] : List (View.Piece (Elt F) S16x100 .f32)), y ∈ pc.1.set :=
  View.cover_of_tiled [⟨r0_2, p0⟩] S16x100.size (by rfl) y

/-- What the body leaves in the buffer of result 4: one store, which fills the buffer. -/
def out0_3 : Vec F S16x100 .i32 :=
  View.canon [⟨r0_2, k0_pay266 (F := F) (k0_pay263 (k0_pay262 (F := F) (k0_pay219 (k0_pay217 shared398 shared399) (k0_pay218 shared398 shared399))) 0#32) (k0_pay264 (F := F) shared407) (k0_pay265 (F := F) shared407)⟩]

/-- That one store reaches every element of the buffer. -/
theorem cover0_3 (p0 : Vec F S16x100 .i32) (y : S16x100.Idx) :
    ∃ pc ∈ ([⟨r0_2, p0⟩] : List (View.Piece (Elt F) S16x100 .i32)), y ∈ pc.1.set :=
  View.cover_of_tiled [⟨r0_2, p0⟩] S16x100.size (by rfl) y

/-- What the body leaves in the buffer of result 5: one store, which fills the buffer. -/
def out0_4 : Vec F S16x100 .i32 :=
  View.canon [⟨r0_2, k0_pay1 (k0_pay359 (k0_pay357 (k0_pay354 (k0_pay352 (F := F) (k0_pay306 (k0_pay303 shared412 shared413 shared414) (k0_pay304 shared412 shared413 shared414) (k0_pay305 shared412 shared413 shared414))) k0_pay353) (k0_pay355 shared424) (k0_pay356 (F := F) shared424)) k0_pay358)⟩]

/-- That one store reaches every element of the buffer. -/
theorem cover0_4 (p0 : Vec F S16x100 .i32) (y : S16x100.Idx) :
    ∃ pc ∈ ([⟨r0_2, p0⟩] : List (View.Piece (Elt F) S16x100 .i32)), y ∈ pc.1.set :=
  View.cover_of_tiled [⟨r0_2, p0⟩] S16x100.size (by rfl) y

end Cert.KernelIdeal.Gen

end
-- ==== Proof.KernelIdealFrame.lean ====
module

public import proofs.«01_k».proof.Proof.KernelIdealValues
public import Idealize.ShloMosaic.Lib.Claim

@[expose] public section

/-! # The launch

The body run from start to finish, the pipeline around it and the host lines after it: every execution ends, leaves the
argument unchanged and every semaphore counter at zero, and leaves each result's array as the body stored it. -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's triple -/

set_option maxHeartbeats 1000000 in
/-- The body, on buffers that hold anything, ends with each result's buffer at `out0_W`. -/
theorem sound_kernel (c : Dev nD) (E : Set ℕ) (arg0 : Memref sig .tc .vmem S16 .i32) (harg0 : arg0.IsWhole) (arg1 : Memref sig .tc .vmem S64x100 .f32) (harg1 : arg1.IsWhole) (arg2 : Memref sig .tc .vmem S16x100 .f32) (harg2 : arg2.IsWhole) (arg3 : Memref sig .tc .vmem S16x100 .i32) (harg3 : arg3.IsWhole) (arg4 : Memref sig .tc .vmem S16x100 .i32) (harg4 : arg4.IsWhole)
     (K : PUnit → sProp 𝕄) :
    iprop((∃ d, owns (c : Thread nD τ) arg0 fullShare d) ∗ (∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d)
        ∗ (iprop(owns (c : Thread nD τ) arg0 fullShare (out0_0 ) ∗ owns (c : Thread nD τ) arg1 fullShare (out0_1 ) ∗ owns (c : Thread nD τ) arg2 fullShare (out0_2 ) ∗ owns (c : Thread nD τ) arg3 fullShare (out0_3 ) ∗ owns (c : Thread nD τ) arg4 fullShare (out0_4 )) -∗ K ⟨⟩))
      ⊢ wp frame (wpE (defs₀ (F := F)) Variants.none c none) E (cc0_gen_body arg0 harg0 arg1 harg1 arg2 harg2 arg3 harg3 arg4 harg4) K := by
  simp only [cc0_gen_body_eq_skeleton]; unfold cc0_gen_body_skel
  simp only [k0_part42_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton]
  unfold owns
  iintro ⟨⟨%d0, %f0, -, H0⟩, ⟨%d1, %f1, -, H1⟩, ⟨%d2, %f2, -, H2⟩, ⟨%d3, %f3, -, H3⟩, ⟨%d4, %f4, -, H4⟩, Hk⟩
  sl_exec
  sl_step
  iapply Hk
  isplitl [H0]
  · iexists _; isplitr
    swap; · iexact H0
    ipureintro
    refine (View.read_writes_eq_canon _ _ _ (cover0_0 _)).trans ?_
    rfl
  isplitl [H1]
  · iexists _; isplitr
    swap; · iexact H1
    ipureintro
    refine (View.read_writes_eq_canon _ _ _ (cover0_1 _)).trans ?_
    rfl
  isplitl [H2]
  · iexists _; isplitr
    swap; · iexact H2
    ipureintro
    refine (View.read_writes_eq_canon _ _ _ (cover0_2 _)).trans ?_
    rfl
  isplitl [H3]
  · iexists _; isplitr
    swap; · iexact H3
    ipureintro
    refine (View.read_writes_eq_canon _ _ _ (cover0_3 _)).trans ?_
    rfl
  iexists _; isplitr
  swap; · iexact H4
  ipureintro
  refine (View.read_writes_eq_canon _ _ _ (cover0_4 _)).trans ?_
  rfl

/-! ## The pipeline's proof data -/

/-- The launch of core `c`: the arrays as found, each result's buffer after the body at `out0_W`, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => out0_0
    | ⟨1, _⟩ => out0_1
    | ⟨2, _⟩ => out0_2
    | ⟨3, _⟩ => out0_3
    | ⟨4, _⟩ => out0_4
  Φ _ := Pipeline.ΦA spec0 c
  q _ := fullShare
  owed _ := 0

/-- The launch's arrays are as found. -/
theorem A_eq (c : Dev nD) (w : Fin cfg0.W) : (dats m 0 c).A w = V m c (Pipeline.arrRef spec0 w) := by
  dsimp only [dats]

/-- After the body the buffer of each result holds `out0_W`. -/
theorem after0_0 (c : Dev nD) (t : Fin cfg0.N) : (dats m 0 c).after 0 t = out0_0  := by dsimp only [dats]
theorem after0_1 (c : Dev nD) (t : Fin cfg0.N) : (dats m 0 c).after 1 t = out0_1  := by dsimp only [dats]
theorem after0_2 (c : Dev nD) (t : Fin cfg0.N) : (dats m 0 c).after 2 t = out0_2  := by dsimp only [dats]
theorem after0_3 (c : Dev nD) (t : Fin cfg0.N) : (dats m 0 c).after 3 t = out0_3  := by dsimp only [dats]
theorem after0_4 (c : Dev nD) (t : Fin cfg0.N) : (dats m 0 c).after 4 t = out0_4  := by dsimp only [dats]

/-! ## The body obligation, at a generic point -/

/-- What holds before the body at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What holds after it. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: from `bodyPre` to `bodyPost`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _  _)
  isplitl [H0]; · iexists _; iexact H0
  isplitl [H1]; · iexists _; iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The table's row at point `t` is the body. -/
theorem defs₀_row (t : Fin cfg0.N) :
    defs₀ (F := F) .tc cfg0.body (cfg0.bodyArgs t (cfg0.slots t)) = bodyAt0 t := by
  unfold defs₀; rw [Defs.onTc_tc]

/-- The body meets its obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- Every execution ends with the arrays as the launch says and every counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- Every execution ends with the arrays as the launch and the later host lines leave them. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- Every execution leaves the argument unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

/-- Every execution ends, leaves the argument unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (unchanged m ρ) ((θ_run defs _ _).mono (fun _ h => h.2) (run_main_quiescent m ρ))

end Cert.KernelIdeal.Gen

end
-- ==== Proof.Words.lean ====
module

public import Idealize.ShloMosaic.PureOps

@[expose] public section

/-! # Counter-based random words

The Threefry-2x32 hash of a counter under a key, on single 32-bit words: twenty turns in five groups of four, the three key
words added in turn after each group. Kernel and reference are both shown to hold these words. -/

namespace Cert.Words

/-- One turn: the left word takes the sum, the right word is rotated left by `r` and mixed with that sum. -/
def turn (r : Nat) (s : BitVec 32 × BitVec 32) : BitVec 32 × BitVec 32 :=
  (s.1 + s.2, (s.1 + s.2) ^^^ ((s.2 <<< r) ||| (s.2 >>> (32 - r))))

/-- Four turns. -/
def four (a b c d : Nat) (s : BitVec 32 × BitVec 32) : BitVec 32 × BitVec 32 :=
  turn d (turn c (turn b (turn a s)))

/-- Two key words added, and the group's number to the right word. -/
def inject (a b n : BitVec 32) (s : BitVec 32 × BitVec 32) : BitVec 32 × BitVec 32 :=
  (s.1 + a, s.2 + b + n)

/-- The key's third word. -/
def third (k0 k1 : BitVec 32) : BitVec 32 := k0 ^^^ k1 ^^^ 0x1BD11BDA#32

/-- The hash of the counter `c` under the key `k0`, `k1`. -/
def hash (k0 k1 : BitVec 32) (c : BitVec 32 × BitVec 32) : BitVec 32 × BitVec 32 :=
  inject (third k0 k1) k0 5#32 <| four 13 15 26 6 <| inject k1 (third k0 k1) 4#32 <| four 17 29 16 24 <|
  inject k0 k1 3#32 <| four 13 15 26 6 <| inject (third k0 k1) k0 2#32 <| four 17 29 16 24 <|
  inject k1 (third k0 k1) 1#32 <| four 13 15 26 6 (c.1 + k0, c.2 + k1)

/-- The random word number `n` under a key: the two words of the hash of `(0, n)`, mixed. -/
def bits (k0 k1 n : BitVec 32) : BitVec 32 := (hash k0 k1 (0#32, n)).1 ^^^ (hash k0 k1 (0#32, n)).2

/-- The key number `n` split off a key. -/
def child (k : BitVec 32 × BitVec 32) (n : BitVec 32) : BitVec 32 × BitVec 32 := hash k.1 k.2 (0#32, n)

/-- The random integer below `span` from two random words: the words' remainders, joined as a 64-bit number would be. -/
def below (span u v : BitVec 32) : BitVec 32 :=
  ((u % span) * ((65536#32 % span) * (65536#32 % span) % span) + v % span) % span

end Cert.Words

end
-- ==== Proof.Vectors.lean ====
module

public import proofs.«01_k».proof.Proof.Words
public import Idealize.ShloMosaic.Lib.ValueIdx

@[expose] public section

/-! # What one block computes

The kernel's steps on whole vectors of any shape, in the kernel's own operations and order. -/

noncomputable section

namespace Cert.Vectors

open Idealize.ShloMosaic

variable {S : Shape}

/-- The left vector after one turn: the sum. -/
def left (x y : IVec S 32) : IVec S 32 := addi x y

/-- The right vector after one turn: rotated by `r` and mixed with the sum. -/
def right (r : Nat) (x y : IVec S 32) : IVec S 32 :=
  xori (ori (shli y (broadcast S (BitVec.ofNat 32 r))) (shrui y (broadcast S (BitVec.ofNat 32 (32 - r))))) (left x y)

/-- Two turns. -/
def twoL (a : Nat) (x y : IVec S 32) : IVec S 32 := left (left x y) (right a x y)
def twoR (a b : Nat) (x y : IVec S 32) : IVec S 32 := right b (left x y) (right a x y)

/-- Four turns. -/
def fourL (a b c : Nat) (x y : IVec S 32) : IVec S 32 := twoL c (twoL a x y) (twoR a b x y)
def fourR (a b c d : Nat) (x y : IVec S 32) : IVec S 32 := twoR c d (twoL a x y) (twoR a b x y)

/-- Four turns of the odd groups and the key words added after them. -/
def oddL (k : BitVec 32) (x y : IVec S 32) : IVec S 32 := addi (fourL 13 15 26 x y) (broadcast S k)
def oddR (k : BitVec 32) (x y : IVec S 32) : IVec S 32 := addi (fourR 13 15 26 6 x y) (broadcast S k)
/-- The same for the even groups. -/
def evenL (k : BitVec 32) (x y : IVec S 32) : IVec S 32 := addi (fourL 17 29 16 x y) (broadcast S k)
def evenR (k : BitVec 32) (x y : IVec S 32) : IVec S 32 := addi (fourR 17 29 16 24 x y) (broadcast S k)

/-- An odd group and the even one after it, with their key words. -/
def bothL (a b c : BitVec 32) (x y : IVec S 32) : IVec S 32 := evenL c (oddL a x y) (oddR b x y)
def bothR (a b d : BitVec 32) (x y : IVec S 32) : IVec S 32 := evenR d (oddL a x y) (oddR b x y)

/-- Four groups. -/
def allL (a b c d e f g : BitVec 32) (x y : IVec S 32) : IVec S 32 := bothL e f g (bothL a b c x y) (bothR a b d x y)
def allR (a b c d e f h : BitVec 32) (x y : IVec S 32) : IVec S 32 := bothR e f h (bothL a b c x y) (bothR a b d x y)

/-- The vector of random words. -/
def bits (k0 k1 k2 : BitVec 32) (n : IVec S 32) : IVec S 32 :=
  xori
    (oddL k2 (allL k1 (k2 + 1#32) k2 (k0 + 2#32) k0 (k1 + 3#32) k1 (broadcast S k0) (addi n (broadcast S k1)))
      (allR k1 (k2 + 1#32) k2 (k0 + 2#32) k0 (k1 + 3#32) (k2 + 4#32) (broadcast S k0) (addi n (broadcast S k1))))
    (oddR (k0 + 5#32) (allL k1 (k2 + 1#32) k2 (k0 + 2#32) k0 (k1 + 3#32) k1 (broadcast S k0) (addi n (broadcast S k1)))
      (allR k1 (k2 + 1#32) k2 (k0 + 2#32) k0 (k1 + 3#32) (k2 + 4#32) (broadcast S k0) (addi n (broadcast S k1))))

/-! ## Random integers -/

/-- The row-major number of each element of a two-axis vector with `n` columns, as the kernel counts it. -/
def count (n : BitVec 32) (r c : IVec S 32) : IVec S 32 := addi (muli r (broadcast S n)) c

/-- The high half times `c`, plus the low half; the halves of an unsigned word. -/
def foldU (c : BitVec 32) (x : IVec S 32) : IVec S 32 :=
  addi (muli (shrui x (broadcast S 16#32)) (broadcast S c)) (andi x (broadcast S 65535#32))

/-- The same with the signed shift. -/
def foldS (c : BitVec 32) (x : IVec S 32) : IVec S 32 :=
  addi (muli (shrsi x (broadcast S 16#32)) (broadcast S c)) (andi x (broadcast S 65535#32))

/-- `span` added where negative. -/
def up (span : BitVec 32) (x : IVec S 32) : IVec S 32 :=
  select (cmpi .slt x (broadcast S 0#32)) (addi x (broadcast S span)) x

/-- `span` taken off where it fits. -/
def down (span : BitVec 32) (x : IVec S 32) : IVec S 32 :=
  select (cmpi .sge x (broadcast S span)) (subi x (broadcast S span)) x

variable {F : FTy → Type} [FloatOps F]

/-- The quotient by `span` estimated in floating point (`inv` is the word of the rounded `1 / span`), its multiple taken off. -/
def near (F : FTy → Type) [FloatOps F] (inv span : BitVec 32) (x : IVec S 32) : IVec S 32 :=
  subi x (muli (fptosi 32 (floor (mulf (sitofp (F := F) .f32 x) (broadcast S (Scalar.ofBits .f32 inv)))))
    (broadcast S span))

/-- The kernel's remainder by `span` of a number of at most 24 bits. -/
def small (F : FTy → Type) [FloatOps F] (inv span : BitVec 32) (x : IVec S 32) : IVec S 32 :=
  down span (down span (up span (up span (near F inv span x))))

/-- The kernel's random integers below 100 from two vectors of random words. -/
def below100 (F : FTy → Type) [FloatOps F] (u v : IVec S 32) : IVec S 32 :=
  small F 0x3C23D70A#32 100#32
    (addi (muli (small F 0x3C23D70A#32 100#32 (foldU 36#32 u)) (broadcast S 96#32))
      (small F 0x3C23D70A#32 100#32 (foldU 36#32 v)))

/-- The same below 80. -/
def below80 (F : FTy → Type) [FloatOps F] (u v : IVec S 32) : IVec S 32 :=
  small F 0x3C4CCCCD#32 80#32
    (addi (muli (small F 0x3C4CCCCD#32 80#32 (foldU 16#32 u)) (broadcast S 16#32))
      (small F 0x3C4CCCCD#32 80#32 (foldU 16#32 v)))

/-- Three foldings of a word for the span 20000. -/
def thrice (x : IVec S 32) : IVec S 32 := foldS 5536#32 (foldS 5536#32 (foldU 5536#32 x))

/-- The same below 20000. -/
def below20000 (F : FTy → Type) [FloatOps F] (u v : IVec S 32) : IVec S 32 :=
  small F 0x3851B717#32 20000#32
    (foldS 5536#32
      (addi (muli (small F 0x3851B717#32 20000#32 (thrice u)) (broadcast S 7296#32))
        (small F 0x3851B717#32 20000#32 (thrice v))))

/-! ## Normal samples -/

/-- The uniform number of a random word, from just above -1 up to 1. -/
def uniform (n : IVec S 32) : FVec F S .f32 :=
  maximumf (broadcast S (Scalar.ofBits .f32 0xBF7FFFFF#32))
    (addf
      (mulf
        (subf (bitcastToFloat .f32 (ori (shrui n (broadcast S 9#32)) (broadcast S 1065353216#32)))
          (broadcast S (Scalar.ofBits .f32 0x3F800000#32)))
        (broadcast S (Scalar.ofBits .f32 0x40000000#32)))
      (broadcast S (Scalar.ofBits .f32 0xBF7FFFFF#32)))

/-- `-log (1 - u * u)`. -/
def weight (u : FVec F S .f32) : FVec F S .f32 :=
  subf (broadcast S (Scalar.ofBits .f32 0x00000000#32))
    (log1p (mulf (subf (broadcast S (Scalar.ofBits .f32 0x00000000#32)) u) u))

/-- One step of a polynomial's evaluation. -/
def step (c : BitVec 32) (t p : FVec F S .f32) : FVec F S .f32 := addf (broadcast S (Scalar.ofBits .f32 c)) (mulf p t)

/-- The polynomial of the central part. -/
def central (t : FVec F S .f32) : FVec F S .f32 :=
  step 0x3FC02E2F#32 t <| step 0x3E7C8F63#32 t <| step 0xBB88E4EF#32 t <| step 0xBAA45408#32 t <| step 0x396532DB#32 t <|
  step 0xB6935AC1#32 t <| step 0xB66C7357#32 t <| step 0x34B84B36#32 t <| broadcast S (Scalar.ofBits .f32 0x32F16588#32)

/-- The polynomial of the tail. -/
def tail (t : FVec F S .f32) : FVec F S .f32 :=
  step 0x40354F7E#32 t <| step 0x3F8036DB#32 t <| step 0x3C1AA57E#32 t <| step 0xBBF9C5D7#32 t <| step 0x3BBC127B#32 t <|
  step 0xBB70BDE7#32 t <| step 0x3AB0DC72#32 t <| step 0x38D3B56B#32 t <| broadcast S (Scalar.ofBits .f32 0xB951F09B#32)

/-- The kernel's normal samples from a vector of uniform numbers. -/
def spread (u : FVec F S .f32) : FVec F S .f32 :=
  mulf (broadcast S (Scalar.ofBits .f32 0x3FB504F3#32))
    (mulf
      (select (cmpf .olt (weight u) (broadcast S (Scalar.ofBits .f32 0x40A00000#32)))
        (central (subf (weight u) (broadcast S (Scalar.ofBits .f32 0x40200000#32))))
        (tail (subf (sqrt (weight u)) (broadcast S (Scalar.ofBits .f32 0x40400000#32)))))
      u)

end Cert.Vectors

end
-- ==== Proof.KernelBlock.lean ====
module

public import proofs.«01_k».proof.Proof.Vectors
public import proofs.«01_k».proof.Proof.KernelIdealValues

@[expose] public section

/-! # The stored values as block functions

Each value the body stores is the block function of the two key words the kernel is written with. -/

set_option maxRecDepth 16384

noncomputable section

namespace Cert.KernelIdeal.Gen

open Idealize.ShloMosaic

variable {F : FTy → Type} [FloatOps F]

/-- The counters of result 1. -/
def countDet : IVec S1x16 32 :=
  Vectors.count 16#32 (iota .tc S1x16 32 [0] iota_S1x16_d0_w32) (iota .tc S1x16 32 [1] iota_S1x16_d1_w32)

/-- The counters of results 3, 4 and 5. -/
def countFlat : IVec S16x100 32 :=
  Vectors.count 100#32 (iota .tc S16x100 32 [0] iota_S16x100_d0_w32) (iota .tc S16x100 32 [1] iota_S16x100_d1_w32)

/-- The counters of result 2: row `r` holds coordinate `r % 4` of the boxes of image `r / 4`. -/
def countBox : IVec S64x100 32 :=
  addi
    (addi
      (muli (shrui (iota .tc S64x100 32 [0] iota_S64x100_d0_w32) (broadcast S64x100 2#32)) (broadcast S64x100 400#32))
      (muli (iota .tc S64x100 32 [1] iota_S64x100_d1_w32) (broadcast S64x100 4#32)))
    (andi (iota .tc S64x100 32 [0] iota_S64x100_d0_w32) (broadcast S64x100 3#32))

/-- The random words under the key `k0`, `k1`. -/
def words {S : Shape} (k0 k1 : BitVec 32) (n : IVec S 32) : IVec S 32 := Vectors.bits k0 k1 (Words.third k0 k1) n

set_option maxHeartbeats 2000000 in
/-- The first vector of random words of result 1. -/
theorem det_high : k0_pay40 (k0_pay38 shared363 shared364 shared365) (k0_pay39 shared363 shared364 shared365)
    = words 1012194634#32 3152801799#32 countDet := rfl

set_option maxHeartbeats 2000000 in
/-- The second. -/
theorem det_low : shared374 = words 1705926158#32 899080142#32 countDet := rfl

set_option maxHeartbeats 2000000 in
/-- Result 1 from its two vectors of random words. -/
theorem det_stored (u v : IVec S1x16 32) :
    k0_pay89 (F := F) (k0_pay86 (k0_pay84 (F := F) u) k0_pay85) (k0_pay87 (F := F) v) (k0_pay88 (F := F) v) 100#32
      = shapeCast S16 (Vectors.below100 F u v) shapeCasts_S1x16_S16 := rfl

set_option maxHeartbeats 2000000 in
/-- The uniform numbers of result 2. -/
theorem box_uniform : shared385 (F := F) = Vectors.uniform (words 64467757#32 2916123636#32 countBox) := rfl

set_option maxHeartbeats 2000000 in
/-- Result 2 from its uniform numbers. -/
theorem box_stored : k0_pay133 (shared385 (F := F)) (k0_pay129 (shared385 (F := F)) (shared386 (F := F)))
      (k0_pay130 (shared385 (F := F)) (shared386 (F := F))) (k0_pay131 (shared385 (F := F)) (shared386 (F := F)))
      (k0_pay132 (shared385 (F := F)) (shared386 (F := F)))
    = Vectors.spread (shared385 (F := F)) := rfl

set_option maxHeartbeats 2000000 in
/-- The uniform numbers of result 3. -/
theorem score_uniform : k0_pay176 (F := F) shared393 shared394 6#32
    = Vectors.uniform (words 2465931498#32 255383827#32 countFlat) := rfl

set_option maxHeartbeats 2000000 in
/-- Result 3 from its uniform numbers. -/
theorem score_stored (x y : IVec S16x100 32) : k0_pay181 (k0_pay176 (F := F) x y 6#32)
      (k0_pay180 (k0_pay177 (F := F) x y 6#32) (k0_pay178 (F := F) x y 6#32) (k0_pay179 (F := F) x y 6#32)
        (Scalar.ofBits .f32 0x396532DB#32))
    = Vectors.spread (k0_pay176 (F := F) x y 6#32) := rfl

set_option maxHeartbeats 2000000 in
/-- The first vector of random words of result 4. -/
theorem class_high : k0_pay219 (k0_pay217 shared398 shared399) (k0_pay218 shared398 shared399)
    = words 2463158877#32 4047937370#32 countFlat := rfl

set_option maxHeartbeats 2000000 in
/-- The second. -/
theorem class_low : shared407 = words 1914800406#32 1741898942#32 countFlat := rfl

set_option maxHeartbeats 2000000 in
/-- Result 4 from its two vectors of random words. -/
theorem class_stored (u v : IVec S16x100 32) :
    k0_pay266 (F := F) (k0_pay263 (k0_pay262 (F := F) u) 0#32) (k0_pay264 (F := F) v) (k0_pay265 (F := F) v)
      = Vectors.below80 F u v := rfl

set_option maxHeartbeats 2000000 in
/-- The first vector of random words of result 5. -/
theorem index_high : k0_pay306 (k0_pay303 shared412 shared413 shared414) (k0_pay304 shared412 shared413 shared414)
      (k0_pay305 shared412 shared413 shared414)
    = words 75273486#32 3122212114#32 countFlat := rfl

set_option maxHeartbeats 2000000 in
/-- The second. -/
theorem index_low : shared424 = words 1770995085#32 4163859872#32 countFlat := rfl

set_option maxHeartbeats 2000000 in
/-- Result 5 from its two vectors of random words. -/
theorem index_stored (u v : IVec S16x100 32) :
    k0_pay1 (k0_pay359 (k0_pay357 (k0_pay354 (k0_pay352 (F := F) u) k0_pay353) (k0_pay355 v) (k0_pay356 (F := F) v)) k0_pay358)
      = Vectors.below20000 F u v := rfl

end Cert.KernelIdeal.Gen

end
-- ==== Proof.VectorsAt.lean ====
module

public import proofs.«01_k».proof.Proof.Vectors

@[expose] public section

/-! # The block's random words, element by element

Element `i` of the kernel's vector of random words is the random word of counter `i`. -/

noncomputable section

namespace Cert.Vectors

open Idealize.ShloMosaic

variable {S : Shape}

/-- A shift left by a constant below the width. -/
theorem shl_const (κ : ArithUnit) (x : BitVec 32) (r : Nat) (hr : r < 32) : IntOp.shli κ x (BitVec.ofNat 32 r) = x <<< r := by
  have h : (BitVec.ofNat 32 r).toNat = r := by rw [BitVec.toNat_ofNat]; omega
  rw [IntOp.shli, if_pos (by omega), BitVec.shiftLeft_eq', h]

/-- A shift right by a constant below the width. -/
theorem shr_const (κ : ArithUnit) (x : BitVec 32) (r : Nat) (hr : r < 32) : IntOp.shrui κ x (BitVec.ofNat 32 r) = x >>> r := by
  have h : (BitVec.ofNat 32 r).toNat = r := by rw [BitVec.toNat_ofNat]; omega
  rw [IntOp.shrui, if_pos (by omega), BitVec.ushiftRight_eq', h]

/-- One turn at an element. -/
theorem turn_at (r : Nat) (h0 : 0 < r) (h1 : r < 32) (x y : IVec S 32) (i : S.Idx) :
    (left x y i, right r x y i) = Words.turn r (x i, y i) := by
  refine Prod.ext rfl ?_
  show (IntOp.shli .vector (y i) (BitVec.ofNat 32 r) ||| IntOp.shrui .vector (y i) (BitVec.ofNat 32 (32 - r))) ^^^ (x i + y i) = _
  rw [shl_const _ _ r h1, shr_const _ _ _ (by omega), BitVec.xor_comm]
  rfl

/-- Four turns at an element. -/
theorem four_at (a b c d : Nat) (ha : 0 < a ∧ a < 32) (hb : 0 < b ∧ b < 32) (hc : 0 < c ∧ c < 32) (hd : 0 < d ∧ d < 32)
    (x y : IVec S 32) (i : S.Idx) :
    (fourL a b c x y i, fourR a b c d x y i) = Words.four a b c d (x i, y i) := by
  unfold Words.four
  rw [← turn_at a ha.1 ha.2, ← turn_at b hb.1 hb.2, ← turn_at c hc.1 hc.2, ← turn_at d hd.1 hd.2]
  rfl

/-- Key words added at an element, the right one together with the group's number. -/
theorem odd_at (k j n : BitVec 32) (x y : IVec S 32) (i : S.Idx) :
    (oddL k x y i, oddR (j + n) x y i) = Words.inject k j n (Words.four 13 15 26 6 (x i, y i)) := by
  rw [← four_at 13 15 26 6 (by omega) (by omega) (by omega) (by omega)]
  exact Prod.ext rfl (BitVec.add_assoc _ _ _).symm

/-- The same for the even groups. -/
theorem even_at (k j n : BitVec 32) (x y : IVec S 32) (i : S.Idx) :
    (evenL k x y i, evenR (j + n) x y i) = Words.inject k j n (Words.four 17 29 16 24 (x i, y i)) := by
  rw [← four_at 17 29 16 24 (by omega) (by omega) (by omega) (by omega)]
  exact Prod.ext rfl (BitVec.add_assoc _ _ _).symm

/-- The kernel's word at an element is the random word of the counter there. -/
theorem bits_at (k0 k1 : BitVec 32) (n : IVec S 32) (i : S.Idx) :
    bits k0 k1 (Words.third k0 k1) n i = Words.bits k0 k1 (n i) := by
  unfold Words.bits Words.hash
  have h : ((0#32, n i).1 + k0, (0#32, n i).2 + k1)
      = ((broadcast S k0 : IVec S 32) i, addi n (broadcast S k1 : IVec S 32) i) :=
    Prod.ext (BitVec.zero_add k0) rfl
  rw [h, ← odd_at, ← even_at, ← odd_at, ← even_at, ← odd_at]
  rfl

end Cert.Vectors

end
-- ==== Proof.Remainder.lean ====
module

public import proofs.«01_k».proof.Proof.VectorsAt
public import Idealize.ShloMosaic.Lib.Claim

@[expose] public section

/-! # The kernel's remainders

The kernel takes a remainder by estimating the quotient in floating point and correcting. With exact real numbers the
estimate is the quotient or one less, whatever the rounding of the stored reciprocal, so the corrected number is the
remainder; the kernel's random integers are then those of `Words.below`. -/

noncomputable section

namespace Cert.Vectors

open Idealize.ShloMosaic

variable {S : Shape}

/-- The stored reciprocals, as real numbers. -/
theorem inv100 : Ideal.ofBits .f32 0x3C23D70A#32 = ((10737418 * (2 : ℝ) ^ (-30 : ℤ) : ℝ) : EReal) := by
  simp [Ideal.ofBits, Ideal.ieee]
theorem inv80 : Ideal.ofBits .f32 0x3C4CCCCD#32 = ((13421773 * (2 : ℝ) ^ (-30 : ℤ) : ℝ) : EReal) := by
  simp [Ideal.ofBits, Ideal.ieee]
theorem inv20000 : Ideal.ofBits .f32 0x3851B717#32 = ((13743895 * (2 : ℝ) ^ (-38 : ℤ) : ℝ) : EReal) := by
  simp [Ideal.ofBits, Ideal.ieee]

/-- The estimated quotient is at most the quotient and at least one less than `k / s`. -/
theorem estimate (c : ℝ) (s k : ℕ) (hlo : 1 - 1 / 2 ^ 24 ≤ c * s) (hhi : c * s ≤ 1 + 1 / 2 ^ 24)
    (hs : 0 < s) (hk : k < 2 ^ 24) :
    ∃ q : ℕ, ⌊(k : ℝ) * c⌋ = (q : ℤ) ∧ q * s ≤ k ∧ k ≤ q * s + s := by
  have hs' : (0 : ℝ) < s := by exact_mod_cast hs
  have hk' : (k : ℝ) < 16777216 := by exact_mod_cast (show k < 16777216 by omega)
  have hk0 : (0 : ℝ) ≤ k := Nat.cast_nonneg k
  have hc : 0 ≤ c := by
    by_contra h
    have := mul_neg_of_neg_of_pos (not_le.mp h) hs'
    norm_num at hlo; linarith
  refine ⟨⌊(k : ℝ) * c⌋₊, (Int.natCast_floor_eq_floor (mul_nonneg hk0 hc)).symm, ?_, ?_⟩
  · have h1 : (⌊(k : ℝ) * c⌋₊ : ℝ) ≤ k * c := Nat.floor_le (mul_nonneg hk0 hc)
    have h2 : (⌊(k : ℝ) * c⌋₊ : ℝ) * s ≤ k * (c * s) := by nlinarith
    have h3 : (k : ℝ) * (c * s) ≤ k * (1 + 1 / 2 ^ 24) := mul_le_mul_of_nonneg_left hhi hk0
    have h4 : (⌊(k : ℝ) * c⌋₊ : ℝ) * s < k + 1 := by
      generalize (⌊(k : ℝ) * c⌋₊ : ℝ) * s = a at *
      generalize (k : ℝ) * (c * s) = b at *
      norm_num at h3
      linarith only [h2, h3, hk', hk0]
    have h5 : ⌊(k : ℝ) * c⌋₊ * s < k + 1 := by exact_mod_cast h4
    omega
  · have h1 : (k : ℝ) * c < ⌊(k : ℝ) * c⌋₊ + 1 := Nat.lt_floor_add_one _
    have h2 : (k : ℝ) * (c * s) < (⌊(k : ℝ) * c⌋₊ : ℝ) * s + s := by nlinarith
    have h3 : (k : ℝ) * (1 - 1 / 2 ^ 24) ≤ k * (c * s) := mul_le_mul_of_nonneg_left hlo hk0
    have h4 : (k : ℝ) < (⌊(k : ℝ) * c⌋₊ : ℝ) * s + s + 1 := by
      generalize (⌊(k : ℝ) * c⌋₊ : ℝ) * s = a at *
      generalize (k : ℝ) * (c * s) = b at *
      norm_num at h3
      linarith only [h2, h3, hk', hk0]
    have h5 : k < ⌊(k : ℝ) * c⌋₊ * s + s + 1 := by exact_mod_cast h4
    omega

/-- A number small enough to be read without a sign. -/
theorem toInt_small (x : BitVec 32) (h : x.toNat < 2 ^ 31) : x.toInt = x.toNat := by
  rw [BitVec.toInt_eq_toNat_cond, if_pos (by omega)]

/-- The number left after the estimated multiple is taken off. -/
theorem near_at (inv span : BitVec 32) (c : ℝ) (hinv : Ideal.ofBits .f32 inv = (c : EReal))
    (hlo : 1 - 1 / 2 ^ 24 ≤ c * span.toNat) (hhi : c * span.toNat ≤ 1 + 1 / 2 ^ 24) (hs : 0 < span.toNat)
    (x : IVec S 32) (i : S.Idx) (hx : (x i).toNat < 2 ^ 24) :
    ∃ q : ℕ, (near Ideal inv span x i).toNat + q * span.toNat = (x i).toNat ∧ (near Ideal inv span x i).toNat ≤ span.toNat := by
  obtain ⟨q, hq, h1, h2⟩ := estimate c span.toNat (x i).toNat hlo hhi hs hx
  have hqk : q ≤ (x i).toNat := le_trans (Nat.le_mul_of_pos_right q hs) h1
  have e : near Ideal inv span x i = x i - BitVec.ofNat 32 q * span := by
    show x i - Ideal.fptosi 32 (Ideal.liftRound Int.floor ((((x i).toInt : ℝ) : EReal) * Ideal.ofBits .f32 inv)) * span = _
    rw [hinv, toInt_small _ (by omega), ← EReal.coe_mul, Ideal.liftRound_coe, Int.cast_natCast, hq, Ideal.fptosi,
      Ideal.toIntClamped_coe, if_pos (by positivity), Int.floor_intCast]
    congr 2
    have : max (-((2 ^ (32 - 1) : ℕ) : ℤ)) (min (((2 ^ (32 - 1) : ℕ) : ℤ) - 1) (q : ℤ)) = (q : ℤ) := by norm_num; omega
    rw [this]
    exact BitVec.ofInt_natCast ..
  have hm : (BitVec.ofNat 32 q * span).toNat = q * span.toNat := by
    rw [BitVec.toNat_mul, BitVec.toNat_ofNat, Nat.mod_eq_of_lt (a := q) (by omega), Nat.mod_eq_of_lt (by omega)]
  have hn : (near Ideal inv span x i).toNat = (x i).toNat - q * span.toNat := by
    rw [e, BitVec.toNat_sub_of_le (by rw [BitVec.le_def, hm]; exact h1), hm]
  exact ⟨q, by omega, by omega⟩

/-- A number that is not negative is left alone. -/
theorem up_at (span : BitVec 32) (x : IVec S 32) (i : S.Idx) (h : (x i).toNat < 2 ^ 31) : up span x i = x i := by
  show (if BitVec.ofBool ((x i).slt 0#32) = 1 then _ else _) = _
  have : (x i).slt 0#32 = false := by rw [BitVec.slt, toInt_small _ h]; simp
  rw [this]; rfl

/-- A number not below the span loses one span. -/
theorem down_at (span : BitVec 32) (x : IVec S 32) (i : S.Idx) (h : (x i).toNat < 2 ^ 31) (hs : span.toNat < 2 ^ 31) :
    (down span x i).toNat = if span.toNat ≤ (x i).toNat then (x i).toNat - span.toNat else (x i).toNat := by
  show (if BitVec.ofBool (span.sle (x i)) = 1 then x i - span else x i).toNat = _
  have : span.sle (x i) = decide (span.toNat ≤ (x i).toNat) := by
    rw [BitVec.sle, toInt_small _ h, toInt_small _ hs]; simp
  rw [this]
  by_cases hc : span.toNat ≤ (x i).toNat
  · rw [if_pos hc, decide_eq_true hc]
    exact BitVec.toNat_sub_of_le hc
  · rw [if_neg hc, decide_eq_false hc]; rfl

/-- The corrected number is the remainder. -/
theorem small_at (inv span : BitVec 32) (c : ℝ) (hinv : Ideal.ofBits .f32 inv = (c : EReal))
    (hlo : 1 - 1 / 2 ^ 24 ≤ c * span.toNat) (hhi : c * span.toNat ≤ 1 + 1 / 2 ^ 24) (hs : 0 < span.toNat)
    (hs' : span.toNat < 2 ^ 24) (x : IVec S 32) (i : S.Idx) (hx : (x i).toNat < 2 ^ 24) :
    (small Ideal inv span x i).toNat = (x i).toNat % span.toNat := by
  obtain ⟨q, h1, h2⟩ := near_at inv span c hinv hlo hhi hs x i hx
  have u1 := up_at span (near Ideal inv span x) i (by omega)
  have u2 : up span (up span (near Ideal inv span x)) i = near Ideal inv span x i :=
    (up_at span _ i (by rw [u1]; omega)).trans u1
  have d1 := down_at span (up span (up span (near Ideal inv span x))) i (by rw [u2]; omega) (by omega)
  rw [u2] at d1
  have d2 := down_at span (down span (up span (up span (near Ideal inv span x)))) i (by rw [d1]; split <;> omega) (by omega)
  rw [small, d2, d1, ← h1, Nat.add_mul_mod_self_right]
  by_cases hc : span.toNat ≤ (near Ideal inv span x i).toNat
  · have : (near Ideal inv span x i).toNat = span.toNat := le_antisymm h2 hc
    simp [this, hs]
  · rw [if_neg hc, if_neg hc, Nat.mod_eq_of_lt (by omega)]

/-- A folded word as a number. -/
theorem foldU_at (c : BitVec 32) (hc : c.toNat < 65536) (x : IVec S 32) (i : S.Idx) :
    (foldU c x i).toNat = (x i).toNat / 65536 * c.toNat + (x i).toNat % 65536 := by
  show (IntOp.shrui .vector (x i) (BitVec.ofNat 32 16) * c + (x i &&& 65535#32)).toNat = _
  have hx := (x i).isLt
  have ha : (x i &&& 65535#32).toNat = (x i).toNat % 65536 := by
    rw [BitVec.toNat_and]; exact Nat.and_two_pow_sub_one_eq_mod _ 16
  have hb : (x i >>> 16).toNat = (x i).toNat / 65536 := by
    rw [BitVec.toNat_ushiftRight, Nat.shiftRight_eq_div_pow]
  have hm : (x i).toNat / 65536 * c.toNat ≤ 65535 * 65535 := Nat.mul_le_mul (by omega) (by omega)
  rw [shr_const _ _ _ (by omega), BitVec.toNat_add, BitVec.toNat_mul, ha, hb, Nat.mod_eq_of_lt (a := _ * _) (by omega),
    Nat.mod_eq_of_lt (by omega)]

/-- A number that is not negative folded with the signed shift. -/
theorem foldS_at (c : BitVec 32) (x : IVec S 32) (i : S.Idx) (h : (x i).toNat < 2 ^ 31) : foldS c x i = foldU c x i := by
  show IntOp.shrsi .vector (x i) 16#32 * c + _ = IntOp.shrui .vector (x i) 16#32 * c + _
  have : IntOp.shrsi .vector (x i) 16#32 = IntOp.shrui .vector (x i) 16#32 := by
    rw [IntOp.shrsi, IntOp.shrui, if_pos (by decide), if_pos (by decide), BitVec.sshiftRight_eq', BitVec.ushiftRight_eq',
      BitVec.sshiftRight_eq_of_msb_false (BitVec.msb_eq_false_iff_two_mul_lt.mpr (by omega))]
  rw [this]

/-- The kernel's remainder by 100. -/
theorem small100 (x : IVec S 32) (i : S.Idx) (hx : (x i).toNat < 2 ^ 24) :
    (small Ideal 0x3C23D70A#32 100#32 x i).toNat = (x i).toNat % 100 :=
  small_at _ 100#32 _ inv100 (by norm_num) (by norm_num) (by decide) (by decide) x i hx

/-- The kernel's remainder by 80. -/
theorem small80 (x : IVec S 32) (i : S.Idx) (hx : (x i).toNat < 2 ^ 24) :
    (small Ideal 0x3C4CCCCD#32 80#32 x i).toNat = (x i).toNat % 80 :=
  small_at _ 80#32 _ inv80 (by norm_num) (by norm_num) (by decide) (by decide) x i hx

/-- The kernel's remainder by 20000. -/
theorem small20000 (x : IVec S 32) (i : S.Idx) (hx : (x i).toNat < 2 ^ 24) :
    (small Ideal 0x3851B717#32 20000#32 x i).toNat = (x i).toNat % 20000 :=
  small_at _ 20000#32 _ inv20000 (by norm_num) (by norm_num) (by decide) (by decide) x i hx

/-- A sum of a product of numbers small enough not to wrap. -/
theorem join_toNat (a b m : BitVec 32) (h : a.toNat * m.toNat + b.toNat < 2 ^ 32) :
    (a * m + b).toNat = a.toNat * m.toNat + b.toNat := by
  rw [BitVec.toNat_add, BitVec.toNat_mul, Nat.mod_eq_of_lt (a := _ * _) (by omega), Nat.mod_eq_of_lt h]

/-- The same for vectors, at an element. -/
theorem join_at (a b : IVec S 32) (m : BitVec 32) (n : ℕ) (i : S.Idx) (hm : m.toNat = n)
    (h : (a i).toNat * n + (b i).toNat < 2 ^ 32) :
    (addi (muli a (broadcast S m)) b i).toNat = (a i).toNat * n + (b i).toNat := by
  subst hm
  exact join_toNat (a i) (b i) m h

/-- The joined remainders of two words, as a number. -/
theorem below_toNat (span u v : BitVec 32) (m : ℕ)
    (hm : (65536#32 % span * (65536#32 % span) % span).toNat = m) (hs : 0 < span.toNat)
    (h : span.toNat * m + span.toNat < 2 ^ 32) :
    (Words.below span u v).toNat = (u.toNat % span.toNat * m + v.toNat % span.toNat) % span.toNat := by
  have ha : u.toNat % span.toNat < span.toNat := Nat.mod_lt _ hs
  have hb : v.toNat % span.toNat < span.toNat := Nat.mod_lt _ hs
  have hp : u.toNat % span.toNat * m ≤ span.toNat * m := Nat.mul_le_mul_right m ha.le
  have hu : (u % span).toNat = u.toNat % span.toNat := BitVec.toNat_umod
  have hv : (v % span).toNat = v.toNat % span.toNat := BitVec.toNat_umod
  rw [Words.below, BitVec.toNat_umod, join_toNat _ _ _ (by rw [hu, hv, hm]; omega), hu, hv, hm]

end Cert.Vectors

end
-- ==== Proof.Integers.lean ====
module

public import proofs.«01_k».proof.Proof.Remainder

@[expose] public section

/-! # The kernel's random integers

Each is the joined remainder of the two random words there. -/

noncomputable section

namespace Cert.Vectors

open Idealize.ShloMosaic

variable {S : Shape}

/-- Folding the upper half of a number onto the lower keeps the remainder. -/
theorem fold_mod (x c s q : ℕ) (h : 65536 = c + s * q) : x % s = (x / 65536 * c + x % 65536) % s := by
  have e : x = x / 65536 * c + x % 65536 + s * (q * (x / 65536)) := by
    have d := Nat.div_add_mod x 65536
    have g : ∀ y : ℕ, 65536 * y = y * c + s * (q * y) := fun y => by rw [h]; ring
    have := g (x / 65536)
    omega
  conv_lhs => rw [e]
  exact Nat.add_mul_mod_self_left _ _ _

/-- The kernel's random integers below 100. -/
theorem below100_at (u v : IVec S 32) (i : S.Idx) : below100 Ideal u v i = Words.below 100#32 (u i) (v i) := by
  apply BitVec.eq_of_toNat_eq
  have hu := foldU_at 36#32 (by decide) u i
  have hv := foldU_at 36#32 (by decide) v i
  have lu := (u i).isLt
  have lv := (v i).isLt
  have c36 : (36#32).toNat = 36 := rfl
  have c100 : (100#32).toNat = 100 := rfl
  rw [c36] at hu hv
  have su := small100 (foldU 36#32 u) i (by omega)
  have sv := small100 (foldU 36#32 v) i (by omega)
  have ht := join_at (small Ideal 0x3C23D70A#32 100#32 (foldU 36#32 u)) (small Ideal 0x3C23D70A#32 100#32 (foldU 36#32 v))
    96#32 96 i rfl (by omega)
  have h := small100 (addi (muli (small Ideal 0x3C23D70A#32 100#32 (foldU 36#32 u)) (broadcast S 96#32))
    (small Ideal 0x3C23D70A#32 100#32 (foldU 36#32 v))) i (lt_of_eq_of_lt ht (by omega))
  have hb := below_toNat 100#32 (u i) (v i) 96 (by decide) (by rw [c100]; omega) (by rw [c100]; omega)
  rw [c100] at hb
  have mu : (u i).toNat % 100 = (foldU 36#32 u i).toNat % 100 := by
    rw [hu]; exact fold_mod _ _ _ 655 rfl
  have mv : (v i).toNat % 100 = (foldU 36#32 v i).toNat % 100 := by
    rw [hv]; exact fold_mod _ _ _ 655 rfl
  rw [mu, mv, ← su, ← sv, ← ht] at hb
  exact h.trans hb.symm

/-- The kernel's random integers below 80. -/
theorem below80_at (u v : IVec S 32) (i : S.Idx) : below80 Ideal u v i = Words.below 80#32 (u i) (v i) := by
  apply BitVec.eq_of_toNat_eq
  have hu := foldU_at 16#32 (by decide) u i
  have hv := foldU_at 16#32 (by decide) v i
  have lu := (u i).isLt
  have lv := (v i).isLt
  have c16 : (16#32).toNat = 16 := rfl
  have c80 : (80#32).toNat = 80 := rfl
  rw [c16] at hu hv
  have su := small80 (foldU 16#32 u) i (by omega)
  have sv := small80 (foldU 16#32 v) i (by omega)
  have ht := join_at (small Ideal 0x3C4CCCCD#32 80#32 (foldU 16#32 u)) (small Ideal 0x3C4CCCCD#32 80#32 (foldU 16#32 v))
    16#32 16 i rfl (by omega)
  have h := small80 (addi (muli (small Ideal 0x3C4CCCCD#32 80#32 (foldU 16#32 u)) (broadcast S 16#32))
    (small Ideal 0x3C4CCCCD#32 80#32 (foldU 16#32 v))) i (lt_of_eq_of_lt ht (by omega))
  have hb := below_toNat 80#32 (u i) (v i) 16 (by decide) (by rw [c80]; omega) (by rw [c80]; omega)
  rw [c80] at hb
  have mu : (u i).toNat % 80 = (foldU 16#32 u i).toNat % 80 := by
    rw [hu]; exact fold_mod _ _ _ 819 rfl
  have mv : (v i).toNat % 80 = (foldU 16#32 v i).toNat % 80 := by
    rw [hv]; exact fold_mod _ _ _ 819 rfl
  rw [mu, mv, ← su, ← sv, ← ht] at hb
  exact h.trans hb.symm

/-- Three foldings for the span 20000 leave at most 24 bits and the same remainder. -/
theorem thrice_at (u : IVec S 32) (i : S.Idx) :
    (thrice u i).toNat < 2 ^ 24 ∧ (thrice u i).toNat % 20000 = (u i).toNat % 20000 := by
  have lu := (u i).isLt
  have c : (5536#32).toNat = 5536 := rfl
  have h1 := foldU_at 5536#32 (by decide) u i
  rw [c] at h1
  have h2 := foldU_at 5536#32 (by decide) (foldU 5536#32 u) i
  rw [c, ← foldS_at _ _ _ (by omega)] at h2
  have h3 := foldU_at 5536#32 (by decide) (foldS 5536#32 (foldU 5536#32 u)) i
  rw [c, ← foldS_at _ _ _ (by omega)] at h3
  unfold thrice
  constructor <;> omega

/-- The kernel's random integers below 20000. -/
theorem below20000_at (u v : IVec S 32) (i : S.Idx) : below20000 Ideal u v i = Words.below 20000#32 (u i) (v i) := by
  apply BitVec.eq_of_toNat_eq
  obtain ⟨bu, eu⟩ := thrice_at u i
  obtain ⟨bv, ev⟩ := thrice_at v i
  have c5 : (5536#32).toNat = 5536 := rfl
  have c2 : (20000#32).toNat = 20000 := rfl
  have su := small20000 (thrice u) i bu
  have sv := small20000 (thrice v) i bv
  have ht := join_at (small Ideal 0x3851B717#32 20000#32 (thrice u)) (small Ideal 0x3851B717#32 20000#32 (thrice v))
    7296#32 7296 i rfl (by omega)
  rw [su, sv] at ht
  have hT : below20000 Ideal u v = small Ideal 0x3851B717#32 20000#32 (foldS 5536#32
      (addi (muli (small Ideal 0x3851B717#32 20000#32 (thrice u)) (broadcast S 7296#32))
        (small Ideal 0x3851B717#32 20000#32 (thrice v)))) := rfl
  rw [hT]
  generalize addi (muli (small Ideal 0x3851B717#32 20000#32 (thrice u)) (broadcast S 7296#32))
    (small Ideal 0x3851B717#32 20000#32 (thrice v)) = t at ht ⊢
  have hf := foldU_at 5536#32 (by decide) t i
  rw [← foldS_at 5536#32 t i (by omega), c5, ht] at hf
  have hb := below_toNat 20000#32 (u i) (v i) 7296 (by decide) (by rw [c2]; omega) (by rw [c2]; omega)
  rw [c2, ← eu, ← ev] at hb
  have hs := small20000 (foldS 5536#32 t) i (by omega)
  rw [hf, ← fold_mod _ 5536 20000 3 rfl] at hs
  exact hs.trans hb.symm

end Cert.Vectors

end
-- ==== Proof.Normal.lean ====
module

public import proofs.«01_k».proof.Proof.VectorsAt
public import Idealize.ShloMosaic.Lib.ValueIdx
public import Idealize.ShloMosaic.PureOps.Ideal.Laws

@[expose] public section

/-! # One normal sample

The uniform number of a random word, which lies strictly between -1 and 1, and the normal sample made of it. -/

noncomputable section

namespace Cert.Normal

open Idealize.ShloMosaic

/-- The value of a word read as a single-precision number. -/
abbrev num (b : BitVec 32) : EReal := Ideal.ofBits .f32 b

/-- The uniform number of a random word. -/
def uniform (w : BitVec 32) : EReal :=
  max (num 0xBF7FFFFF#32)
    ((num ((w >>> 9) ||| 1065353216#32) - num 0x3F800000#32) * num 0x40000000#32 + num 0xBF7FFFFF#32)

/-- `-log (1 - u²)`. -/
def weight (u : EReal) : EReal := -Ideal.log1p (u * -u)

/-- The polynomial of the central part. -/
def central (t : EReal) : EReal :=
  num 0x3FC02E2F#32 + (num 0x3E7C8F63#32 + (num 0xBB88E4EF#32 + (num 0xBAA45408#32 + (num 0x396532DB#32 + (num 0xB6935AC1#32 +
    (num 0xB66C7357#32 + (num 0x34B84B36#32 + num 0x32F16588#32 * t) * t) * t) * t) * t) * t) * t) * t

/-- The polynomial of the tail. -/
def tail (t : EReal) : EReal :=
  num 0x40354F7E#32 + (num 0x3F8036DB#32 + (num 0x3C1AA57E#32 + (num 0xBBF9C5D7#32 + (num 0x3BBC127B#32 + (num 0xBB70BDE7#32 +
    (num 0x3AB0DC72#32 + (num 0x38D3B56B#32 + num 0xB951F09B#32 * t) * t) * t) * t) * t) * t) * t) * t

/-- Whether the central polynomial applies. -/
def inside (u : EReal) : BitVec 1 := Ideal.cmp .olt (weight u) (num 0x40A00000#32)

/-- The normal sample of a uniform number. -/
def sample (u : EReal) : EReal :=
  num 0x3FB504F3#32 * (Scalar.select (inside u) (central (weight u - num 0x40200000#32))
    (tail (Ideal.sqrt (weight u) - num 0x40400000#32)) * u)

/-- A word whose exponent field is that of 1 is a number from 1 up to 2. -/
theorem mantissa (w : BitVec 32) : ∃ k : ℕ, k < 2 ^ 23 ∧
    num ((w >>> 9) ||| 1065353216#32) = (((2 ^ 23 + k : ℕ) * (2 : ℝ) ^ (-23 : ℤ) : ℝ) : EReal) := by
  have hs : ((w >>> 9) ||| 1065353216#32).extractLsb' 31 1 = 0#1 := by
    apply BitVec.eq_of_getLsbD_eq
    intro i hi
    have : i = 0 := by omega
    subst this
    simp
  have he : ((w >>> 9) ||| 1065353216#32).extractLsb' 23 8 = 127#8 := by
    apply BitVec.eq_of_getLsbD_eq
    intro i hi
    interval_cases i <;> simp
  refine ⟨(((w >>> 9) ||| 1065353216#32).extractLsb' 0 23).toNat, BitVec.isLt _, ?_⟩
  simp only [num, Ideal.ofBits, Ideal.ieee]
  rw [hs, he]
  norm_num

/-- The word of 1. -/
theorem num_one : num 0x3F800000#32 = ((1 : ℝ) : EReal) := by
  simp [num, Ideal.ofBits, Ideal.ieee]
  rw [← EReal.coe_mul]
  norm_num

/-- The word of 2. -/
theorem num_two : num 0x40000000#32 = ((2 : ℝ) : EReal) := by
  simp [num, Ideal.ofBits, Ideal.ieee]
  rw [← EReal.coe_mul]
  norm_num

/-- A uniform number lies strictly between -1 and 1. -/
theorem uniform_real (w : BitVec 32) : ∃ r : ℝ, uniform w = (r : EReal) ∧ -1 < r ∧ r < 1 := by
  obtain ⟨k, hk, h⟩ := mantissa w
  have e1 := num_one
  have e2 := num_two
  have e3 : num 0xBF7FFFFF#32 = ((-(16777215 * (2 : ℝ) ^ (-24 : ℤ)) : ℝ) : EReal) := by simp [num, Ideal.ofBits, Ideal.ieee]
  have hk' : (k : ℝ) ≤ 8388607 := by exact_mod_cast (show k ≤ 8388607 by omega)
  refine ⟨max (-(16777215 * (2 : ℝ) ^ (-24 : ℤ)))
    (((2 ^ 23 + k : ℕ) * (2 : ℝ) ^ (-23 : ℤ) - 1) * 2 + -(16777215 * (2 : ℝ) ^ (-24 : ℤ))), ?_, ?_, ?_⟩
  · unfold uniform
    rw [h, e1, e2, e3, ← EReal.coe_sub, ← EReal.coe_mul, ← EReal.coe_add]
    exact (EReal.coe_strictMono.monotone.map_max).symm
  · refine lt_of_lt_of_le ?_ (le_max_left _ _)
    norm_num
  · refine max_lt (by norm_num) ?_
    push_cast
    norm_num
    linarith

/-- So its magnitude is not 1. -/
theorem uniform_ne (w : BitVec 32) : Ideal.cmp .oeq (max (uniform w) (-uniform w)) (num 0x3F800000#32) = 0#1 := by
  obtain ⟨r, h, h0, h1⟩ := uniform_real w
  have e1 := num_one
  have : max (uniform w) (-uniform w) ≠ num 0x3F800000#32 := by
    rw [h, e1]
    refine ne_of_lt (max_lt ?_ ?_)
    · exact_mod_cast h1
    · rw [← EReal.coe_neg]
      exact EReal.coe_lt_coe_iff.mpr (by linarith)
  simp only [Ideal.cmp, decide_eq_false this]
  rfl

/-- The kernel's uniform numbers, element by element. -/
theorem kernel_uniform {S : Shape} (n : IVec S 32) (i : S.Idx) : Vectors.uniform (F := Ideal) n i = uniform (n i) := by
  unfold uniform
  rw [← Vectors.shr_const .vector (n i) 9 (by omega)]
  rfl

/-- The kernel's weights, element by element. -/
theorem kernel_weight {S : Shape} (u : FVec Ideal S .f32) (i : S.Idx) : Vectors.weight u i = weight (u i) := by
  show num 0x00000000#32 - Ideal.log1p ((num 0x00000000#32 - u i) * u i) = -Ideal.log1p (u i * -u i)
  rw [num, Ideal.ofBits_zero_f32, zero_sub, zero_sub, mul_comm]

/-- The kernel's normal samples, element by element. -/
theorem kernel_sample {S : Shape} (u : FVec Ideal S .f32) (i : S.Idx) : Vectors.spread u i = sample (u i) := by
  unfold sample inside
  rw [← kernel_weight u i]
  rfl

end Cert.Normal

end
-- ==== Proof.Expected.lean ====
module

public import proofs.«01_k».proof.Proof.Normal

@[expose] public section

/-! # The five results as numbers

What element number `n` of each result is, counted in row-major order: a function of `n` alone, since the keys are constants. -/

noncomputable section

namespace Cert.Expected

open Idealize.ShloMosaic

/-- The random word number `n` under a key. -/
def word (k0 k1 : BitVec 32) (n : Nat) : BitVec 32 := Words.bits k0 k1 (BitVec.ofNat 32 n)

/-- Result 1: the number of boxes, below 100. -/
def det (n : Nat) : BitVec 32 :=
  Words.below 100#32 (word 1012194634#32 3152801799#32 n) (word 1705926158#32 899080142#32 n)

/-- Result 2: the boxes' coordinates, normal. -/
def box (n : Nat) : EReal := Normal.sample (Normal.uniform (word 64467757#32 2916123636#32 n))

/-- Result 3: the scores, normal. -/
def score (n : Nat) : EReal := Normal.sample (Normal.uniform (word 2465931498#32 255383827#32 n))

/-- Result 4: the classes, below 80. -/
def cls (n : Nat) : BitVec 32 :=
  Words.below 80#32 (word 2463158877#32 4047937370#32 n) (word 1914800406#32 1741898942#32 n)

/-- Result 5: the indices, below 20000. -/
def idx (n : Nat) : BitVec 32 :=
  Words.below 20000#32 (word 75273486#32 3122212114#32 n) (word 1770995085#32 4163859872#32 n)

end Cert.Expected

end
-- ==== Proof.KernelArray.lean ====
module

public import proofs.«01_k».proof.Proof.KernelBlock
public import proofs.«01_k».proof.Proof.Integers
public import proofs.«01_k».proof.Proof.Expected
public import Idealize.ShloMosaic.Lib.ValueLayout

@[expose] public section

/-! # What each buffer holds after the body

One store fills each buffer, so it holds the stored value; read at an element, that is the expected number. -/

set_option maxRecDepth 16384

noncomputable section

namespace Cert.KernelIdeal.Gen

open Idealize.ShloMosaic Idealize.ShloMosaic.ValueIdx

/-- The first index of a buffer with one axis. -/
theorem origin1 : (![0] : Fin 1 → Nat) = fun _ => 0 := funext fun a => by fin_cases a; rfl

/-- The first index of a buffer with two axes. -/
theorem origin2 : (![0, 0] : Fin 2 → Nat) = fun _ => 0 := funext fun a => by fin_cases a <;> rfl

/-- The counter of result 1 at an element. -/
theorem countDet_at (a : Fin 16) : countDet (ix2 0 a) = BitVec.ofNat 32 a.val := by
  show BitVec.ofNat 32 (0 * 1 + 0) * 16#32 + BitVec.ofNat 32 (0 * 16 + a.val) = _
  rw [Nat.zero_mul, Nat.zero_add, Nat.zero_add]
  exact BitVec.zero_add _

/-- The counter of results 3, 4 and 5 at an element. -/
theorem countFlat_at (a : Fin 16) (b : Fin 100) : countFlat (ix2 a b) = BitVec.ofNat 32 (a.val * 100 + b.val) := by
  show BitVec.ofNat 32 (0 * 16 + a.val) * BitVec.ofNat 32 100 + BitVec.ofNat 32 (0 * 100 + b.val) = _
  simp only [Nat.zero_mul, Nat.zero_add]
  rw [BitVec.ofNat_add, BitVec.ofNat_mul]

/-- A row's number shifted right twice is its image. -/
theorem image_of_row : ∀ r : Fin 64, BitVec.ofNat 32 r.val >>> 2 = BitVec.ofNat 32 (r.val / 4) := by decide

/-- The last two bits of a row's number are its coordinate. -/
theorem coordinate_of_row : ∀ r : Fin 64, BitVec.ofNat 32 r.val &&& 3#32 = BitVec.ofNat 32 (r.val % 4) := by decide

/-- The counter of result 2 at an element. -/
theorem countBox_at (r : Fin 64) (b : Fin 100) :
    countBox (ix2 r b) = BitVec.ofNat 32 (r.val / 4 * 400 + b.val * 4 + r.val % 4) := by
  show IntOp.shrui .vector (BitVec.ofNat 32 (0 * 64 + r.val)) (BitVec.ofNat 32 2) * BitVec.ofNat 32 400
      + BitVec.ofNat 32 (0 * 100 + b.val) * BitVec.ofNat 32 4 + (BitVec.ofNat 32 (0 * 64 + r.val) &&& 3#32) = _
  simp only [Nat.zero_mul, Nat.zero_add]
  rw [Vectors.shr_const _ _ 2 (by omega), image_of_row, coordinate_of_row,
    BitVec.ofNat_add, BitVec.ofNat_add, BitVec.ofNat_mul, BitVec.ofNat_mul]

/-- A vector of random words at an element. -/
theorem words_at {S : Shape} (k0 k1 : BitVec 32) (n : IVec S 32) (i : S.Idx) : words k0 k1 n i = Words.bits k0 k1 (n i) :=
  Vectors.bits_at k0 k1 n i

/-- The buffer of result 1 at an element. -/
theorem out0_0_at (a : Fin 16) : (out0_0 (F := Ideal) : IVec S16 32) (ix1 a) = Expected.det a.val := by
  unfold out0_0
  rw [View.canon_unit_zero origin1, det_stored, det_high, det_low, shapeCast_1a_a_apply, Vectors.below100_at, words_at, words_at,
    countDet_at]
  rfl

/-- The buffer of result 2 at an element. -/
theorem out0_1_at (r : Fin 64) (b : Fin 100) :
    (out0_1 (F := Ideal) : FVec Ideal S64x100 .f32) (ix2 r b) = Expected.box (r.val / 4 * 400 + b.val * 4 + r.val % 4) := by
  unfold out0_1
  rw [View.canon_unit_zero origin2, box_stored, Normal.kernel_sample, box_uniform, Normal.kernel_uniform, words_at, countBox_at]
  rfl

/-- The buffer of result 3 at an element. -/
theorem out0_2_at (a : Fin 16) (b : Fin 100) :
    (out0_2 (F := Ideal) : FVec Ideal S16x100 .f32) (ix2 a b) = Expected.score (a.val * 100 + b.val) := by
  unfold out0_2
  rw [View.canon_unit_zero origin2, score_stored, Normal.kernel_sample, score_uniform, Normal.kernel_uniform, words_at, countFlat_at]
  rfl

/-- The buffer of result 4 at an element. -/
theorem out0_3_at (a : Fin 16) (b : Fin 100) :
    (out0_3 (F := Ideal) : IVec S16x100 32) (ix2 a b) = Expected.cls (a.val * 100 + b.val) := by
  unfold out0_3
  rw [View.canon_unit_zero origin2, class_stored, class_high, class_low, Vectors.below80_at, words_at, words_at, countFlat_at]
  rfl

/-- The buffer of result 5 at an element. -/
theorem out0_4_at (a : Fin 16) (b : Fin 100) :
    (out0_4 (F := Ideal) : IVec S16x100 32) (ix2 a b) = Expected.idx (a.val * 100 + b.val) := by
  unfold out0_4
  rw [View.canon_unit_zero origin2, index_stored, index_high, index_low, Vectors.below20000_at, words_at, words_at, countFlat_at]
  rfl

end Cert.KernelIdeal.Gen

end
-- ==== Proof.KernelRun.lean ====
module

public import proofs.«01_k».proof.Proof.KernelIdealFrame
public import proofs.«01_k».proof.Proof.Gen.KernelIdeal.Points
public import Idealize.ShloMosaic.Lib.StableHlo.Run
public import Idealize.ShloMosaic.Lib.Pipeline.FrameSuffix
import Idealize.ShloMosaic.Lib.Pipeline.ValueKit

@[expose] public section

/-! # What the run leaves in the results

The grid has one point, which writes every buffer back to the whole of its array; the host lines after it reshape result 1
and rearrange result 2. -/

set_option maxRecDepth 16384

noncomputable section

namespace Cert.KernelIdeal.Value

open Cert.KernelIdeal Cert.KernelIdeal.Gen Idealize.ShloMosaic Idealize.ShloMosaic.TcCoe Idealize.SL.Sem Idealize.ShloMosaic.StableHlo

variable {F : FTy → Type} [FloatOps F]

variable (m : (ℓ : Loc nD τ sig) → Buf (Elt F) ℓ) (c : Dev nD)

/-- The one point of the grid. -/
def point : Fin cfg0.N := ⟨0, by decide⟩

/-- The array of result 1 after the run. -/
theorem array0 : (Gen.dats m 0 c).arrAt 0 cfg0.N = (out0_0 (F := F) : Vec F S16 .i32) :=
  (Gen.dats m 0 c).arrAt_eq_of_after_last 0 point (by decide +kernel) _ fun j => by rw [after0_0]; rfl

/-- The array of result 2 after the run, as the kernel leaves it. -/
theorem array1 : (Gen.dats m 0 c).arrAt 1 cfg0.N = (out0_1 (F := F) : Vec F S64x100 .f32) :=
  (Gen.dats m 0 c).arrAt_eq_of_after_last 1 point (by decide +kernel) _ fun j => by rw [after0_1]; rfl

/-- The array of result 3 after the run. -/
theorem array2 : (Gen.dats m 0 c).arrAt 2 cfg0.N = (out0_2 (F := F) : Vec F S16x100 .f32) :=
  (Gen.dats m 0 c).arrAt_eq_of_after_last 2 point (by decide +kernel) _ fun j => by rw [after0_2]; rfl

/-- The array of result 4 after the run. -/
theorem array3 : (Gen.dats m 0 c).arrAt 3 cfg0.N = (out0_3 (F := F) : Vec F S16x100 .i32) :=
  (Gen.dats m 0 c).arrAt_eq_of_after_last 3 point (by decide +kernel) _ fun j => by rw [after0_3]; rfl

/-- The array of result 5 after the run. -/
theorem array4 : (Gen.dats m 0 c).arrAt 4 cfg0.N = (out0_4 (F := F) : Vec F S16x100 .i32) :=
  (Gen.dats m 0 c).arrAt_eq_of_after_last 4 point (by decide +kernel) _ fun j => by rw [after0_4]; rfl

/-- The buffers' contents when the kernel has run: its arrays as it leaves them, every other buffer as it found it. -/
abbrev exitV : Valuation τ sig (Elt F) :=
  Pipeline.withArrays spec0 c (Gen.V0 m c) fun w => (Gen.dats m 0 c).arrAt w cfg0.N

/-- There the array of result 1 holds what the kernel stored. -/
theorem exit0 : exitV m c (Proc.devRef .tc main_v0_0) = (out0_0 (F := F) : Vec F S16 .i32) :=
  (Pipeline.withArrays_arr spec0 Gen.launch0.win.arr_inj c (Gen.V0 m c) _ 0).trans (array0 m c)

/-- And so does the array of result 2. -/
theorem exit1 : exitV m c (Proc.devRef .tc main_v0_1) = (out0_1 (F := F) : Vec F S64x100 .f32) :=
  (Pipeline.withArrays_arr spec0 Gen.launch0.win.arr_inj c (Gen.V0 m c) _ 1).trans (array1 m c)

/-- Result 1: the stored numbers as a column. -/
def det : IVec S16x1 32 := shapeCast S16x1 (out0_0 (F := F) : Vec F S16 .i32) shapeCasts_S16_S16x1

/-- Result 2: the stored rows by image and coordinate, the coordinates moved last. -/
def box : FVec F S16x100x4 .f32 :=
  transpose S16x100x4 [0, 2, 1] (shapeCast S16x4x100 (out0_1 (F := F) : Vec F S64x100 .f32) shapeCasts_S64x100_S16x4x100)
    transposes_S16x4x100_S16x100x4_0_2_1

/-- The host lines after the kernel, read at result 1. -/
theorem tail_det (V0 : Valuation τ sig (Elt F)) :
    after (List.flatten [Gen.hostOps1]) V0 (Proc.devRef .tc main_v3)
      = shapeCast _ (V0 (Proc.devRef .tc main_v0_0)) shapeCasts_S16_S16x1 := by
  simp only [Gen.hostOps1, List.flatten_cons, List.flatten_nil, List.append_nil, List.cons_append, List.nil_append]
  after_results <;> rfl

/-- The host lines after the kernel, read at result 2. -/
theorem tail_box (V0 : Valuation τ sig (Elt F)) :
    after (List.flatten [Gen.hostOps1]) V0 (Proc.devRef .tc main_v2)
      = transpose S16x100x4 [0, 2, 1] (shapeCast _ (V0 (Proc.devRef .tc main_v0_1)) shapeCasts_S64x100_S16x4x100)
          transposes_S16x4x100_S16x100x4_0_2_1 := by
  simp only [Gen.hostOps1, List.flatten_cons, List.flatten_nil, List.append_nil, List.cons_append, List.nil_append]
  after_results <;> rfl

/-- Result 1 at the end. -/
theorem end_det : Pipeline.afterTail₀ cfgs (Gen.dats m) 0 (Gen.V0 m) [Gen.hostOps1] c main_v3 = det (F := F) :=
  (tail_det (exitV m c)).trans (by rw [exit0]; rfl)

/-- Result 2 at the end. -/
theorem end_box : Pipeline.afterTail₀ cfgs (Gen.dats m) 0 (Gen.V0 m) [Gen.hostOps1] c main_v2 = box (F := F) :=
  (tail_box (exitV m c)).trans (by rw [exit1]; rfl)

/-- Every execution ends with the five results as stored and rearranged, and the argument unchanged. -/
theorem run (ρ : Dev nD → PrngReg) :
    θ_run defs (onTc (τ := τ) (main (F := F))) ⟨m, fun _ => 0, ρ⟩ fun r => ∀ c : Dev nD,
      r.2.mem ((c.tc : Thread nD τ).loc main_v3) = det (F := F)
      ∧ r.2.mem ((c.tc : Thread nD τ).loc main_v2) = box (F := F)
      ∧ r.2.mem ((c.tc : Thread nD τ).loc main_v0_2) = (out0_2 (F := F) : Vec F S16x100 .f32)
      ∧ r.2.mem ((c.tc : Thread nD τ).loc main_v0_3) = (out0_3 (F := F) : Vec F S16x100 .i32)
      ∧ r.2.mem ((c.tc : Thread nD τ).loc main_v0_4) = (out0_4 (F := F) : Vec F S16x100 .i32)
      ∧ r.2.mem ((c.tc : Thread nD τ).loc main_arg0) = m ((c.tc : Thread nD τ).loc main_arg0) :=
  (θ_run defs _ _).mono (fun _ h c => ⟨
      ((h c).2 main_v3 (Pipeline.mem_restRefs_of main_v3 (by decide) (by decide))).trans (end_det m c),
      ((h c).2 main_v2 (Pipeline.mem_restRefs_of main_v2 (by decide) (by decide))).trans (end_box m c),
      ((h c).1 2).trans (array2 m c), ((h c).1 3).trans (array3 m c), ((h c).1 4).trans (array4 m c),
      ((h c).2 main_arg0 (Pipeline.mem_restRefs_of main_arg0 (by decide) (by decide))).trans
        (Gen.W_main_arg0 m (Gen.dats m) c)⟩) (Gen.run_main m ρ)

end Cert.KernelIdeal.Value

end
-- ==== Proof.Cipher.lean ====
module

public import proofs.«01_k».proof.Proof.VectorsAt

@[expose] public section

/-! # The reference's hash on arrays

The reference hashes arrays of counters under arrays of keys with host operations. Every element of the outcome is the hash of
the counter there under the key there. -/

noncomputable section

namespace Cert.Cipher

open Idealize.ShloMosaic

variable {S : Shape}

/-- The array that holds one word everywhere. -/
def splat (S : Shape) (c : BitVec 32) : IVec S 32 := fun _ => c

/-- The left array after one turn. -/
def left (x y : IVec S 32) : IVec S 32 := addi x y

/-- The right array after one turn. -/
def right (r : Nat) (x y : IVec S 32) : IVec S 32 :=
  xori (left x y) (ori (Host.shli y (splat S (BitVec.ofNat 32 r))) (Host.shrui y (splat S (BitVec.ofNat 32 (32 - r)))))

/-- Two turns. -/
def twoL (a : Nat) (x y : IVec S 32) : IVec S 32 := left (left x y) (right a x y)
def twoR (a b : Nat) (x y : IVec S 32) : IVec S 32 := right b (left x y) (right a x y)

/-- Four turns. -/
def fourL (a b c : Nat) (x y : IVec S 32) : IVec S 32 := twoL c (twoL a x y) (twoR a b x y)
def fourR (a b c d : Nat) (x y : IVec S 32) : IVec S 32 := twoR c d (twoL a x y) (twoR a b x y)

/-- Four turns of the odd groups, the key arrays and the group's number added. -/
def oddL (k x y : IVec S 32) : IVec S 32 := addi (fourL 13 15 26 x y) k
def oddR (k : IVec S 32) (n : BitVec 32) (x y : IVec S 32) : IVec S 32 :=
  addi (addi (fourR 13 15 26 6 x y) k) (splat S n)
/-- The same for the even groups. -/
def evenL (k x y : IVec S 32) : IVec S 32 := addi (fourL 17 29 16 x y) k
def evenR (k : IVec S 32) (n : BitVec 32) (x y : IVec S 32) : IVec S 32 :=
  addi (addi (fourR 17 29 16 24 x y) k) (splat S n)

/-- An odd group and the even one after it, numbers `n` and `n'`; `a`, `b` and `c` are the key arrays in the order used. -/
def bothL (n : BitVec 32) (a b c x y : IVec S 32) : IVec S 32 := evenL b (oddL a x y) (oddR b n x y)
def bothR (n n' : BitVec 32) (a b c x y : IVec S 32) : IVec S 32 := evenR c n' (oddL a x y) (oddR b n x y)

/-- Four groups. -/
def allL (k0 k1 k2 x y : IVec S 32) : IVec S 32 :=
  bothL 3#32 k0 k1 k2 (bothL 1#32 k1 k2 k0 x y) (bothR 1#32 2#32 k1 k2 k0 x y)
def allR (k0 k1 k2 x y : IVec S 32) : IVec S 32 :=
  bothR 3#32 4#32 k0 k1 k2 (bothL 1#32 k1 k2 k0 x y) (bothR 1#32 2#32 k1 k2 k0 x y)

/-- The left words of the hash of the counters `z`, `n`. -/
def hashL (k0 k1 k2 z n : IVec S 32) : IVec S 32 :=
  oddL k2 (allL k0 k1 k2 (addi z k0) (addi n k1)) (allR k0 k1 k2 (addi z k0) (addi n k1))
/-- The right words. -/
def hashR (k0 k1 k2 z n : IVec S 32) : IVec S 32 :=
  oddR k0 5#32 (allL k0 k1 k2 (addi z k0) (addi n k1)) (allR k0 k1 k2 (addi z k0) (addi n k1))

/-- The third key array. -/
def third (k0 k1 : IVec S 32) : IVec S 32 := xori (xori k0 k1) (splat S 0x1BD11BDA#32)

/-- One turn at an element. -/
theorem turn_at (r : Nat) (h0 : 0 < r) (h1 : r < 32) (x y : IVec S 32) (i : S.Idx) :
    (left x y i, right r x y i) = Words.turn r (x i, y i) := by
  refine Prod.ext rfl ?_
  show (x i + y i) ^^^ (IntOp.shli .host (y i) (BitVec.ofNat 32 r) ||| IntOp.shrui .host (y i) (BitVec.ofNat 32 (32 - r))) = _
  rw [Vectors.shl_const _ _ r h1, Vectors.shr_const _ _ _ (by omega)]
  rfl

/-- Four turns at an element. -/
theorem four_at (a b c d : Nat) (ha : 0 < a ∧ a < 32) (hb : 0 < b ∧ b < 32) (hc : 0 < c ∧ c < 32) (hd : 0 < d ∧ d < 32)
    (x y : IVec S 32) (i : S.Idx) :
    (fourL a b c x y i, fourR a b c d x y i) = Words.four a b c d (x i, y i) := by
  unfold Words.four
  rw [← turn_at a ha.1 ha.2, ← turn_at b hb.1 hb.2, ← turn_at c hc.1 hc.2, ← turn_at d hd.1 hd.2]
  rfl

/-- An odd group at an element. -/
theorem odd_at (k j : IVec S 32) (n : BitVec 32) (x y : IVec S 32) (i : S.Idx) :
    (oddL k x y i, oddR j n x y i) = Words.inject (k i) (j i) n (Words.four 13 15 26 6 (x i, y i)) := by
  rw [← four_at 13 15 26 6 (by omega) (by omega) (by omega) (by omega)]
  rfl

/-- An even group at an element. -/
theorem even_at (k j : IVec S 32) (n : BitVec 32) (x y : IVec S 32) (i : S.Idx) :
    (evenL k x y i, evenR j n x y i) = Words.inject (k i) (j i) n (Words.four 17 29 16 24 (x i, y i)) := by
  rw [← four_at 17 29 16 24 (by omega) (by omega) (by omega) (by omega)]
  rfl

/-- The hash at an element. -/
theorem hash_at (k0 k1 k2 z n : IVec S 32) (i : S.Idx) (h : k2 i = Words.third (k0 i) (k1 i)) :
    (hashL k0 k1 k2 z n i, hashR k0 k1 k2 z n i) = Words.hash (k0 i) (k1 i) (z i, n i) := by
  unfold Words.hash
  rw [← h]
  have e : ((z i, n i).1 + k0 i, (z i, n i).2 + k1 i) = (addi z k0 i, addi n k1 i) := rfl
  rw [e, ← odd_at, ← even_at, ← odd_at, ← even_at, ← odd_at]
  rfl

/-- The left words of the keys split off. -/
def childL (k0 k1 n : IVec S 32) : IVec S 32 := hashL k0 k1 (third k0 k1) (splat S 0#32) n
/-- The right words. -/
def childR (k0 k1 n : IVec S 32) : IVec S 32 := hashR k0 k1 (third k0 k1) (splat S 0#32) n

/-- The random words. -/
def bits (k0 k1 n : IVec S 32) : IVec S 32 := xori (childL k0 k1 n) (childR k0 k1 n)

/-- A key split off, at an element. -/
theorem child_at (k0 k1 n : IVec S 32) (i : S.Idx) : (childL k0 k1 n i, childR k0 k1 n i) = Words.child (k0 i, k1 i) (n i) :=
  hash_at k0 k1 (third k0 k1) (splat S 0#32) n i rfl

/-- A random word at an element. -/
theorem bits_at (k0 k1 n : IVec S 32) (i : S.Idx) : bits k0 k1 n i = Words.bits (k0 i) (k1 i) (n i) :=
  congrArg (fun p : BitVec 32 × BitVec 32 => p.1 ^^^ p.2) (child_at k0 k1 n i)

end Cert.Cipher

end
-- ==== Proof.ReferenceArrays.lean ====
module

public import proofs.«01_k».proof.Proof.Cipher
public import proofs.«01_k».proof.Proof.Gen.ReferenceIdeal.Run

@[expose] public section

/-! # The reference's arrays of random words

Each array of words the reference makes is the hash on arrays of its keys and counters. -/

set_option maxRecDepth 16384

noncomputable section

namespace Cert.ReferenceIdeal.Value

open Cert.ReferenceIdeal Cert.ReferenceIdeal.Gen Idealize.ShloMosaic Idealize.ShloMosaic.StableHlo

variable {F : FTy → Type} [FloatOps F] (V0 : Valuation τ sig (Elt F))

/-- The left words of the five keys. -/
theorem root_left : res_main_v185 V0 = (shapeCast S5 (Cipher.childL (Cipher.splat S1x5 0#32) (Cipher.splat S1x5 42#32)
    (broadcastInDim S1x5 ![1] bcast_S5_S1x5_1 (iotaInDim S5 32 0))) shapeCasts_S1x5_S5 : IVec S5 32) := rfl

/-- The right words. -/
theorem root_right : res_main_v186 V0 = (shapeCast S5 (Cipher.childR (Cipher.splat S1x5 0#32) (Cipher.splat S1x5 42#32)
    (broadcastInDim S1x5 ![1] bcast_S5_S1x5_1 (iotaInDim S5 32 0))) shapeCasts_S1x5_S5 : IVec S5 32) := rfl

/-- A word per key, the same for both keys it is split into. -/
def perKey (k : IVec S5 32) : IVec S5x2 32 :=
  broadcastInDim S5x2 ![0, 1] bcast_S5x1_S5x2_0_1 (broadcastInDim S5x1 ![0] bcast_S5_S5x1_0 k)

/-- The counters 0 and 1 for every key. -/
def pairs : IVec S5x2 32 :=
  broadcastInDim S5x2 ![0, 1] bcast_S1x2_S5x2_0_1 (broadcastInDim S1x2 ![1] bcast_S2_S1x2_1 (iotaInDim S2 32 0))

/-- The left words of the keys each key is split into. -/
theorem split_left : res_main_v367 V0
    = Cipher.childL (perKey (res_main_v185 V0)) (perKey (res_main_v186 V0)) pairs := rfl

/-- The right words. -/
theorem split_right : res_main_v371 V0
    = Cipher.childR (perKey (res_main_v185 V0)) (perKey (res_main_v186 V0)) pairs := rfl

/-- The two words of row 0, one for each of two rows of sixteen. -/
def detKey (k : IVec S5x2 32) : IVec S2x16 32 :=
  broadcastInDim S2x16 ![0, 1] bcast_S2x1_S2x16_0_1 (broadcastInDim S2x1 ![0] bcast_S2_S2x1_0
    (shapeCast S2 (extractStridedSlice S1x2 ![0, 0] k slices_S5x2_S1x2_0_0) shapeCasts_S1x2_S2))

/-- The counters of result 1, in both rows. -/
def detCount : IVec S2x16 32 :=
  broadcastInDim S2x16 ![0, 1] bcast_S1x16_S2x16_0_1 (broadcastInDim S1x16 ![1] bcast_S16_S1x16_1 (iotaInDim S16 32 0))

/-- The random words of result 1. -/
theorem det_words : res_main_v561 V0
    = Cipher.bits (detKey (res_main_v367 V0)) (detKey (res_main_v371 V0)) detCount := rfl

/-- The word of key 1, for every box coordinate. -/
def boxKey (k : IVec S5 32) : IVec S1x6400 32 :=
  broadcastInDim S1x6400 ![0, 1] bcast_S1x1_S1x6400_0_1 (broadcastInDim S1x1 ![0] bcast_S1_S1x1_0
    (extractStridedSlice S1 ![1] k slices_S5_S1_1))

/-- The counters of result 2. -/
def boxCount : IVec S1x6400 32 := broadcastInDim S1x6400 ![1] bcast_S6400_S1x6400_1 (iotaInDim S6400 32 0)

/-- The uniform numbers the reference makes of random words. -/
def uniform {S : Shape} (n : IVec S 32) : FVec F S .f32 :=
  maximumf (fun _ => Scalar.ofBits .f32 0xBF7FFFFF#32)
    (addf
      (mulf
        (subf (bitcastToFloat .f32 (ori (Host.shrui n (Cipher.splat S 9#32)) (Cipher.splat S 1065353216#32)))
          (fun _ => Scalar.ofBits .f32 0x3F800000#32))
        (fun _ => Scalar.ofBits .f32 0x40000000#32))
      (fun _ => Scalar.ofBits .f32 0xBF7FFFFF#32))

/-- The uniform numbers of result 2. -/
theorem box_uniform : res_main_v779 V0 = uniform (F := F) (shapeCast S6400
    (Cipher.bits (boxKey (res_main_v185 V0)) (boxKey (res_main_v186 V0)) boxCount) shapeCasts_S1x6400_S6400) := rfl

/-- The word of key 2, for every score. -/
def scoreKey (k : IVec S5 32) : IVec S1x1600 32 :=
  broadcastInDim S1x1600 ![0, 1] bcast_S1x1_S1x1600_0_1 (broadcastInDim S1x1 ![0] bcast_S1_S1x1_0
    (extractStridedSlice S1 ![2] k slices_S5_S1_2))

/-- The counters of result 3. -/
def scoreCount : IVec S1x1600 32 := broadcastInDim S1x1600 ![1] bcast_S1600_S1x1600_1 (iotaInDim S1600 32 0)

/-- The uniform numbers of result 3. -/
theorem score_uniform : res_main_v1044 V0 = uniform (F := F) (shapeCast S1600
    (Cipher.bits (scoreKey (res_main_v185 V0)) (scoreKey (res_main_v186 V0)) scoreCount) shapeCasts_S1x1600_S1600) := rfl

/-- The two words of row 3, one for each of two rows. -/
def classKey (k : IVec S5x2 32) : IVec S2x1600 32 :=
  broadcastInDim S2x1600 ![0, 1] bcast_S2x1_S2x1600_0_1 (broadcastInDim S2x1 ![0] bcast_S2_S2x1_0
    (shapeCast S2 (extractStridedSlice S1x2 ![3, 0] k slices_S5x2_S1x2_3_0) shapeCasts_S1x2_S2))

/-- The two words of row 4. -/
def indexKey (k : IVec S5x2 32) : IVec S2x1600 32 :=
  broadcastInDim S2x1600 ![0, 1] bcast_S2x1_S2x1600_0_1 (broadcastInDim S2x1 ![0] bcast_S2_S2x1_0
    (shapeCast S2 (extractStridedSlice S1x2 ![4, 0] k slices_S5x2_S1x2_4_0) shapeCasts_S1x2_S2))

/-- The counters of results 4 and 5, in both rows. -/
def flatCount : IVec S2x1600 32 :=
  broadcastInDim S2x1600 ![0, 1] bcast_S1x1600_S2x1600_0_1
    (broadcastInDim S1x1600 ![1] bcast_S1600_S1x1600_1 (iotaInDim S1600 32 0))

/-- The random words of result 4. -/
theorem class_words : res_main_v1299 V0
    = Cipher.bits (classKey (res_main_v367 V0)) (classKey (res_main_v371 V0)) flatCount := rfl

/-- The random words of result 5. -/
theorem index_words : res_main_v1507 V0
    = Cipher.bits (indexKey (res_main_v367 V0)) (indexKey (res_main_v371 V0)) flatCount := rfl

end Cert.ReferenceIdeal.Value

end
-- ==== Proof.ReferenceKeys.lean ====
module

public import proofs.«01_k».proof.Proof.ReferenceArrays
public import Idealize.ShloMosaic.Lib.ValueLayout

@[expose] public section

/-! # The reference's keys and words, element by element

Every key is a child of the root key or a child of such a child; every array of words holds the words of its key. -/

set_option maxRecDepth 16384

noncomputable section

namespace Cert.ReferenceIdeal.Value

open Cert.ReferenceIdeal Cert.ReferenceIdeal.Gen Idealize.ShloMosaic Idealize.ShloMosaic.StableHlo
open Idealize.ShloMosaic.ValueIdx

variable {F : FTy → Type} [FloatOps F] (V0 : Valuation τ sig (Elt F))

/-- Key number `i` of the root key. -/
def key (i : Nat) : BitVec 32 × BitVec 32 := Words.child (0#32, 42#32) (BitVec.ofNat 32 i)

/-- Element `i` of the two arrays of keys is key `i`. -/
theorem root_at (i : Fin 5) :
    ((res_main_v185 V0 : IVec S5 32) (ix1 i), (res_main_v186 V0 : IVec S5 32) (ix1 i)) = key i := by
  rw [root_left, root_right, shapeCast_1a_a_apply, shapeCast_1a_a_apply]
  exact Cipher.child_at _ _ _ _

/-- A word per key at an element. -/
theorem perKey_at (k : IVec S5 32) (i : Fin 5) (j : Fin 2) : perKey k (ix2 i j) = k (ix1 i) :=
  congrArg k (eq_ix1 _)

/-- Element `i`, `j` of the arrays of split keys is key `j` of key `i`. -/
theorem split_at (i : Fin 5) (j : Fin 2) :
    ((res_main_v367 V0 : IVec S5x2 32) (ix2 i j), (res_main_v371 V0 : IVec S5x2 32) (ix2 i j))
      = Words.child (key i) (BitVec.ofNat 32 j) := by
  rw [split_left, split_right, Cipher.child_at, perKey_at, perKey_at, root_at]
  rfl

/-- The words of a key. -/
def words (k : BitVec 32 × BitVec 32) (n : Nat) : BitVec 32 := Words.bits k.1 k.2 (BitVec.ofNat 32 n)

/-- The same of a key whose two words are known. -/
theorem words_of {a b : BitVec 32} {k : BitVec 32 × BitVec 32} (h : (a, b) = k) (n : Nat) :
    Words.bits a b (BitVec.ofNat 32 n) = words k n := by
  subst h; rfl

/-- A word per row at an element. -/
theorem column_at (k : IVec S2 32) (j : Fin 2) (n : Fin 16) :
    broadcastInDim S2x16 ![0, 1] bcast_S2x1_S2x16_0_1 (broadcastInDim S2x1 ![0] bcast_S2_S2x1_0 k) (ix2 j n) = k (ix1 j) :=
  congrArg k (eq_ix1 _)

/-- The same for the long rows. -/
theorem longColumn_at (k : IVec S2 32) (j : Fin 2) (n : Fin 1600) :
    broadcastInDim S2x1600 ![0, 1] bcast_S2x1_S2x1600_0_1 (broadcastInDim S2x1 ![0] bcast_S2_S2x1_0 k) (ix2 j n) = k (ix1 j) :=
  congrArg k (eq_ix1 _)

/-- The key words of result 1 at an element. -/
theorem detKey_at (k : IVec S5x2 32) (j : Fin 2) (n : Fin 16) : detKey k (ix2 j n) = k (ix2 0 j) := by
  rw [detKey, column_at, shapeCast_1a_a_apply]
  exact slice2_axis0_apply 0 k slices_S5x2_S1x2_0_0 0 j 0 rfl

/-- The random words of result 1 at an element. -/
theorem det_words_at (j : Fin 2) (n : Fin 16) :
    (res_main_v561 V0 : IVec S2x16 32) (ix2 j n) = words (Words.child (key 0) (BitVec.ofNat 32 j)) n := by
  rw [det_words, Cipher.bits_at, detKey_at, detKey_at]
  exact words_of (split_at V0 0 j) n

/-- The key words of result 4 at an element. -/
theorem classKey_at (k : IVec S5x2 32) (j : Fin 2) (n : Fin 1600) : classKey k (ix2 j n) = k (ix2 3 j) := by
  rw [classKey, longColumn_at, shapeCast_1a_a_apply]
  exact slice2_axis0_apply 3 k slices_S5x2_S1x2_3_0 0 j 3 rfl

/-- The random words of result 4 at an element. -/
theorem class_words_at (j : Fin 2) (n : Fin 1600) :
    (res_main_v1299 V0 : IVec S2x1600 32) (ix2 j n) = words (Words.child (key 3) (BitVec.ofNat 32 j)) n := by
  rw [class_words, Cipher.bits_at, classKey_at, classKey_at]
  exact words_of (split_at V0 3 j) n

/-- The key words of result 5 at an element. -/
theorem indexKey_at (k : IVec S5x2 32) (j : Fin 2) (n : Fin 1600) : indexKey k (ix2 j n) = k (ix2 4 j) := by
  rw [indexKey, longColumn_at, shapeCast_1a_a_apply]
  exact slice2_axis0_apply 4 k slices_S5x2_S1x2_4_0 0 j 4 rfl

/-- The random words of result 5 at an element. -/
theorem index_words_at (j : Fin 2) (n : Fin 1600) :
    (res_main_v1507 V0 : IVec S2x1600 32) (ix2 j n) = words (Words.child (key 4) (BitVec.ofNat 32 j)) n := by
  rw [index_words, Cipher.bits_at, indexKey_at, indexKey_at]
  exact words_of (split_at V0 4 j) n

/-- The key word of result 2 at an element. -/
theorem boxKey_at (k : IVec S5 32) (n : Fin 6400) : boxKey k (ix2 0 n) = k (ix1 1) := congrArg k (eq_ix1 _)

/-- The random words of result 2 at an element. -/
theorem box_words_at (n : Fin 6400) : shapeCast S6400 (Cipher.bits (boxKey (res_main_v185 V0)) (boxKey (res_main_v186 V0)) boxCount)
    shapeCasts_S1x6400_S6400 (ix1 n) = words (key 1) n := by
  rw [shapeCast_1a_a_apply, Cipher.bits_at, boxKey_at, boxKey_at]
  exact words_of (root_at V0 1) n

/-- The key word of result 3 at an element. -/
theorem scoreKey_at (k : IVec S5 32) (n : Fin 1600) : scoreKey k (ix2 0 n) = k (ix1 2) := congrArg k (eq_ix1 _)

/-- The random words of result 3 at an element. -/
theorem score_words_at (n : Fin 1600) :
    shapeCast S1600 (Cipher.bits (scoreKey (res_main_v185 V0)) (scoreKey (res_main_v186 V0)) scoreCount)
      shapeCasts_S1x1600_S1600 (ix1 n) = words (key 2) n := by
  rw [shapeCast_1a_a_apply, Cipher.bits_at, scoreKey_at, scoreKey_at]
  exact words_of (root_at V0 2) n

/-! ## The keys themselves -/

theorem key_box : key 1 = (64467757#32, 2916123636#32) := by decide +kernel
theorem key_score : key 2 = (2465931498#32, 255383827#32) := by decide +kernel
theorem key_det_high : Words.child (key 0) (BitVec.ofNat 32 (0 : Fin 2)) = (1012194634#32, 3152801799#32) := by decide +kernel
theorem key_det_low : Words.child (key 0) (BitVec.ofNat 32 (1 : Fin 2)) = (1705926158#32, 899080142#32) := by decide +kernel
theorem key_class_high : Words.child (key 3) (BitVec.ofNat 32 (0 : Fin 2)) = (2463158877#32, 4047937370#32) := by decide +kernel
theorem key_class_low : Words.child (key 3) (BitVec.ofNat 32 (1 : Fin 2)) = (1914800406#32, 1741898942#32) := by decide +kernel
theorem key_index_high : Words.child (key 4) (BitVec.ofNat 32 (0 : Fin 2)) = (75273486#32, 3122212114#32) := by decide +kernel
theorem key_index_low : Words.child (key 4) (BitVec.ofNat 32 (1 : Fin 2)) = (1770995085#32, 4163859872#32) := by decide +kernel

end Cert.ReferenceIdeal.Value

end
-- ==== Proof.ReferenceSamples.lean ====
module

public import proofs.«01_k».proof.Proof.ReferenceKeys
public import proofs.«01_k».proof.Proof.Normal

@[expose] public section

/-! # The reference's integers and normal samples, element by element

What the reference makes of its arrays of random words. -/

set_option maxRecDepth 16384

noncomputable section

namespace Cert.ReferenceIdeal.Value

open Idealize.ShloMosaic

variable {F : FTy → Type} [FloatOps F] {S : Shape}

/-- The integers below `span` of two arrays of random words, `m` the multiplier of the first. -/
def offsets (span : BitVec 32) (m u v : IVec S 32) : IVec S 32 :=
  Host.remui (addi (muli (Host.remui u (Cipher.splat S span)) m) (Host.remui v (Cipher.splat S span))) (Cipher.splat S span)

/-- The host's remainder by a number that is not 0. -/
theorem rem_host (x y : BitVec 32) (h : y ≠ 0#32) : IntOp.remui .host x y = x % y := if_neg h

/-- Each integer is the joined remainder of the two words there. -/
theorem offsets_at (span : BitVec 32) (h : span ≠ 0#32) (m u v : IVec S 32) (i : S.Idx)
    (hm : m i = (65536#32 % span) * (65536#32 % span) % span) :
    offsets span m u v i = Words.below span (u i) (v i) := by
  show IntOp.remui .host (IntOp.remui .host (u i) span * m i + IntOp.remui .host (v i) span) span = _
  rw [rem_host _ _ h, rem_host _ _ h, rem_host _ _ h, hm]
  rfl

/-- The array that holds one number everywhere. -/
def flat (F : FTy → Type) [FloatOps F] (S : Shape) (b : BitVec 32) : FVec F S .f32 := fun _ => Scalar.ofBits .f32 b

/-- `-log (1 - u²)`. -/
def weight (u : FVec F S .f32) : FVec F S .f32 := Host.negf (Host.log1p (mulf u (Host.negf u)))

/-- Where the central polynomial applies. -/
def inside (u : FVec F S .f32) : IVec S 1 := cmpf .olt (weight u) (flat F S 0x40A00000#32)

/-- The polynomials' variable. -/
def argument (u : FVec F S .f32) : FVec F S .f32 :=
  select (inside u) (subf (weight u) (flat F S 0x40200000#32)) (subf (Host.sqrt (weight u)) (flat F S 0x40400000#32))

/-- The coefficient chosen by the part. -/
def coeff (b : IVec S 1) (x y : BitVec 32) : FVec F S .f32 := select b (flat F S x) (flat F S y)

/-- One step of the evaluation. -/
def step (b : IVec S 1) (t : FVec F S .f32) (x y : BitVec 32) (p : FVec F S .f32) : FVec F S .f32 :=
  addf (coeff b x y) (mulf p t)

/-- The polynomial chosen by the part. -/
def poly (b : IVec S 1) (t : FVec F S .f32) : FVec F S .f32 :=
  step b t 0x3FC02E2F#32 0x40354F7E#32 <| step b t 0x3E7C8F63#32 0x3F8036DB#32 <| step b t 0xBB88E4EF#32 0x3C1AA57E#32 <|
  step b t 0xBAA45408#32 0xBBF9C5D7#32 <| step b t 0x396532DB#32 0x3BBC127B#32 <| step b t 0xB6935AC1#32 0xBB70BDE7#32 <|
  step b t 0xB66C7357#32 0x3AB0DC72#32 <| step b t 0x34B84B36#32 0x38D3B56B#32 <| coeff b 0x32F16588#32 0xB951F09B#32

/-- The reference's normal samples of uniform numbers. -/
def samples (u : FVec F S .f32) : FVec F S .f32 :=
  mulf (flat F S 0x3FB504F3#32)
    (select (cmpf .oeq (Host.absf u) (flat F S 0x3F800000#32)) (mulf u (flat F S 0x7F800000#32))
      (mulf (poly (inside u) (argument u)) u))

/-- Each uniform number is the one of the word there. -/
theorem uniform_at (n : IVec S 32) (i : S.Idx) : uniform (F := Ideal) n i = Normal.uniform (n i) := by
  unfold Normal.uniform
  rw [← Vectors.shr_const .host (n i) 9 (by omega)]
  rfl

/-- The chosen polynomial at an element of the central part. -/
theorem poly_inside (b : IVec S 1) (t : FVec Ideal S .f32) (i : S.Idx) (h : b i = 1#1) :
    poly b t i = Normal.central (t i) := by
  have c : ∀ x y : BitVec 32, coeff (F := Ideal) b x y i = Normal.num x := fun x y => if_pos h
  show coeff b 0x3FC02E2F#32 0x40354F7E#32 i + (coeff b 0x3E7C8F63#32 0x3F8036DB#32 i + (coeff b 0xBB88E4EF#32 0x3C1AA57E#32 i +
    (coeff b 0xBAA45408#32 0xBBF9C5D7#32 i + (coeff b 0x396532DB#32 0x3BBC127B#32 i + (coeff b 0xB6935AC1#32 0xBB70BDE7#32 i +
    (coeff b 0xB66C7357#32 0x3AB0DC72#32 i + (coeff b 0x34B84B36#32 0x38D3B56B#32 i + coeff b 0x32F16588#32 0xB951F09B#32 i * t i)
      * t i) * t i) * t i) * t i) * t i) * t i) * t i = _
  simp only [c]
  rfl

/-- The chosen polynomial at an element of the tail. -/
theorem poly_outside (b : IVec S 1) (t : FVec Ideal S .f32) (i : S.Idx) (h : ¬ b i = 1#1) :
    poly b t i = Normal.tail (t i) := by
  have c : ∀ x y : BitVec 32, coeff (F := Ideal) b x y i = Normal.num y := fun x y => if_neg h
  show coeff b 0x3FC02E2F#32 0x40354F7E#32 i + (coeff b 0x3E7C8F63#32 0x3F8036DB#32 i + (coeff b 0xBB88E4EF#32 0x3C1AA57E#32 i +
    (coeff b 0xBAA45408#32 0xBBF9C5D7#32 i + (coeff b 0x396532DB#32 0x3BBC127B#32 i + (coeff b 0xB6935AC1#32 0xBB70BDE7#32 i +
    (coeff b 0xB66C7357#32 0x3AB0DC72#32 i + (coeff b 0x34B84B36#32 0x38D3B56B#32 i + coeff b 0x32F16588#32 0xB951F09B#32 i * t i)
      * t i) * t i) * t i) * t i) * t i) * t i) * t i = _
  simp only [c]
  rfl

/-- Each sample is the normal sample of the uniform number there, if its magnitude is not 1. -/
theorem samples_at (u : FVec Ideal S .f32) (i : S.Idx)
    (h : Ideal.cmp .oeq (max (u i) (-(u i))) (Normal.num 0x3F800000#32) = 0#1) : samples u i = Normal.sample (u i) := by
  have hw : weight u i = Normal.weight (u i) := rfl
  have hi : inside u i = Normal.inside (u i) := rfl
  show Normal.num 0x3FB504F3#32 * Scalar.select (Ideal.cmp .oeq (max (u i) (-(u i))) (Normal.num 0x3F800000#32))
    (u i * Normal.num 0x7F800000#32) (poly (inside u) (argument u) i * u i) = _
  rw [h]
  show Normal.num 0x3FB504F3#32 * (poly (inside u) (argument u) i * u i) = _
  unfold Normal.sample
  by_cases hb : inside u i = 1#1
  · have ht : argument u i = Normal.weight (u i) - Normal.num 0x40200000#32 := if_pos hb
    rw [poly_inside _ _ _ hb, ht, ← hi, hb]
    rfl
  · have ht : argument u i = Ideal.sqrt (Normal.weight (u i)) - Normal.num 0x40400000#32 := if_neg hb
    rw [poly_outside _ _ _ hb, ht, ← hi]
    exact congrArg (fun p => Normal.num 0x3FB504F3#32 * (p * u i)) (if_neg hb).symm

end Cert.ReferenceIdeal.Value

end
-- ==== Proof.ReferenceValue.lean ====
module

public import proofs.«01_k».proof.Proof.ReferenceSamples
public import proofs.«01_k».proof.Proof.Expected

@[expose] public section

/-! # What the reference computes

Each of the reference's five results, element by element. -/

set_option maxRecDepth 16384

noncomputable section

namespace Cert.ReferenceIdeal.Value

open Cert.ReferenceIdeal Cert.ReferenceIdeal.Gen Idealize.ShloMosaic Idealize.ShloMosaic.StableHlo
open Idealize.ShloMosaic.ValueIdx

variable (V0 : Valuation τ sig (Elt Ideal))

/-- Result 1. -/
def result1 : IVec S16x1 32 :=
  shapeCast S16x1
    (offsets 100#32
      (broadcastInDim S16 ![] bcast_S_S16 (Host.remui (muli (res_main_v566 V0) (res_main_v566 V0)) (constantI S_ 32 100#32)))
      (shapeCast S16 (extractStridedSlice S1x16 ![0, 0] (res_main_v561 V0 : IVec S2x16 32) slices_S2x16_S1x16_0_0) shapeCasts_S1x16_S16)
      (shapeCast S16 (extractStridedSlice S1x16 ![1, 0] (res_main_v561 V0 : IVec S2x16 32) slices_S2x16_S1x16_1_0) shapeCasts_S1x16_S16))
    shapeCasts_S16_S16x1

/-- Result 2. -/
def result2 : FVec Ideal S16x100x4 .f32 :=
  shapeCast S16x100x4 (samples (F := Ideal) (S := S6400) (res_main_v779 V0)) shapeCasts_S6400_S16x100x4

/-- Result 3. -/
def result3 : FVec Ideal S16x100 .f32 :=
  shapeCast S16x100 (samples (F := Ideal) (S := S1600) (res_main_v1044 V0)) shapeCasts_S1600_S16x100

/-- A result of 1600 integers below `span` from two rows of random words, `m` the remainder of 65536. -/
def integers (span : BitVec 32) (m : IVec S_ 32) (w : IVec S2x1600 32) : IVec S16x100 32 :=
  shapeCast S16x100
    (offsets span (broadcastInDim S1600 ![] bcast_S_S1600 (Host.remui (muli m m) (constantI S_ 32 span)))
      (shapeCast S1600 (extractStridedSlice S1x1600 ![0, 0] w slices_S2x1600_S1x1600_0_0) shapeCasts_S1x1600_S1600)
      (shapeCast S1600 (extractStridedSlice S1x1600 ![1, 0] w slices_S2x1600_S1x1600_1_0) shapeCasts_S1x1600_S1600))
    shapeCasts_S1600_S16x100

/-- Result 4. -/
def result4 : IVec S16x100 32 := integers 80#32 (res_main_v1304 V0) (res_main_v1299 V0)

/-- Result 5. -/
def result5 : IVec S16x100 32 := integers 20000#32 (res_main_v1512 V0) (res_main_v1507 V0)

/-- Reading a list of 1600 as 16 rows of 100. -/
theorem rows_at {α : Type} (x : S1600.Idx → α) (a : Fin 16) (b : Fin 100) :
    shapeCast S16x100 x shapeCasts_S1600_S16x100 (ix2 a b) = x (ix1 ⟨a.val * 100 + b.val, by omega⟩) :=
  shapeCast_apply x _ _ _ (by rw [Shape.rowMajor_val_one, Shape.rowMajor_val_two]; rfl)

/-- Result 1 at an element. -/
theorem result1_at (a : Fin 16) (b : Fin 1) : result1 V0 (ix2 a b) = Expected.det a := by
  have e : result1 V0 (ix2 a b) = offsets 100#32 _ _ _ (ix1 a) :=
    shapeCast_apply _ _ _ _ (by
      rw [Shape.rowMajor_val_one, Shape.rowMajor_val_two]
      show a.val = a.val * 1 + b.val
      omega)
  rw [e, offsets_at 100#32 (by decide) _ _ _ _ rfl, shapeCast_1a_a_apply, shapeCast_1a_a_apply,
    slice2_axis0_apply 0 _ slices_S2x16_S1x16_0_0 0 a 0 rfl, slice2_axis0_apply 1 _ slices_S2x16_S1x16_1_0 0 a 1 rfl,
    det_words_at, det_words_at, key_det_high, key_det_low]
  rfl

/-- Result 2 at an element. -/
theorem result2_at (a : Fin 16) (b : Fin 100) (c : Fin 4) :
    result2 V0 (ix3 a b c) = Expected.box ((a.val * 100 + b.val) * 4 + c.val) := by
  have e : result2 V0 (ix3 a b c) = samples (F := Ideal) (S := S6400) (res_main_v779 V0)
      (ix1 ⟨(a.val * 100 + b.val) * 4 + c.val, by omega⟩) :=
    shapeCast_apply _ _ _ _ (by rw [Shape.rowMajor_val_one, Shape.rowMajor_val_three]; rfl)
  have u : (res_main_v779 V0 : FVec Ideal S6400 .f32) (ix1 ⟨(a.val * 100 + b.val) * 4 + c.val, by omega⟩)
      = Normal.uniform (words (key 1) ((a.val * 100 + b.val) * 4 + c.val)) := by
    rw [box_uniform, uniform_at, box_words_at]
  rw [e, samples_at _ _ (by rw [u]; exact Normal.uniform_ne _), u, key_box]
  rfl

/-- Result 3 at an element. -/
theorem result3_at (a : Fin 16) (b : Fin 100) : result3 V0 (ix2 a b) = Expected.score (a.val * 100 + b.val) := by
  have u : (res_main_v1044 V0 : FVec Ideal S1600 .f32) (ix1 ⟨a.val * 100 + b.val, by omega⟩)
      = Normal.uniform (words (key 2) (a.val * 100 + b.val)) := by
    rw [score_uniform, uniform_at, score_words_at]
  rw [result3, rows_at, samples_at _ _ (by rw [u]; exact Normal.uniform_ne _), u, key_score]
  rfl

/-- Integers from two rows of random words, at an element. -/
theorem integers_at (span : BitVec 32) (h : span ≠ 0#32) (m : IVec S_ 32) (w : IVec S2x1600 32) (a : Fin 16) (b : Fin 100)
    (hm : m ix0 = 65536#32 % span) :
    integers span m w (ix2 a b) = Words.below span (w (ix2 0 ⟨a.val * 100 + b.val, by omega⟩))
      (w (ix2 1 ⟨a.val * 100 + b.val, by omega⟩)) := by
  rw [integers, rows_at, offsets_at span h, shapeCast_1a_a_apply, shapeCast_1a_a_apply,
    slice2_axis0_apply 0 _ slices_S2x1600_S1x1600_0_0 0 _ 0 rfl, slice2_axis0_apply 1 _ slices_S2x1600_S1x1600_1_0 0 _ 1 rfl]
  refine (congrArg (Host.remui (muli m m) (constantI S_ 32 span)) (eq_ix0 _)).trans ?_
  rw [← hm]
  exact rem_host _ _ h

/-- Result 4 at an element. -/
theorem result4_at (a : Fin 16) (b : Fin 100) : result4 V0 (ix2 a b) = Expected.cls (a.val * 100 + b.val) := by
  rw [result4, integers_at 80#32 (by decide) _ _ a b (rem_host 65536#32 80#32 (by decide)), class_words_at, class_words_at,
    key_class_high, key_class_low]
  rfl

/-- Result 5 at an element. -/
theorem result5_at (a : Fin 16) (b : Fin 100) : result5 V0 (ix2 a b) = Expected.idx (a.val * 100 + b.val) := by
  rw [result5, integers_at 20000#32 (by decide) _ _ a b (rem_host 65536#32 20000#32 (by decide)), index_words_at, index_words_at,
    key_index_high, key_index_low]
  rfl

end Cert.ReferenceIdeal.Value

end
-- ==== Proof.Equation.lean ====
module

public import proofs.«01_k».proof.Proof.KernelArray
public import proofs.«01_k».proof.Proof.KernelRun
public import proofs.«01_k».proof.Proof.ReferenceValue

@[expose] public section

/-! # The equation

Each of the reference's results is the kernel's: both are the expected numbers, element by element. -/

set_option maxRecDepth 16384

noncomputable section

namespace Cert.Equation

open Idealize.ShloMosaic Idealize.ShloMosaic.ValueIdx
open Cert.KernelIdeal Cert.KernelIdeal.Gen

variable (V0 : Valuation Cert.ReferenceIdeal.τ Cert.ReferenceIdeal.sig (Elt Ideal))

/-- The kernel's result 1 at an element. -/
theorem det_at (a : Fin 16) (b : Fin 1) : Cert.KernelIdeal.Value.det (F := Ideal) (ix2 a b) = Expected.det a.val := by
  rw [← out0_0_at a]
  exact shapeCast_apply (out0_0 (F := Ideal) : IVec S16 32) shapeCasts_S16_S16x1 (ix2 a b) (ix1 a) (by
    rw [Shape.rowMajor_val_one, Shape.rowMajor_val_two]
    show a.val = a.val * 1 + b.val
    omega)

/-- The kernel's result 2 at an element. -/
theorem box_at (a : Fin 16) (b : Fin 100) (c : Fin 4) :
    Cert.KernelIdeal.Value.box (F := Ideal) (ix3 a b c) = Expected.box ((a.val * 100 + b.val) * 4 + c.val) := by
  have h : (a.val * 100 + b.val) * 4 + c.val
      = (a.val * 4 + c.val) / 4 * 400 + b.val * 4 + (a.val * 4 + c.val) % 4 := by omega
  rw [h]
  refine Eq.trans ?_ (out0_1_at ⟨a.val * 4 + c.val, by omega⟩ b)
  unfold Cert.KernelIdeal.Value.box
  rw [transpose_ix3_021_apply]
  exact shapeCast_apply (out0_1 (F := Ideal) : FVec Ideal S64x100 .f32) shapeCasts_S64x100_S16x4x100 (ix3 a c b)
    (ix2 ⟨a.val * 4 + c.val, by omega⟩ b) (by rw [Shape.rowMajor_val_two, Shape.rowMajor_val_three]; rfl)

/-- Result 1 is the same. -/
theorem result1_eq : (Cert.ReferenceIdeal.Value.result1 V0 : IVec S16x1 32) = Cert.KernelIdeal.Value.det (F := Ideal) := by
  funext i
  rw [eq_ix2 i]
  exact (Cert.ReferenceIdeal.Value.result1_at V0 _ _).trans (det_at _ _).symm

/-- Result 2 is the same. -/
theorem result2_eq : (Cert.ReferenceIdeal.Value.result2 V0 : FVec Ideal S16x100x4 .f32) = Cert.KernelIdeal.Value.box (F := Ideal) := by
  funext i
  rw [eq_ix3 i]
  exact (Cert.ReferenceIdeal.Value.result2_at V0 _ _ _).trans (box_at _ _ _).symm

/-- Result 3 is the same. -/
theorem result3_eq : (Cert.ReferenceIdeal.Value.result3 V0 : FVec Ideal S16x100 .f32) = out0_2 (F := Ideal) := by
  funext i
  rw [eq_ix2 i]
  exact (Cert.ReferenceIdeal.Value.result3_at V0 _ _).trans (out0_2_at _ _).symm

/-- Result 4 is the same. -/
theorem result4_eq : (Cert.ReferenceIdeal.Value.result4 V0 : IVec S16x100 32) = out0_3 (F := Ideal) := by
  funext i
  rw [eq_ix2 i]
  exact (Cert.ReferenceIdeal.Value.result4_at V0 _ _).trans (out0_3_at _ _).symm

/-- Result 5 is the same. -/
theorem result5_eq : (Cert.ReferenceIdeal.Value.result5 V0 : IVec S16x100 32) = out0_4 (F := Ideal) := by
  funext i
  rw [eq_ix2 i]
  exact (Cert.ReferenceIdeal.Value.result5_at V0 _ _).trans (out0_4_at _ _).symm

end Cert.Equation

end
-- ==== Proof.lean ====
module

public import proofs.«01_k».proof.Defs
public import proofs.«01_k».proof.Proof.KernelFrame
public import proofs.«01_k».proof.Proof.KernelIdealFrame
public import proofs.«01_k».proof.Proof.Equation
public import proofs.«01_k».proof.Proof.Gen.ReferenceIdeal.Run
public import Idealize.ShloMosaic.Lib.Claim

@[expose] public section

/-! # The claims together

The frames of the three programs, and the equality of the five results over exact arithmetic. -/

set_option maxRecDepth 16384

noncomputable section

namespace Cert.Proof

open Idealize.ShloMosaic Idealize.ShloMosaic.TcCoe Idealize.SL.Sem

/-- The reference ends, leaves its argument unchanged and every counter at zero. -/
theorem reference_frame : Cert.quiescent_ReferenceIdeal (hReferenceIdeal := Cert.ReferenceIdeal.Gen.facts) := fun m ρ _ =>
  (θ_run Cert.ReferenceIdeal.defs _ _).mono
    (fun r h => ⟨fun c => (h c).2.2.2.2.2, sem_eq_zero_of_no_sems (by decide) r.2⟩)
    (Cert.ReferenceIdeal.Value.run (F := Ideal) m ρ)

/-- Kernel and reference both end with the kernel's five results. -/
theorem algebraic : Cert.algebraic_KernelIdeal_ReferenceIdeal (hKernelIdeal := Cert.KernelIdeal.Gen.facts)
    (hReferenceIdeal := Cert.ReferenceIdeal.Gen.facts) := fun m ρ m' ρ' _ _ =>
  ⟨fun _ => Cert.KernelIdeal.Value.det (F := Ideal), fun _ => Cert.KernelIdeal.Value.box (F := Ideal),
    fun _ => Cert.KernelIdeal.Gen.out0_2 (F := Ideal), fun _ => Cert.KernelIdeal.Gen.out0_3 (F := Ideal),
    fun _ => Cert.KernelIdeal.Gen.out0_4 (F := Ideal), Cert.KernelIdeal.Value.run (F := Ideal) m ρ,
    (θ_run Cert.ReferenceIdeal.defs _ _).mono
      (fun _ h c => ⟨(h c).1.trans (Equation.result1_eq _), (h c).2.1.trans (Equation.result2_eq _),
        (h c).2.2.1.trans (Equation.result3_eq _), (h c).2.2.2.1.trans (Equation.result4_eq _),
        (h c).2.2.2.2.1.trans (Equation.result5_eq _), (h c).2.2.2.2.2⟩)
      (Cert.ReferenceIdeal.Value.run (F := Ideal) m' ρ')⟩

theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, reference_frame, trivial, algebraic⟩

end Cert.Proof

end
